-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x256 .f32) (main_arg2 : FVec F S2x128x32x64 .f32) (main_arg3 : FVec F S2x128x32x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Pre_finite_ReferenceIdeal.lean ====
abbrev S2x1024x512 : Shape := ⟨3, ![2, 1024, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x1024x512 .f32) (main_arg1 : FVec F S512x2048 .f32) (main_arg2 : FVec F S2x128x32x64 .f32) (main_arg3 : FVec F S2x128x32x64 .f32) (main_arg4 : FVec F S2048x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S512x2048 : Shape := ⟨2, ![512, 2048]⟩
abbrev S2048x512 : Shape := ⟨2, ![2048, 512]⟩
abbrev S8x8x128x64 : Shape := ⟨4, ![8, 8, 128, 64]⟩
abbrev S64x128x64 : Shape := ⟨3, ![64, 128, 64]⟩
abbrev S256x1024 : Shape := ⟨2, ![256, 1024]⟩
abbrev S2x3 : Shape := ⟨2, ![2, 3]⟩
abbrev S6 : Shape := ⟨1, ![6]⟩
abbrev S_ : Shape := ⟨0, ![]⟩
abbrev S1x1 : Shape := ⟨2, ![1, 1]⟩
abbrev S1x128x1x64 : Shape := ⟨4, ![1, 128, 1, 64]⟩
abbrev S128x64 : Shape := ⟨2, ![128, 64]⟩
abbrev S1x1x128x64 : Shape := ⟨4, ![1, 1, 128, 64]⟩
abbrev S1x8x128x64 : Shape := ⟨4, ![1, 8, 128, 64]⟩
abbrev S8x128x64 : Shape := ⟨3, ![8, 128, 64]⟩
abbrev S512x1024 : Shape := ⟨2, ![512, 1024]⟩
abbrev S2x128x16x64 : Shape := ⟨4, ![2, 128, 16, 64]⟩
abbrev S1x128x64 : Shape := ⟨3, ![1, 128, 64]⟩
abbrev S32x128x64 : Shape := ⟨3, ![32, 128, 64]⟩
abbrev S64x64x64 : Shape := ⟨3, ![64, 64, 64]⟩
abbrev S64x64 : Shape := ⟨2, ![64, 64]⟩
abbrev S64x64x1 : Shape := ⟨3, ![64, 64, 1]⟩
abbrev S1024x512 : Shape := ⟨2, ![1024, 512]⟩
abbrev S1 : Shape := ⟨1, ![1]⟩
abbrev S512x128 : Shape := ⟨2, ![512, 128]⟩
abbrev S48x512 : Shape := ⟨2, ![48, 512]⟩
abbrev S160x512 : Shape := ⟨2, ![160, 512]⟩
abbrev S512x768 : Shape := ⟨2, ![512, 768]⟩
abbrev S256x768 : Shape := ⟨2, ![256, 768]⟩
abbrev S2x128x12x64 : Shape := ⟨4, ![2, 128, 12, 64]⟩
abbrev S24x128x64 : Shape := ⟨3, ![24, 128, 64]⟩
abbrev S48x64x64 : Shape := ⟨3, ![48, 64, 64]⟩
abbrev S48x64 : Shape := ⟨2, ![48, 64]⟩
abbrev S48x64x1 : Shape := ⟨3, ![48, 64, 1]⟩
abbrev S768x512 : Shape := ⟨2, ![768, 512]⟩
abbrev S256x256 : Shape := ⟨2, ![256, 256]⟩
abbrev S2x128x4x64 : Shape := ⟨4, ![2, 128, 4, 64]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 6
  | .vmem => 16
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x32x64, .f32⟩
  | .local _ .vmem, ⟨3, _⟩ => ⟨S2x128x32x64, .f32⟩
  | .local _ .vmem, ⟨4, _⟩ => ⟨S256x512, .f32⟩
  | .local _ .vmem, ⟨5, _⟩ => ⟨S2x128x512, .f32⟩
  | .local _ .vmem, ⟨6, _⟩ => ⟨S512x2048, .bf16⟩
  | .local _ .vmem, ⟨7, _⟩ => ⟨S2048x512, .bf16⟩
  | .local _ .vmem, ⟨8, _⟩ => ⟨S256x512, .bf16⟩
  | .local _ .vmem, ⟨9, _⟩ => ⟨S8x8x128x64, .bf16⟩
  | .local _ .vmem, ⟨10, _⟩ => ⟨S8x8x128x64, .bf16⟩
  | .local _ .vmem, ⟨11, _⟩ => ⟨S64x128x64, .bf16⟩
  | .local _ .vmem, ⟨12, _⟩ => ⟨S64x128x64, .bf16⟩
  | .local _ .vmem, ⟨13, _⟩ => ⟨S64x128x64, .bf16⟩
  | .local _ .vmem, ⟨14, _⟩ => ⟨S256x1024, .bf16⟩
  | .local _ .vmem, ⟨15, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_14 : BitVec 32 := 1#32
  let v30 : BitVec 32 := Scalar.muli v14 c1_i32_14
  let v31 : BitVec 32 := Scalar.addi c0_i32_15 v30
  v31.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_17 : BitVec 32 := 1#32
  let v32 : BitVec 32 := Scalar.muli v15 c1_i32_17
  let v33 : BitVec 32 := Scalar.addi c0_i32_18 v32
  v33.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_20 : BitVec 32 := 1#32
  let v34 : BitVec 32 := Scalar.muli v16 c1_i32_20
  let v35 : BitVec 32 := Scalar.addi c0_i32_21 v34
  v35.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_27 : BitVec 32 := 1#32
  let v36 : BitVec 32 := Scalar.muli v14 c1_i32_27
  let v37 : BitVec 32 := Scalar.addi c0_i32_28 v36
  v37.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_36 : BitVec 32 := 1#32
  let v44 : BitVec 32 := Scalar.muli v14 c1_i32_36
  let v45 : BitVec 32 := Scalar.addi c0_i32_37 v44
  v45.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_46 : BitVec 32 := 1#32
  let v52 : BitVec 32 := Scalar.muli v15 c1_i32_46
  let v53 : BitVec 32 := Scalar.addi c0_i32_47 v52
  v53.toNat
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_55 : BitVec 32 := 1#32
  let v60 : BitVec 32 := Scalar.muli v15 c1_i32_55
  let v61 : BitVec 32 := Scalar.addi c0_i32_56 v60
  v61.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_65 : BitVec 32 := 1#32
  let v68 : BitVec 32 := Scalar.muli v16 c1_i32_65
  let v69 : BitVec 32 := Scalar.addi c0_i32_66 v68
  v69.toNat
def k0_dev9 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_74 : BitVec 32 := 1#32
  let v76 : BitVec 32 := Scalar.muli v16 c1_i32_74
  let v77 : BitVec 32 := Scalar.addi c0_i32_75 v76
  v77.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v84 : BitVec 32 := Scalar.extui v13
  let c0_i32_80 : BitVec 32 := 0#32
  let v85 : BitVec 1 := Scalar.cmpi .ne v84 c0_i32_80
  v85

def k0_off1 (d0 : Dev nD) (c0_i32_1476 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1128 : BitVec 32 := Scalar.xori v2 c0_i32_1476
  let v1129 : Index := Scalar.indexCast v1128
  let c0_1477 : Index := 0#32
  let c0_1478 : Index := 0#32
  let c0_1479 : Index := 0#32
  ![v1129.toNat, 0, 0, 0]
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_199 : BitVec 32 := 1#32
  let v146 : BitVec 32 := Scalar.muli v14 c1_i32_199
  let v147 : BitVec 32 := Scalar.addi c0_i32_200 v146
  v147.toNat
def k0_dev11 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_208 : BitVec 32 := 1#32
  let v154 : BitVec 32 := Scalar.muli v14 c1_i32_208
  let v155 : BitVec 32 := Scalar.addi c0_i32_209 v154
  v155.toNat
def k0_dev12 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_218 : BitVec 32 := 1#32
  let v162 : BitVec 32 := Scalar.muli v15 c1_i32_218
  let v163 : BitVec 32 := Scalar.addi c0_i32_219 v162
  v163.toNat
def k0_dev13 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_227 : BitVec 32 := 1#32
  let v170 : BitVec 32 := Scalar.muli v15 c1_i32_227
  let v171 : BitVec 32 := Scalar.addi c0_i32_228 v170
  v171.toNat
def k0_dev14 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_237 : BitVec 32 := 1#32
  let v178 : BitVec 32 := Scalar.muli v16 c1_i32_237
  let v179 : BitVec 32 := Scalar.addi c0_i32_238 v178
  v179.toNat
def k0_dev15 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_246 : BitVec 32 := 1#32
  let v186 : BitVec 32 := Scalar.muli v16 c1_i32_246
  let v187 : BitVec 32 := Scalar.addi c0_i32_247 v186
  v187.toNat
def k0_dev16 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_369 : BitVec 32 := 1#32
  let v256 : BitVec 32 := Scalar.muli v14 c1_i32_369
  let v257 : BitVec 32 := Scalar.addi c0_i32_370 v256
  v257.toNat
def k0_dev17 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.xori v2 c1_i32_5
  let c1_i32_376 : BitVec 32 := 1#32
  let v264 : BitVec 32 := Scalar.muli v14 c1_i32_376
  let v265 : BitVec 32 := Scalar.addi c0_i32_377 v264
  v265.toNat
def k0_dev18 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_384 : BitVec 32 := 1#32
  let v272 : BitVec 32 := Scalar.muli v15 c1_i32_384
  let v273 : BitVec 32 := Scalar.addi c0_i32_385 v272
  v273.toNat
def k0_dev19 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_390 : BitVec 32 := 1#32
  let v280 : BitVec 32 := Scalar.muli v15 c1_i32_390
  let v281 : BitVec 32 := Scalar.addi c0_i32_391 v280
  v281.toNat
def k0_dev20 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_395 : BitVec 32 := 1#32
  let v288 : BitVec 32 := Scalar.muli v16 c1_i32_395
  let v289 : BitVec 32 := Scalar.addi c0_i32_396 v288
  v289.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x2048 : Shape := ⟨2, ![512, 2048]⟩
abbrev S2x128x32x64 : Shape := ⟨4, ![2, 128, 32, 64]⟩
abbrev S2048x512 : Shape := ⟨2, ![2048, 512]⟩
abbrev S2x1024x2048 : Shape := ⟨3, ![2, 1024, 2048]⟩
abbrev S2x1024x32x64 : Shape := ⟨4, ![2, 1024, 32, 64]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S2x32x1024x128 : Shape := ⟨4, ![2, 32, 1024, 128]⟩
abbrev S1x1x1024x128 : Shape := ⟨4, ![1, 1, 1024, 128]⟩
abbrev S2x32x1024 : Shape := ⟨3, ![2, 32, 1024]⟩
abbrev S2x32x1024x1 : Shape := ⟨4, ![2, 32, 1024, 1]⟩
abbrev S1x1x1024x1 : Shape := ⟨4, ![1, 1, 1024, 1]⟩
abbrev S2x32x64x1024 : Shape := ⟨4, ![2, 32, 64, 1024]⟩

abbrev nBuf : Space → Nat
  | .hbm => 137
  | .vmem => 0
  | .smem => 0
  | _ => 0

abbrev hbmTy0_0 (i : Nat) : BufTy := match i % 128 with
  | 0 => ⟨S2x1024x512, .f32⟩
  | 1 => ⟨S512x2048, .f32⟩
  | 2 => ⟨S2x128x32x64, .f32⟩
  | 3 => ⟨S2x128x32x64, .f32⟩
  | 4 => ⟨S2048x512, .f32⟩
  | 5 => ⟨S2x1024x2048, .f32⟩
  | 6 => ⟨S2x1024x32x64, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S1024x128, .i32⟩
  | 48 => ⟨S1024x128, .i32⟩
  | 49 => ⟨S1024x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x128, .i32⟩
  | 95 => ⟨S1024x128, .i32⟩
  | 96 => ⟨S1024x128, .i1⟩
  | 97 => ⟨S1024x128, .i1⟩
  | 98 => ⟨S2x32x1024x128, .f32⟩
  | 99 => ⟨S_, .f32⟩
  | 100 => ⟨S2x32x1024x128, .f32⟩
  | 101 => ⟨S2x32x1024x128, .f32⟩
  | 102 => ⟨S1x1x1024x128, .i1⟩
  | 103 => ⟨S_, .f32⟩
  | 104 => ⟨S_, .f32⟩
  | 105 => ⟨S2x32x1024x128, .i1⟩
  | 106 => ⟨S2x32x1024x128, .f32⟩
  | 107 => ⟨S2x32x1024x128, .f32⟩
  | 108 => ⟨S_, .f32⟩
  | 109 => ⟨S2x32x1024, .f32⟩
  | 110 => ⟨S2x32x1024x1, .f32⟩
  | 111 => ⟨S2x32x1024x128, .f32⟩
  | 112 => ⟨S2x32x1024x128, .f32⟩
  | 113 => ⟨S2x32x1024x128, .f32⟩
  | 114 => ⟨S_, .i1⟩
  | 115 => ⟨S1024, .i1⟩
  | 116 => ⟨S1x1x1024x1, .i1⟩
  | 117 => ⟨S_, .f32⟩
  | 118 => ⟨S2x32x1024, .f32⟩
  | 119 => ⟨S2x32x1024x1, .f32⟩
  | 120 => ⟨S_, .f32⟩
  | 121 => ⟨S_, .f32⟩
  | 122 => ⟨S2x32x1024x1, .i1⟩
  | 123 => ⟨S2x32x1024x1, .f32⟩
  | 124 => ⟨S2x32x1024x1, .f32⟩
  | 125 => ⟨S2x32x1024x128, .f32⟩
  | 126 => ⟨S2x32x1024x128, .f32⟩
  | 127 => ⟨S1x1x1024x1, .i1⟩
  | _ => ⟨S2x1024x512, .f32⟩

abbrev hbmTy0_1 (i : Nat) : BufTy := match i % 128 with
  | 0 => ⟨S_, .f32⟩
  | 1 => ⟨S_, .f32⟩
  | 2 => ⟨S2x32x1024x128, .i1⟩
  | 3 => ⟨S2x32x1024x128, .f32⟩
  | 4 => ⟨S2x32x1024x128, .f32⟩
  | 5 => ⟨S2x32x64x1024, .f32⟩
  | 6 => ⟨S2x1024x32x64, .f32⟩
  | 7 => ⟨S2x1024x2048, .f32⟩
  | 8 => ⟨S2x1024x512, .f32⟩
  | _ => ⟨S2x1024x512, .f32⟩

abbrev hbmTy (i : Nat) : BufTy := match i / 128 with
  | 0 => hbmTy0_0 i
  | 1 => hbmTy0_1 i
  | _ => ⟨S2x1024x512, .f32⟩

abbrev bufTy : (tb : Table) → Fin (tcTables nBuf tb) → BufTy
  | .hbm, ⟨i, _⟩ => hbmTy i
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Proto.lean ====
/-
# The exchange of the two weights: devices, transfers, schedule

Eight devices; each talks to the three devices whose number differs from its own by `1`, `3` or `4` under
exclusive-or. Every device keeps both weights in eight pieces, piece `s` being the columns of `Wq` (the rows of
`Wo`) that device `c ^ slotX s` was given. Seventeen transfers fill the seven pieces a device was not given:
six of its own piece, six of pieces received in the first phase, five of parts of pieces received in the second.

Who waits for what. The barrier cell of `c`: three units, one from each neighbour `p`, each handing over the
regions of `p` that `c` will write (all phases at once). The receive cell of transfer `j` at `c`: one round, paid by
the neighbour's copy, handing over the written region at its final contents. The send cell of transfer `j` at `c`:
one round, paid by `c`'s own copy, handing back the share of the source that was lent to it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's own rounds, and the exchange's, whose duties are numbered by the neighbour. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-- The launch state: the buffers as given, every counter at zero. -/
def s₀ : MemSt nD τ sig (Elt F) := ⟨m, fun _ => 0, ρ⟩

/-! ## Devices -/

/-- The device whose number differs from `c`'s by `k` under exclusive-or. -/
def px (k : Fin 8) (c : Dev nD) : Dev nD := ⟨c.val ^^^ k.val, Nat.xor_lt_two_pow (n := 3) c.isLt k.isLt⟩

theorem px_px (k : Fin 8) (c : Dev nD) : px k (px k c) = c := by revert k c; decide
theorem px_inj {k : Fin 8} {c d : Dev nD} (h : px k c = px k d) : c = d := by rw [← px_px k c, h, px_px]

/-- Exclusive-or with `k` as a permutation of the devices. -/
def pxE (k : Fin 8) : Dev nD ≃ Dev nD := ⟨px k, px k, px_px k, px_px k⟩

/-- Which device's piece lies in slot `s` of device `c`: that of `px (slotX s) c`. -/
def slotX : Fin 8 → Fin 8 := ![0, 1, 3, 4, 2, 7, 5, 6]

/-- The three neighbours. -/
def msk : Fin 3 → Fin 8 := ![1, 3, 4]

/-! ## The seventeen transfers -/

/-- One transfer: whether it moves columns of the first weight or rows of the second, from and to which of them, how
    many, to which neighbour, on which pair of semaphores, and the share of the source it is lent. -/
structure Tr where
  isQ : Bool
  src : ℕ
  dst : ℕ
  w : ℕ
  k : Fin 8
  snd : DmaSem sig
  rcv : DmaSem sig

/-- The transfers in program order. -/
def tr : Fin 17 → Tr := ![
  ⟨true, 0, 256, 256, 1, 6, 12⟩, ⟨false, 0, 256, 256, 1, 9, 15⟩,
  ⟨true, 0, 512, 256, 3, 7, 13⟩, ⟨false, 0, 512, 256, 3, 10, 16⟩,
  ⟨true, 0, 768, 256, 4, 8, 14⟩, ⟨false, 0, 768, 256, 4, 11, 17⟩,
  ⟨true, 512, 1024, 256, 1, 18, 24⟩, ⟨false, 512, 1024, 256, 1, 21, 27⟩,
  ⟨true, 768, 1280, 256, 3, 19, 25⟩, ⟨false, 768, 1280, 256, 3, 22, 28⟩,
  ⟨true, 256, 1536, 256, 4, 20, 26⟩, ⟨false, 256, 1536, 256, 4, 23, 29⟩,
  ⟨true, 1280, 1792, 128, 1, 30, 36⟩, ⟨false, 1280, 1792, 48, 1, 33, 39⟩,
  ⟨true, 1664, 1920, 128, 3, 31, 37⟩, ⟨false, 1584, 1840, 48, 3, 34, 40⟩,
  ⟨false, 1120, 1888, 160, 4, 35, 41⟩]

/-- The share of the source lent to transfer `j`: the three copies of a device's own piece split it in three, every
    later copy takes half, the other half staying for the loads made meanwhile. -/
def shr : Fin 17 → PosShare TreeShare := ![fullShare.left, fullShare.left, fullShare.right.left, fullShare.right.left,
  fullShare.right.right, fullShare.right.right, fullShare.left, fullShare.left, fullShare.left, fullShare.left,
  fullShare.left, fullShare.left, fullShare.left, fullShare.left, fullShare.left, fullShare.left, fullShare.left]

abbrev qM : Memref sig .tc .vmem S512x2048 .bf16 := Memref.whole cc0_scratch0
abbrev oM : Memref sig .tc .vmem S2048x512 .bf16 := Memref.whole cc0_scratch1

/-- Columns `a …` of the first weight's buffer, and rows `a …` of the second's, as the program slices them. -/
abbrev qS (a : ℕ) (sz : Fin 2 → ℕ) (ia : ∀ x, (![0, a] : Fin 2 → ℕ) x + sz x ≤ S512x2048.size x) :=
  qM.slice (Rect.unit (s := S512x2048) ![0, a] sz ia) (fun _ => rfl)
abbrev oS (a : ℕ) (sz : Fin 2 → ℕ) (ia : ∀ x, (![a, 0] : Fin 2 → ℕ) x + sz x ≤ S2048x512.size x) :=
  oM.slice (Rect.unit (s := S2048x512) ![a, 0] sz ia) (fun _ => rfl)

/-- What a transfer of each size is worth on its two semaphores. -/
abbrev nQ : ℕ := (qS 0 S512x256.size inb_S512x2048_S512x256_0_0).view.dmaCredit
abbrev nQh : ℕ := (qS 1280 S512x128.size inb_S512x2048_S512x128_0_1280).view.dmaCredit
abbrev nO : ℕ := (oS 0 S256x512.size inb_S2048x512_S256x512_0_0).view.dmaCredit
abbrev nOa : ℕ := (oS 1280 S48x512.size inb_S2048x512_S48x512_1280_0).view.dmaCredit
abbrev nOb : ℕ := (oS 1120 S160x512.size inb_S2048x512_S160x512_1120_0).view.dmaCredit

def amt : Fin 17 → ℕ := ![nQ, nO, nQ, nO, nQ, nO, nQ, nO, nQ, nO, nQ, nO, nQh, nOa, nQh, nOa, nOb]

theorem amt_pos (j : Fin 17) : 0 < amt j := by
  have h1 : 0 < nQ := View.dmaCredit_pos _ (by decide)
  have h2 : 0 < nQh := View.dmaCredit_pos _ (by decide)
  have h3 : 0 < nO := View.dmaCredit_pos _ (by decide)
  have h4 : 0 < nOa := View.dmaCredit_pos _ (by decide)
  have h5 : 0 < nOb := View.dmaCredit_pos _ (by decide)
  fin_cases j <;> assumption

/-! ## Cells -/

/-- The runtime's barrier semaphore of collective id `0`. -/
abbrev barS : Sem sig := (SemArray.scalar (sig.barrier 0 rfl) : Sems sig S_).sem
abbrev barC (c : Dev nD) : GSem nD τ sig := ((c : Thread nD τ), .reg barS)
abbrev sC (j : Fin 17) (c : Dev nD) : GSem nD τ sig := ((c : Thread nD τ), .dma (tr j).snd)
abbrev rC (j : Fin 17) (c : Dev nD) : GSem nD τ sig := ((c : Thread nD τ), .dma (tr j).rcv)

/-- Which transfer a semaphore counts, and whether at the sender (`true`) or at the receiver. -/
def role (q : DmaSem sig) : Option (Bool × Fin 17) :=
  if 6 ≤ q.val then
    (![some (true, 0), some (true, 2), some (true, 4), some (true, 1), some (true, 3), some (true, 5),
      some (false, 0), some (false, 2), some (false, 4), some (false, 1), some (false, 3), some (false, 5),
      some (true, 6), some (true, 8), some (true, 10), some (true, 7), some (true, 9), some (true, 11),
      some (false, 6), some (false, 8), some (false, 10), some (false, 7), some (false, 9), some (false, 11),
      some (true, 12), some (true, 14), none, some (true, 13), some (true, 15), some (true, 16),
      some (false, 12), some (false, 14), none, some (false, 13), some (false, 15), some (false, 16)]
      : Fin 36 → Option (Bool × Fin 17)) (Fin.ofNat 36 (q.val - 6))
  else none

theorem role_snd (j : Fin 17) : role (tr j).snd = some (true, j) := by revert j; decide
theorem role_rcv (j : Fin 17) : role (tr j).rcv = some (false, j) := by revert j; decide

/-! ## Contents -/

/-- The blocks the launch stages on device `c`. -/
def xG (c : Dev nD) : (cc0_stg0_0 : Ref sig .tc).ty.Contents (Elt F) :=
  (win0_0.blk (0 : Fin 1)).view.read (Elt F) (m ((c : Thread nD τ).loc main_arg0))
def wqG (c : Dev nD) : (cc0_stg1_0 : Ref sig .tc).ty.Contents (Elt F) :=
  (win0_1.blk (0 : Fin 1)).view.read (Elt F) (m ((c : Thread nD τ).loc main_arg1))
def kG (c : Dev nD) : (cc0_stg2_0 : Ref sig .tc).ty.Contents (Elt F) :=
  (win0_2.blk (0 : Fin 1)).view.read (Elt F) (m ((c : Thread nD τ).loc main_arg2))
def vG (c : Dev nD) : (cc0_stg3_0 : Ref sig .tc).ty.Contents (Elt F) :=
  (win0_3.blk (0 : Fin 1)).view.read (Elt F) (m ((c : Thread nD τ).loc main_arg3))
def woG (c : Dev nD) : (cc0_stg4_0 : Ref sig .tc).ty.Contents (Elt F) :=
  (win0_4.blk (0 : Fin 1)).view.read (Elt F) (m ((c : Thread nD τ).loc main_arg4))

/-- The first weight as device `c` gathers it: columns `256 s …` are the cast columns of device `px (slotX s) c`. -/
def WQ (c : Dev nD) : Buf (Elt F) ((c : Thread nD τ).loc cc0_scratch0) := fun i =>
  k0_pay293 (wqG m (px (slotX ⟨(i 1).val / 256, by have h : (i 1).val < 2048 := (i 1).isLt; omega⟩) c))
    (fun a => match a with
      | ⟨0, _⟩ => ⟨(i 0).val, (i 0).isLt⟩
      | ⟨1, _⟩ => ⟨(i 1).val % 256, Nat.mod_lt _ (by decide)⟩)

/-- The second weight as device `c` gathers it: rows `256 s …` are the cast rows of device `px (slotX s) c`. -/
def WO (c : Dev nD) : Buf (Elt F) ((c : Thread nD τ).loc cc0_scratch1) := fun i =>
  k0_pay294 (woG m (px (slotX ⟨(i 0).val / 256, by have h : (i 0).val < 2048 := (i 0).isLt; omega⟩) c))
    (fun a => match a with
      | ⟨0, _⟩ => ⟨(i 0).val % 256, Nat.mod_lt _ (by decide)⟩
      | ⟨1, _⟩ => ⟨(i 1).val, (i 1).isLt⟩)

/-- Columns `a ≤ · < b` of the first weight's buffer; rows of the second's. -/
def colSet (a b : ℕ) : Finset S512x2048.Idx := Finset.univ.filter fun i => a ≤ (i 1).val ∧ (i 1).val < b
def rowSet (a b : ℕ) : Finset S2048x512.Idx := Finset.univ.filter fun i => a ≤ (i 0).val ∧ (i 0).val < b

theorem mem_colSet {a b : ℕ} {i : S512x2048.Idx} : i ∈ colSet a b ↔ a ≤ (i 1).val ∧ (i 1).val < b := by simp [colSet]
theorem mem_rowSet {a b : ℕ} {i : S2048x512.Idx} : i ∈ rowSet a b ↔ a ≤ (i 0).val ∧ (i 0).val < b := by simp [rowSet]

def ptsQ (c : Dev nD) (a b : ℕ) (q : PosShare TreeShare) (f : Buf (Elt F) ((c : Thread nD τ).loc cc0_scratch0)) : sProp 𝕄 :=
  ((c : Thread nD τ).loc cc0_scratch0) ↦[colSet a b]{q} f
def ptsO (c : Dev nD) (a b : ℕ) (q : PosShare TreeShare) (f : Buf (Elt F) ((c : Thread nD τ).loc cc0_scratch1)) : sProp 𝕄 :=
  ((c : Thread nD τ).loc cc0_scratch1) ↦[rowSet a b]{q} f

instance ptsQ_storable (c a b q f) : BI.Storable (upEmb : UEmb _ 𝕄) (ptsQ (F := F) c a b q f) := by unfold ptsQ; infer_instance
instance ptsO_storable (c a b q f) : BI.Storable (upEmb : UEmb _ 𝕄) (ptsO (F := F) c a b q f) := by unfold ptsO; infer_instance

theorem ptsQ_split (c : Dev nD) {a b : ℕ} (k : ℕ) (q) (f) (h1 : a ≤ k) (h2 : k ≤ b) :
    (ptsQ (F := F) c a b q f) ⊣⊢ iprop(ptsQ c a k q f ∗ ptsQ c k b q f) := by
  unfold ptsQ
  rw [show colSet a b = colSet a k ∪ colSet k b from by
    ext i; simp only [mem_colSet, Finset.mem_union]; omega]
  exact pointsTo_union (Finset.disjoint_left.mpr fun i h h' => by rw [mem_colSet] at h h'; omega)

theorem ptsO_split (c : Dev nD) {a b : ℕ} (k : ℕ) (q) (f) (h1 : a ≤ k) (h2 : k ≤ b) :
    (ptsO (F := F) c a b q f) ⊣⊢ iprop(ptsO c a k q f ∗ ptsO c k b q f) := by
  unfold ptsO
  rw [show rowSet a b = rowSet a k ∪ rowSet k b from by
    ext i; simp only [mem_rowSet, Finset.mem_union]; omega]
  exact pointsTo_union (Finset.disjoint_left.mpr fun i h h' => by rw [mem_rowSet] at h h'; omega)

theorem ptsQ_halves (c : Dev nD) (a b : ℕ) (q) (f) :
    (ptsQ (F := F) c a b q f) ⊣⊢ iprop(ptsQ c a b q.left f ∗ ptsQ c a b q.right f) := by
  unfold ptsQ; exact pointsTo_share (PosShare.mem_left_op_right q)
theorem ptsO_halves (c : Dev nD) (a b : ℕ) (q) (f) :
    (ptsO (F := F) c a b q f) ⊣⊢ iprop(ptsO c a b q.left f ∗ ptsO c a b q.right f) := by
  unfold ptsO; exact pointsTo_share (PosShare.mem_left_op_right q)

/-- The lent share of transfer `j`'s source; its destination at its final contents, and at any. -/
def srcPts (j : Fin 17) (c : Dev nD) : sProp 𝕄 :=
  if (tr j).isQ then ptsQ c (tr j).src ((tr j).src + (tr j).w) (shr j) (WQ m c) else ptsO c (tr j).src ((tr j).src + (tr j).w) (shr j) (WO m c)
def dstPts (j : Fin 17) (c : Dev nD) : sProp 𝕄 :=
  if (tr j).isQ then ptsQ c (tr j).dst ((tr j).dst + (tr j).w) fullShare (WQ m c) else ptsO c (tr j).dst ((tr j).dst + (tr j).w) fullShare (WO m c)
def dstAny (j : Fin 17) (c : Dev nD) : sProp 𝕄 :=
  if (tr j).isQ then iprop(∃ f, ptsQ c (tr j).dst ((tr j).dst + (tr j).w) fullShare f) else iprop(∃ f, ptsO c (tr j).dst ((tr j).dst + (tr j).w) fullShare f)

instance srcPts_storable (j c) : BI.Storable (upEmb : UEmb _ 𝕄) (srcPts (F := F) m j c) := by unfold srcPts; split <;> infer_instance
instance dstPts_storable (j c) : BI.Storable (upEmb : UEmb _ 𝕄) (dstPts (F := F) m j c) := by unfold dstPts; split <;> infer_instance
instance dstAny_storable (j c) : BI.Storable (upEmb : UEmb _ 𝕄) (dstAny (F := F) j c) := by unfold dstAny; split <;> infer_instance

/-! ## The schedule -/

/-- What the neighbour `p` across mask `i` hands over when it arrives: every region of its that will be written from
    across that mask. -/
def barPay (i : Fin 3) (p : Dev nD) : sProp 𝕄 := match i with
  | 0 => iprop(dstAny 0 p ∗ dstAny 1 p ∗ dstAny 6 p ∗ dstAny 7 p ∗ dstAny 12 p ∗ dstAny 13 p)
  | 1 => iprop(dstAny 2 p ∗ dstAny 3 p ∗ dstAny 8 p ∗ dstAny 9 p ∗ dstAny 14 p ∗ dstAny 15 p)
  | 2 => iprop(dstAny 4 p ∗ dstAny 5 p ∗ dstAny 10 p ∗ dstAny 11 p ∗ dstAny 16 p)

instance barPay_storable (i p) : BI.Storable (upEmb : UEmb _ 𝕄) (barPay (F := F) i p) := by unfold barPay; split <;> infer_instance

/-- One round on every cell in use. -/
def sched : Rounds.Schedule (GSem nD τ sig) (Fin 3) 𝕄 where
  duties g r := if r = 0 ∧ g.1.2 = .tc then (match g.2 with
    | .reg _ => Finset.univ
    | .dma q => if (role q).isSome then {0} else ∅) else ∅
  unitless _ := False
  amount g _ _ := match g.2 with
    | .reg _ => 1
    | .dma q => match role q with
      | some (_, j) => amt j
      | none => 1
  payload g _ d := match g.2 with
    | .reg _ => barPay d (px (msk d) g.1.1)
    | .dma q => match role q with
      | some (true, j) => srcPts m j g.1.1
      | some (false, j) => dstPts m j g.1.1
      | none => iprop(emp)
  amount_pos g _ _ _ := by
    split
    · exact Nat.one_pos
    · split
      · exact amt_pos _
      · exact Nat.one_pos

instance sched_payload_storable (g : GSem nD τ sig) (r : ℕ) (d : Fin 3) :
    BI.Storable (upEmb : UEmb _ 𝕄) ((sched (F := F) m).payload g r d) := by
  dsimp only [sched]; (repeat' split) <;> infer_instance

section Sched
variable (c : Dev nD) (j : Fin 17)

theorem duties_bar : (sched (F := F) m).duties (barC c) 0 = Finset.univ := rfl
theorem duties_snd : (sched (F := F) m).duties (sC j c) 0 = {0} := by
  dsimp only [sched]; rw [if_pos ⟨rfl, rfl⟩, role_snd]; rfl
theorem duties_rcv : (sched (F := F) m).duties (rC j c) 0 = {0} := by
  dsimp only [sched]; rw [if_pos ⟨rfl, rfl⟩, role_rcv]; rfl
theorem duties_later (g : GSem nD τ sig) : ∀ r, 1 ≤ r → (sched (F := F) m).duties g r = ∅ :=
  fun r hr => by dsimp only [sched]; rw [if_neg fun h => by omega]
theorem amount_bar (d) : (sched (F := F) m).amount (barC c) 0 d = 1 := rfl
theorem amount_snd (d) : (sched (F := F) m).amount (sC j c) 0 d = amt j := by dsimp only [sched]; rw [role_snd]
theorem amount_rcv (d) : (sched (F := F) m).amount (rC j c) 0 d = amt j := by dsimp only [sched]; rw [role_rcv]
theorem payload_bar (d) : (sched (F := F) m).payload (barC c) 0 d = barPay d (px (msk d) c) := rfl
theorem payload_snd (d) : (sched (F := F) m).payload (sC j c) 0 d = srcPts m j c := by dsimp only [sched]; rw [role_snd]
theorem payload_rcv (d) : (sched (F := F) m).payload (rC j c) 0 d = dstPts m j c := by dsimp only [sched]; rw [role_rcv]
theorem expect_bar : (sched (F := F) m).expect (barC c) 0 = 3 := by
  unfold Schedule.expect Schedule.amountOf
  rw [duties_bar, Finset.sum_congr rfl fun d _ => amount_bar m c d, Finset.sum_const, Finset.card_univ, Fintype.card_fin, smul_eq_mul]
theorem expect_snd : (sched (F := F) m).expect (sC j c) 0 = amt j := by
  unfold Schedule.expect Schedule.amountOf; rw [duties_snd, Finset.sum_singleton, amount_snd]
theorem expect_rcv : (sched (F := F) m).expect (rC j c) 0 = amt j := by
  unfold Schedule.expect Schedule.amountOf; rw [duties_rcv, Finset.sum_singleton, amount_rcv]

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((sched (F := F) m).duties (barC c) 0 \ ∅) (fun d => (sched (F := F) m).payload (barC c) 0 d)
    = iprop(barPay 0 (px 1 c) ∗ barPay 1 (px 3 c) ∗ barPay 2 (px 4 c)) := by
  rw [Finset.sdiff_empty, duties_bar, bigSep_fin3]; rfl
theorem rest_snd : bigSep ((sched (F := F) m).duties (sC j c) 0 \ ∅) (fun d => (sched (F := F) m).payload (sC j c) 0 d) = srcPts m j c := by
  rw [Finset.sdiff_empty, duties_snd, bigSep_singleton, payload_snd]
theorem rest_rcv : bigSep ((sched (F := F) m).duties (rC j c) 0 \ ∅) (fun d => (sched (F := F) m).payload (rC j c) 0 d) = dstPts m j c := by
  rw [Finset.sdiff_empty, duties_rcv, bigSep_singleton, payload_rcv]

end Sched

/-! ## What a device owes, and the levels -/

/-- The units device `c` pays others, in the order it pays them. -/
def bills (c : Dev nD) : List (GSem nD τ sig × ℕ) :=
  [(barC (px 1 c), 1), (barC (px 3 c), 1), (barC (px 4 c), 1)]
    ++ (List.finRange 17).map fun j => (rC j (px (tr j).k c), amt j)

/-- The sum of a list of bills, the first one outermost. -/
def total : List (GSem nD τ sig × ℕ) → CellTallies nD τ sig Unit
  | [] => 0
  | x :: l => total l + tallyAt x.1 () x.2

/-- What device `c` still owes once it has paid the first `n`. -/
def owe (c : Dev nD) (n : ℕ) : CellTallies nD τ sig Unit := total ((bills c).drop n)

def L (g : GSem nD τ sig) : Finset Unit := if g.1.2 = .tc then {()} else ∅
/-- Own sends and staging lowest, then the barrier, then the receive cells of the three phases. -/
def lvS : SemLoc sig → ℕ
  | .reg _ => 1
  | .dma q => match role q with
    | some (false, j) => if j.val < 6 then 2 else if j.val < 12 then 3 else 4
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem total_pos {l : List (GSem nD τ sig × ℕ)} {g : GSem nD τ sig} {u : Unit} (h : 0 < total l g u) : ∃ x ∈ l, g = x.1 := by
  induction l with
  | nil => exact absurd h (Nat.lt_irrefl 0)
  | cons x l ih =>
    unfold total at h
    rw [Pi.add_apply, Finsupp.add_apply, tallyAt_apply] at h
    by_cases hx : g = x.1
    · exact ⟨x, List.mem_cons_self, hx⟩
    · rw [if_neg (fun h' => hx h'.1), Nat.add_zero] at h
      obtain ⟨y, hy, e⟩ := ih h
      exact ⟨y, List.mem_cons_of_mem _ hy, e⟩

/-- The levels still owed to after `n` payments. -/
theorem bills_above (c : Dev nD) : (∀ x ∈ (bills c).drop 0, x.1.1.2 = .tc ∧ 0 < lvS x.1.2)
    ∧ (∀ x ∈ (bills c).drop 3, x.1.1.2 = .tc ∧ 1 < lvS x.1.2)
    ∧ (∀ x ∈ (bills c).drop 9, x.1.1.2 = .tc ∧ 2 < lvS x.1.2)
    ∧ (∀ x ∈ (bills c).drop 15, x.1.1.2 = .tc ∧ 3 < lvS x.1.2) := by
  refine ⟨?_, ?_, ?_, ?_⟩ <;> revert c <;> decide

/-- A device may wait on a cell whose level is below everything it still owes. -/
theorem mayWait_of (c : Dev nD) (sm : SemLoc sig) (n b : ℕ) (hsm : lvS sm ≤ b)
    (h : ∀ x ∈ (bills c).drop n, x.1.1.2 = .tc ∧ b < lvS x.1.2) :
    (levAts L lv : sProp 𝕄) ⊢ MayWait (c : Thread nD τ) sm () (owe c n) :=
  MayOwe.of_cut (L := L) (lev := lv) b (fun p hp => by rw [Finset.mem_singleton.mp hp, L_tc]; exact Finset.mem_singleton_self _)
    (fun g u hg => by
      obtain ⟨x, hx, rfl⟩ := total_pos hg
      unfold L; rw [if_pos (h x hx).1]; exact Finset.mem_singleton_self _)
    (fun p hp => by rw [Finset.mem_singleton.mp hp]; exact hsm)
    (fun g u hg => by
      obtain ⟨x, hx, rfl⟩ := total_pos hg
      exact (h x hx).2)

theorem owe_done (c : Dev nD) : owe c 20 = 0 := rfl

end Cert.Wk
end
-- ==== Proof.Loops.lean ====
/-
# The kernel's local work, written as loops

The program spells its copies out one after another; here the same text is a loop over their number, so that each kind
of copy is reasoned about once.
-/
module

public import proofs.«01_k».proof.Proof.Proto

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev PR (F : FTy → Type) := Prog (TpuEff nD τ sig (Elt F) Λ₀ .tc)

/-- `f s`, then `f (s+1)`, …, `n` of them. -/
def loop (f : ℕ → PR F PUnit) : ℕ → ℕ → PR F PUnit
  | _, 0 => pure ⟨⟩
  | s, n + 1 => f s >>= fun _ => loop f (s + 1) n

abbrev aX : Memref sig .tc .vmem S2x128x512 .f32 := Memref.whole cc0_stg0_0
abbrev aWq : Memref sig .tc .vmem S512x256 .f32 := Memref.whole cc0_stg1_0
abbrev aK : Memref sig .tc .vmem S2x128x32x64 .f32 := Memref.whole cc0_stg2_0
abbrev aV : Memref sig .tc .vmem S2x128x32x64 .f32 := Memref.whole cc0_stg3_0
abbrev aWo : Memref sig .tc .vmem S256x512 .f32 := Memref.whole cc0_stg4_0
abbrev aOut : Memref sig .tc .vmem S2x128x512 .f32 := Memref.whole cc0_stg5_0
abbrev bX : Memref sig .tc .vmem S256x512 .bf16 := Memref.whole cc0_scratch2
abbrev bK : Memref sig .tc .vmem S8x8x128x64 .bf16 := Memref.whole cc0_scratch3
abbrev bV : Memref sig .tc .vmem S8x8x128x64 .bf16 := Memref.whole cc0_scratch4
abbrev bKo : Memref sig .tc .vmem S64x128x64 .bf16 := Memref.whole cc0_scratch5
abbrev bVo : Memref sig .tc .vmem S64x128x64 .bf16 := Memref.whole cc0_scratch6
abbrev bQ : Memref sig .tc .vmem S64x128x64 .bf16 := Memref.whole cc0_scratch7
abbrev bC : Memref sig .tc .vmem S256x1024 .bf16 := Memref.whole cc0_scratch8
abbrev bA : Memref sig .tc .vmem S256x512 .f32 := Memref.whole cc0_scratch9

/-! ## The copies of the keys and values -/

theorem inb_src (i : Fin 64) : ∀ a, (![i.val % 8 / 4, 0, 4 * (i.val / 8) + i.val % 4, 0] : Fin 4 → ℕ) a + S1x128x1x64.size a ≤ S2x128x32x64.size a := by
  revert i; decide
theorem inb_dst (i : Fin 64) : ∀ a, (![i.val / 8, i.val % 8, 0, 0] : Fin 4 → ℕ) a + S1x1x128x64.size a ≤ S8x8x128x64.size a := by
  revert i; decide
abbrev rSrc (i : Fin 64) : Rect S2x128x32x64 := Rect.unit (s := S2x128x32x64) ![i.val % 8 / 4, 0, 4 * (i.val / 8) + i.val % 4, 0] S1x128x1x64.size (inb_src i)
abbrev rDst (i : Fin 64) : Rect S8x8x128x64 := Rect.unit (s := S8x8x128x64) ![i.val / 8, i.val % 8, 0, 0] S1x1x128x64.size (inb_dst i)
theorem packed_dst (i : Fin 64) : (rDst i).PackedRows (EltTy.packing .bf16) := by revert i; decide

/-- Head `i % 4` of group `i / 8` and batch entry `i % 8 / 4`, loaded, cast, stored. -/
def cpHead (S : Memref sig .tc .vmem S2x128x32x64 .f32) (D : Memref sig .tc .vmem S8x8x128x64 .bf16) (hD : D.IsWhole) (i : Fin 64) : PR F PUnit := do
  let v : Vec F S1x128x1x64 .f32 ← Prog.lift (.load S (rSrc i).toLoadRect (View.loadsAt_vmem h_S1x128x1x64))
  let _ : Vec F S1x1x128x64 .bf16 ← Prog.lift (.load D (rDst i).toLoadRect (View.loadsAt_vmem h_S1x1x128x64))
  Prog.lift (.store D (rDst i) (k0_pay6 v) Finset.univ (View.stores_vmem h_S1x1x128x64 (hD.storeExact_slice rfl _ (packed_dst i)) (fun _ => rfl)) (.inl rfl))

/-- A value head and the key head after it. -/
def cpVK (n : ℕ) : PR F PUnit := do
  cpHead aV bV (Memref.isWhole_whole _) (Fin.ofNat 64 n)
  cpHead aK bK (Memref.isWhole_whole _) (Fin.ofNat 64 (n + 1))

def ldX : PR F PUnit := do
  let v : Vec F S2x128x512 .f32 ← Prog.lift (.load aX (Rect.unit (s := S2x128x512) ![0, 0, 0] S2x128x512.size inb_S2x128x512_S2x128x512_0_0_0).toLoadRect (View.loadsAt_vmem h_S2x128x512))
  let _ : Vec F S256x512 .bf16 ← Prog.lift (.load bX (Rect.unit (s := S256x512) ![0, 0] S256x512.size inb_S256x512_S256x512_0_0).toLoadRect (View.loadsAt_vmem h_S256x512))
  Prog.lift (.store bX (Rect.unit (s := S256x512) ![0, 0] S256x512.size inb_S256x512_S256x512_0_0) (k0_pay5 v) Finset.univ (View.stores_vmem h_S256x512 ((Memref.isWhole_whole _ : bX.IsWhole).storeExact_slice rfl _ packedbf16_S256x512_S256x512_0_0) (fun _ => rfl)) (.inl rfl))

/-! ## The chunks in slot order -/

theorem inb_ord (s : Fin 8) : ∀ a, (![8 * s.val, 0, 0] : Fin 3 → ℕ) a + S8x128x64.size a ≤ S64x128x64.size a := by revert s; decide
abbrev rOrd (s : Fin 8) : Rect S64x128x64 := Rect.unit (s := S64x128x64) ![8 * s.val, 0, 0] S8x128x64.size (inb_ord s)
theorem packed_ord (s : Fin 8) : (rOrd s).PackedRows (EltTy.packing .bf16) := by revert s; decide
abbrev rChk (d0 : Dev nD) (h : k0_cond1 d0 = 1#1) (s : Fin 8) : Rect S8x8x128x64 :=
  Rect.unit (s := S8x8x128x64) (k0_off1 d0 (BitVec.ofNat 32 (slotX s).val)) S1x8x128x64.size (k0_off1_inb d0 h (slotX s))

/-- The chunk that slot `s` holds, read out of `S` and stored at place `s` of `D`. -/
def cpOrd (d0 : Dev nD) (h : k0_cond1 d0 = 1#1) (S : Memref sig .tc .vmem S8x8x128x64 .bf16) (D : Memref sig .tc .vmem S64x128x64 .bf16) (hD : D.IsWhole) (s : Fin 8) : PR F PUnit := do
  let v : Vec F S1x8x128x64 .bf16 ← Prog.lift (.load S (rChk d0 h s).toLoadRect (View.loadsAt_vmem h_S1x8x128x64))
  let _ : Vec F S8x128x64 .bf16 ← Prog.lift (.load D (rOrd s).toLoadRect (View.loadsAt_vmem h_S8x128x64))
  Prog.lift (.store D (rOrd s) (k0_pay134 v) Finset.univ (View.stores_vmem h_S8x128x64 (hD.storeExact_slice rfl _ (packed_ord s)) (fun _ => rfl)) (.inl rfl))

def ordKV (d0 : Dev nD) (h : k0_cond1 d0 = 1#1) (n : ℕ) : PR F PUnit := do
  cpOrd d0 h bK bKo (Memref.isWhole_whole _) (Fin.ofNat 8 n)
  cpOrd d0 h bV bVo (Memref.isWhole_whole _) (Fin.ofNat 8 n)

/-- What an even device does before the first parts have landed. -/
def segA (d0 : Dev nD) (h : k0_cond1 d0 = 1#1) : PR F PUnit := do
  ldX
  cpHead aK bK (Memref.isWhole_whole _) 0
  loop cpVK 0 63
  cpHead aV bV (Memref.isWhole_whole _) 63
  loop (ordKV d0 h) 0 8

/-! ## The attention parts -/

/-- Store one head's queries. -/
theorem inb_q (i : Fin 64) : ∀ a, (![i.val, 0, 0] : Fin 3 → ℕ) a + S1x128x64.size a ≤ S64x128x64.size a := by revert i; decide
abbrev rQ (i : Fin 64) : Rect S64x128x64 := Rect.unit (s := S64x128x64) ![i.val, 0, 0] S1x128x64.size (inb_q i)
theorem packed_q (i : Fin 64) : (rQ i).PackedRows (EltTy.packing .bf16) := by revert i; decide
def tileQ (P : FVec F S1x128x64 .bf16) (i : Fin 64) : PR F PUnit := do
  let _ : Vec F S1x128x64 .bf16 ← Prog.lift (.load bQ (rQ i).toLoadRect (View.loadsAt_vmem h_S1x128x64))
  Prog.lift (.store bQ (rQ i) P Finset.univ (View.stores_vmem h_S1x128x64 ((Memref.isWhole_whole _ : bQ.IsWhole).storeExact_slice rfl _ (packed_q i)) (fun _ => rfl)) (.inl rfl))

/-- Store one head's result. -/
theorem inb_c (i : Fin 32) : ∀ a, (![i.val % 8 / 4 * 128, (4 * (i.val / 8) + i.val % 4) * 64] : Fin 2 → ℕ) a + S128x64.size a ≤ S256x1024.size a := by revert i; decide
abbrev rT (i : Fin 32) : Rect S256x1024 := Rect.unit (s := S256x1024) ![i.val % 8 / 4 * 128, (4 * (i.val / 8) + i.val % 4) * 64] S128x64.size (inb_c i)
theorem packed_c (i : Fin 32) : (rT i).PackedRows (EltTy.packing .bf16) := by revert i; decide
def stC (P : FVec F S128x64 .bf16) (i : Fin 32) : PR F PUnit :=
  Prog.lift (.store bC (rT i) P Finset.univ (View.stores_vmem h_S128x64 ((Memref.isWhole_whole _ : bC.IsWhole).storeExact_slice rfl _ (packed_c i)) (fun _ => rfl)) (.inl rfl))
def tileC (P : FVec F S128x64 .bf16) (i : Fin 32) : PR F PUnit := do
  let _ : Vec F S128x64 .bf16 ← Prog.lift (.load bC (rT i).toLoadRect (View.loadsAt_vmem h_S128x64))
  stC P i

abbrev shQ (nh : ℕ) : Shape := ⟨4, ![2, 128, nh, 64]⟩
abbrev shS (nt : ℕ) : Shape := ⟨3, ![nt, 128, 64]⟩

def SlQ (nt nh : ℕ) : Prop := ∀ i : Fin nt, (shQ nh).Slices ![i.val % 8 / 4, 0, 4 * (i.val / 8) + i.val % 4, 0] S1x128x1x64
def SlC (nt : ℕ) : Prop := ∀ i : Fin nt, (shS nt).Slices ![i.val, 0, 0] S1x128x64

/-- Head `i` of a projection, as the program lays it out. -/
def qPay {nt nh : ℕ} (hsl : SlQ nt nh) (q : FVec F (shQ nh) .bf16) (i : Fin nt) : FVec F S1x128x64 .bf16 :=
  shapeCast S1x128x64 (shapeCast S128x64 (extractStridedSlice S1x128x1x64 ![i.val % 8 / 4, 0, 4 * (i.val / 8) + i.val % 4, 0] q (hsl i)) shapeCasts_S1x128x1x64_S128x64) shapeCasts_S128x64_S1x128x64

/-- Head `i` of a result. -/
def cPay {nt : ℕ} (hsl : SlC nt) (v : FVec F (shS nt) .f32) (i : Fin nt) : FVec F S128x64 .bf16 :=
  shapeCast S128x64 (truncf .bf16 (shapeCast S128x64 (extractStridedSlice S1x128x64 ![i.val, 0, 0] v (hsl i)) shapeCasts_S1x128x64_S128x64) bitsLt_bf16_f32) shapeCasts_S128x64_S128x64

def ldXB : PR F (Vec F S256x512 .bf16) := Prog.lift (.load bX (Rect.unit (s := S256x512) ![0, 0] S256x512.size inb_S256x512_S256x512_0_0).toLoadRect (View.loadsAt_vmem h_S256x512))
def ldWq (nc c0 : ℕ) (hw : ∀ a, (![0, c0] : Fin 2 → ℕ) a + (⟨2, ![512, nc]⟩ : Shape).size a ≤ S512x2048.size a) (hw0 : 0 < (⟨2, ![512, nc]⟩ : Shape).numel) : PR F (Vec F ⟨2, ![512, nc]⟩ .bf16) :=
  Prog.lift (.load qM (Rect.unit (s := S512x2048) ![0, c0] (⟨2, ![512, nc]⟩ : Shape).size hw).toLoadRect (View.loadsAt_vmem hw0))
def ldWo (nc c0 : ℕ) (hi : ∀ a, (![c0, 0] : Fin 2 → ℕ) a + (⟨2, ![nc, 512]⟩ : Shape).size a ≤ S2048x512.size a) (h0 : 0 < (⟨2, ![nc, 512]⟩ : Shape).numel) : PR F (Vec F ⟨2, ![nc, 512]⟩ .bf16) :=
  Prog.lift (.load oM (Rect.unit (s := S2048x512) ![c0, 0] (⟨2, ![nc, 512]⟩ : Shape).size hi).toLoadRect (View.loadsAt_vmem h0))
def ldSlab (M : Memref sig .tc .vmem S64x128x64 .bf16) (nt i0 : ℕ) (hi : ∀ a, (![i0, 0, 0] : Fin 3 → ℕ) a + (shS nt).size a ≤ S64x128x64.size a) (h0 : 0 < (shS nt).numel) : PR F (Vec F (shS nt) .bf16) :=
  Prog.lift (.load M (Rect.unit (s := S64x128x64) ![i0, 0, 0] (shS nt).size hi).toLoadRect (View.loadsAt_vmem h0))
def ldC : PR F (Vec F S256x1024 .bf16) := Prog.lift (.load bC (Rect.unit (s := S256x1024) ![0, 0] S256x1024.size inb_S256x1024_S256x1024_0_0).toLoadRect (View.loadsAt_vmem h_S256x1024))
def ldA : PR F (Vec F S256x512 .f32) := Prog.lift (.load bA (Rect.unit (s := S256x512) ![0, 0] S256x512.size inb_S256x512_S256x512_0_0).toLoadRect (View.loadsAt_vmem h_S256x512))
def stA (v : FVec F S256x512 .f32) : PR F PUnit :=
  Prog.lift (.store bA (Rect.unit (s := S256x512) ![0, 0] S256x512.size inb_S256x512_S256x512_0_0) v Finset.univ (View.stores_vmem_bits_univ h_S256x512 rfl) (.inl rfl))

/-- One part up to its result tiles: project, lay the heads out, attend, lay the results out. -/
def attend {nc nt nh : ℕ} [NeZero nt] (hslQ : SlQ nt nh) (hslC : SlC nt) (i0 c0 : ℕ) (hw : ∀ a, (![0, c0] : Fin 2 → ℕ) a + (⟨2, ![512, nc]⟩ : Shape).size a ≤ S512x2048.size a) (hw0 : 0 < (⟨2, ![512, nc]⟩ : Shape).numel)
    (hi : ∀ a, (![i0, 0, 0] : Fin 3 → ℕ) a + (shS nt).size a ≤ S64x128x64.size a) (h0 : 0 < (shS nt).numel)
    (proj : Vec F S256x512 .bf16 → Vec F ⟨2, ![512, nc]⟩ .bf16 → FVec F (shQ nh) .bf16)
    (att : Vec F (shS nt) .bf16 → Vec F (shS nt) .bf16 → Vec F (shS nt) .bf16 → FVec F (shS nt) .f32) : PR F PUnit := do
  let x ← ldXB
  let w ← ldWq nc c0 hw hw0
  loop (fun n => tileQ (qPay hslQ (proj x w) (Fin.ofNat nt (n - i0))) (Fin.ofNat 64 n)) i0 nt
  let q ← ldSlab bQ nt i0 hi h0
  let k ← ldSlab bKo nt i0 hi h0
  let v ← ldSlab bVo nt i0 hi h0
  loop (fun n => tileC (cPay hslC (att q k v) (Fin.ofNat nt n)) (Fin.ofNat 32 n)) 0 nt

theorem slQ32 : SlQ 32 16 := by unfold SlQ; decide
theorem slQ24 : SlQ 24 12 := by unfold SlQ; decide
theorem slQ8 : SlQ 8 4 := by unfold SlQ; decide
theorem slC32 : SlC 32 := by unfold SlC; decide
theorem slC24 : SlC 24 := by unfold SlC; decide
theorem slC8 : SlC 8 := by unfold SlC; decide

def att1 (q k v : Vec F (shS 32) .bf16) : FVec F (shS 32) .f32 := k0_pay185 q k v
def att2 (q k v : Vec F (shS 24) .bf16) : FVec F (shS 24) .f32 := k0_pay247 (k0_pay245 q k) k0_pay246 v
def att3 (q k v : Vec F (shS 8) .bf16) : FVec F (shS 8) .f32 := k0_pay284 q k v

def segB : PR F PUnit := do
  attend slQ32 slC32 0 0 inb_S512x2048_S512x1024_0_0 h_S512x1024 inb_S64x128x64_S32x128x64_0_0_0 h_S32x128x64 k0_pay149 att1
  let u ← ldC
  let w ← ldWo 1024 0 inb_S2048x512_S1024x512_0_0 h_S1024x512
  let _ ← ldA
  stA (k0_pay301 u w)

def segC : PR F PUnit := do
  attend slQ24 slC24 32 1024 inb_S512x2048_S512x768_0_1024 h_S512x768 inb_S64x128x64_S24x128x64_32_0_0 h_S24x128x64 k0_pay218 att2
  let u ← ldC
  let w ← ldWo 768 1024 inb_S2048x512_S768x512_1024_0 h_S768x512
  let a ← ldA
  let _ ← ldA
  stA (k0_pay302 u w a)

def stOut (v : FVec F S2x128x512 .f32) : PR F PUnit := do
  let _ : Vec F S2x128x512 .f32 ← Prog.lift (.load aOut (Rect.unit (s := S2x128x512) ![0, 0, 0] S2x128x512.size inb_S2x128x512_S2x128x512_0_0_0).toLoadRect (View.loadsAt_vmem h_S2x128x512))
  Prog.lift (.store aOut (Rect.unit (s := S2x128x512) ![0, 0, 0] S2x128x512.size inb_S2x128x512_S2x128x512_0_0_0) v Finset.univ (View.stores_vmem_bits_univ h_S2x128x512 rfl) (.inl rfl))

def segD : PR F PUnit := do
  attend slQ8 slC8 56 1792 inb_S512x2048_S512x256_0_1792 h_S512x256 inb_S64x128x64_S8x128x64_56_0_0 h_S8x128x64 k0_pay274 att3
  let u ← ldC
  let w ← ldWo 256 1792 inb_S2048x512_S256x512_1792_0 h_S256x512
  let a ← ldA
  let _ ← ldA
  stA (k0_pay2 u w a)
  let r ← ldA
  stOut (k0_pay3 r)

end Cert.Wk
end
-- ==== Proof.Steps.lean ====
/-
# The exchange's steps, each proved once for any device

What a device holds around one transfer, and the rules for starting it, for waiting for it, and for the arrival and
the wait at the barrier.
-/
module

public import proofs.«01_k».proof.Proof.Proto

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Slices as sets of columns and rows -/

theorem qS_set (a : ℕ) (sz) (ia) (h0 : sz 0 = 512) : (qS a sz ia).view.set = colSet a (a + sz 1) := by
  ext i
  rw [mem_colSet]
  show i ∈ ((View.whole cc0_scratch0).slice (Rect.unit (s := S512x2048) ![0, a] sz ia)).set ↔ _
  rw [View.set_slice_whole, Rect.mem_set_unit]
  constructor
  · intro h; exact h 1
  · intro h x
    fin_cases x
    · have : (i 0).val < 512 := (i 0).isLt
      show 0 ≤ (i 0).val ∧ (i 0).val < 0 + sz 0
      omega
    · exact h

theorem oS_set (a : ℕ) (sz) (ia) (h0 : sz 1 = 512) : (oS a sz ia).view.set = rowSet a (a + sz 0) := by
  ext i
  rw [mem_rowSet]
  show i ∈ ((View.whole cc0_scratch1).slice (Rect.unit (s := S2048x512) ![a, 0] sz ia)).set ↔ _
  rw [View.set_slice_whole, Rect.mem_set_unit]
  constructor
  · intro h; exact h 0
  · intro h x
    fin_cases x
    · exact h
    · have : (i 1).val < 512 := (i 1).isLt
      show 0 ≤ (i 1).val ∧ (i 1).val < 0 + sz 1
      omega

/-! ## What lands is the neighbour's own contents -/

/-- Between source and destination of a transfer the slot changes as the neighbour does, the place in it stays. -/
theorem slots (j : Fin 17) (c : Dev nD) (n : ℕ) (hn : n < (tr j).w) :
    ∃ s s' : Fin 8, ((tr j).src + n) / 256 = s.val ∧ ((tr j).dst + n) / 256 = s'.val
      ∧ px (slotX s) c = px (slotX s') (px (tr j).k c) ∧ ((tr j).src + n) % 256 = ((tr j).dst + n) % 256 := by
  have key : ∀ j : Fin 17, ∃ s s' : Fin 8, (tr j).src / 256 = s.val ∧ (tr j).dst / 256 = s'.val
      ∧ (∀ c, px (slotX s) c = px (slotX s') (px (tr j).k c)) ∧ (tr j).src % 256 = (tr j).dst % 256
      ∧ (tr j).src % 256 + (tr j).w ≤ 256 := by
    intro j
    refine ⟨Fin.ofNat 8 ((tr j).src / 256), Fin.ofNat 8 ((tr j).dst / 256), ?_⟩
    revert j; decide
  obtain ⟨s, s', h1, h2, h3, h4, h5⟩ := key j
  exact ⟨s, s', by omega, by omega, h3 c, by omega⟩

theorem WQ_congr {c c' : Dev nD} {i i' : S512x2048.Idx} {s s' : Fin 8} (hs : (i 1).val / 256 = s.val) (hs' : (i' 1).val / 256 = s'.val)
    (hp : px (slotX s) c = px (slotX s') c') (h0 : (i 0).val = (i' 0).val) (hm : (i 1).val % 256 = (i' 1).val % 256) :
    WQ m c i = WQ m c' i' := by
  unfold WQ
  have e : ∀ (k : ℕ) (hk : k < 8) (t : Fin 8), k = t.val → (⟨k, hk⟩ : Fin 8) = t := fun k hk t h => Fin.ext h
  rw [e _ _ _ hs, e _ _ _ hs', hp]
  refine congrArg _ (funext fun a => ?_)
  fin_cases a
  · exact Fin.ext h0
  · exact Fin.ext hm

theorem WO_congr {c c' : Dev nD} {i i' : S2048x512.Idx} {s s' : Fin 8} (hs : (i 0).val / 256 = s.val) (hs' : (i' 0).val / 256 = s'.val)
    (hp : px (slotX s) c = px (slotX s') c') (h0 : (i 1).val = (i' 1).val) (hm : (i 0).val % 256 = (i' 0).val % 256) :
    WO m c i = WO m c' i' := by
  unfold WO
  have e : ∀ (k : ℕ) (hk : k < 8) (t : Fin 8), k = t.val → (⟨k, hk⟩ : Fin 8) = t := fun k hk t h => Fin.ext h
  rw [e _ _ _ hs, e _ _ _ hs', hp]
  refine congrArg _ (funext fun a => ?_)
  fin_cases a
  · exact Fin.ext hm
  · exact Fin.ext h0

theorem land_Q (j : Fin 17) (c : Dev nD) {a b : ℕ} {sz} {ia} {ib} (ha : (tr j).src = a) (hb : (tr j).dst = b)
    (hw : (tr j).w = sz 1) (fd : Buf (Elt F) ((px (tr j).k c : Thread nD τ).loc cc0_scratch0)) :
    ∀ i ∈ (qS b sz ib).view.set, (qS b sz ib).view.write (Elt F) fd ((qS a sz ia).view.read (Elt F) (WQ m c)) Finset.univ i
      = WQ m (px (tr j).k c) i := by
  intro i hi
  obtain ⟨x, -, rfl⟩ := Finset.mem_map.mp hi
  rw [View.write_emb_of_mem _ _ (Finset.mem_univ _)]
  obtain ⟨s, s', h1, h2, h3, h4⟩ := slots j c (x 1).val (by rw [hw]; exact (x 1).isLt)
  rw [ha] at h1 h4
  rw [hb] at h2 h4
  refine WQ_congr m (i := (qS a sz ia).view.emb x) (i' := (qS b sz ib).view.emb x) (s := s) (s' := s') ?_ ?_ h3 ?_ ?_
  · show (a + 1 * (x 1).val) / 256 = _; simp only [Nat.one_mul]; exact h1
  · show (b + 1 * (x 1).val) / 256 = _; simp only [Nat.one_mul]; exact h2
  · rfl
  · show (a + 1 * (x 1).val) % 256 = (b + 1 * (x 1).val) % 256; simp only [Nat.one_mul]; exact h4

theorem land_O (j : Fin 17) (c : Dev nD) {a b : ℕ} {sz} {ia} {ib} (ha : (tr j).src = a) (hb : (tr j).dst = b)
    (hw : (tr j).w = sz 0) (fd : Buf (Elt F) ((px (tr j).k c : Thread nD τ).loc cc0_scratch1)) :
    ∀ i ∈ (oS b sz ib).view.set, (oS b sz ib).view.write (Elt F) fd ((oS a sz ia).view.read (Elt F) (WO m c)) Finset.univ i
      = WO m (px (tr j).k c) i := by
  intro i hi
  obtain ⟨x, -, rfl⟩ := Finset.mem_map.mp hi
  rw [View.write_emb_of_mem _ _ (Finset.mem_univ _)]
  obtain ⟨s, s', h1, h2, h3, h4⟩ := slots j c (x 0).val (by rw [hw]; exact (x 0).isLt)
  rw [ha] at h1 h4
  rw [hb] at h2 h4
  refine WO_congr m (i := (oS a sz ia).view.emb x) (i' := (oS b sz ib).view.emb x) (s := s) (s' := s') ?_ ?_ h3 ?_ ?_
  · show (a + 1 * (x 0).val) / 256 = _; simp only [Nat.one_mul]; exact h1
  · show (b + 1 * (x 0).val) / 256 = _; simp only [Nat.one_mul]; exact h2
  · rfl
  · show (a + 1 * (x 0).val) % 256 = (b + 1 * (x 0).val) % 256; simp only [Nat.one_mul]; exact h4

/-! ## The invariants of all cells -/

/-- A device's cells in use: its thirty-six transfer semaphores and the barrier. -/
abbrev osem : Fin 36 → SemLoc sig := fun k => .dma (⟨k.val + 6, Nat.add_lt_add_right k.isLt 6⟩ : Fin 42)
abbrev csem : Fin 37 → SemLoc sig := fun k => if h : k.val < 36 then osem ⟨k.val, h⟩ else .reg barS
abbrev kcell (ck : Dev nD × Fin 37) : GSem nD τ sig := ((ck.1 : Thread nD τ), csem ck.2)

theorem csem_bar : csem 36 = .reg barS := rfl
theorem csem_snd (j : Fin 17) : ∃ k, csem k = .dma (tr j).snd := by revert j; decide
theorem csem_rcv (j : Fin 17) : ∃ k, csem k = .dma (tr j).rcv := by revert j; decide

/-- Every cell's invariant under the names `K`, every cell at its first round, and the levels: what all devices know. -/
def know (K : Dev nD × Fin 37 → ℕ) : sProp 𝕄 :=
  iprop((bigSep Finset.univ fun ck : Dev nD × Fin 37 => cellInv ER (sched m) (K ck) (kcell ck))
    ∗ (bigSep Finset.univ fun ck : Dev nD × Fin 37 => reached ER (kcell ck) 0) ∗ levAts L lv)

instance know_persistent (K : Dev nD × Fin 37 → ℕ) : BI.Persistent (know m K) := by unfold know; infer_instance

variable (K : Dev nD × Fin 37 → ℕ)

theorem know_cell (ck : Dev nD × Fin 37) {g : GSem nD τ sig} (h : kcell ck = g) :
    know m K ⊢ iprop(cellInv ER (sched m) (K ck) g ∗ reached ER g 0) := by
  subst h
  have h1 : (bigSep Finset.univ fun ck : Dev nD × Fin 37 => (cellInv ER (sched m) (K ck) (kcell ck) : sProp 𝕄)) ⊢ cellInv ER (sched m) (K ck) (kcell ck) :=
    bigSep_elim (Finset.mem_univ ck)
  have h2 : (bigSep Finset.univ fun ck : Dev nD × Fin 37 => (reached ER (kcell ck) 0 : sProp 𝕄)) ⊢ reached ER (kcell ck) 0 :=
    bigSep_elim (Finset.mem_univ ck)
  unfold know
  iintro ⟨#H1, #H2, -⟩
  isplitr
  · iapply h1; iexact H1
  · iapply h2; iexact H2

theorem know_lev : know m K ⊢ (levAts L lv : sProp 𝕄) := by
  unfold know; iintro ⟨-, -, H⟩; iexact H

theorem know_bar (c : Dev nD) : know m K ⊢ iprop(∃ κ, cellInv ER (sched m) κ (barC c) ∗ reached ER (barC c) 0) :=
  (know_cell m K (c, 36) rfl).trans (by iintro H; iexists _; iexact H)
theorem know_snd (j : Fin 17) (c : Dev nD) : know m K ⊢ iprop(∃ κ, cellInv ER (sched m) κ (sC j c) ∗ reached ER (sC j c) 0) := by
  obtain ⟨k, hk⟩ := csem_snd j
  exact (know_cell m K (c, k) (by unfold kcell; rw [hk])).trans (by iintro H; iexists _; iexact H)
theorem know_rcv (j : Fin 17) (c : Dev nD) : know m K ⊢ iprop(∃ κ, cellInv ER (sched m) κ (rC j c) ∗ reached ER (rC j c) 0) := by
  obtain ⟨k, hk⟩ := csem_rcv j
  exact (know_cell m K (c, k) (by unfold kcell; rw [hk])).trans (by iintro H; iexists _; iexact H)

/-! ## Around one transfer -/

/-- Before transfer `j` starts at `c`: the two tokens it pays with, `c`'s place on its two cells, and the credit for
    the neighbour's copy. -/
def Res (j : Fin 17) (c : Dev nD) : sProp 𝕄 :=
  iprop(dutyTok ER (sC j c) 0 0 ∗ dutyTok ER (rC j (px (tr j).k c)) 0 0 ∗ atPos ER (sC j c) 0 ∅ 0 ∗ atPos ER (rC j c) 0 ∅ 0
    ∗ cred (tallyAt (rC j c) () (amt j)))
/-- While it is in flight; -/
def Fly (j : Fin 17) (c : Dev nD) : sProp 𝕄 :=
  iprop(cred (tallyAt (sC j c) () (amt j)) ∗ atPos ER (sC j c) 0 ∅ 0 ∗ atPos ER (rC j c) 0 ∅ 0 ∗ cred (tallyAt (rC j c) () (amt j)))
/-- once its own end is through; -/
def Mid (j : Fin 17) (c : Dev nD) : sProp 𝕄 :=
  iprop(atPos ER (sC j c) 1 ∅ 0 ∗ atPos ER (rC j c) 0 ∅ 0 ∗ cred (tallyAt (rC j c) () (amt j)))
/-- once both ends are. -/
def Done (j : Fin 17) (c : Dev nD) : sProp 𝕄 :=
  iprop(atPos ER (sC j c) 1 ∅ 0 ∗ atPos ER (rC j c) 1 ∅ 0)

theorem srcPts_Q (j : Fin 17) (c : Dev nD) {a : ℕ} {sz} (ia) (hQ : (tr j).isQ = true) (ha : (tr j).src = a) (hw : (tr j).w = sz 1) (h0 : sz 0 = 512) :
    srcPts m j c = ((qS a sz ia).view.loc (c : Thread nD τ) ↦[(qS a sz ia).view.set]{shr j} WQ m c) := by
  unfold srcPts; rw [if_pos hQ]; unfold ptsQ; rw [ha, hw, ← qS_set a sz ia h0]
theorem dstPts_Q (j : Fin 17) (c : Dev nD) {b : ℕ} {sz} (ib) (hQ : (tr j).isQ = true) (hb : (tr j).dst = b) (hw : (tr j).w = sz 1) (h0 : sz 0 = 512) :
    dstPts m j c = ((qS b sz ib).view.loc (c : Thread nD τ) ↦[(qS b sz ib).view.set]{fullShare} WQ m c) := by
  unfold dstPts; rw [if_pos hQ]; unfold ptsQ; rw [hb, hw, ← qS_set b sz ib h0]
theorem dstAny_Q (j : Fin 17) (c : Dev nD) {b : ℕ} {sz} (ib) (hQ : (tr j).isQ = true) (hb : (tr j).dst = b) (hw : (tr j).w = sz 1) (h0 : sz 0 = 512) :
    dstAny (F := F) j c ⊢ iprop(∃ f, (qS b sz ib).view.loc (c : Thread nD τ) ↦[(qS b sz ib).view.set]{fullShare} f) := by
  unfold dstAny; rw [if_pos hQ]; unfold ptsQ; rw [hb, hw, ← qS_set b sz ib h0]
theorem srcPts_O (j : Fin 17) (c : Dev nD) {a : ℕ} {sz} (ia) (hQ : (tr j).isQ = false) (ha : (tr j).src = a) (hw : (tr j).w = sz 0) (h0 : sz 1 = 512) :
    srcPts m j c = ((oS a sz ia).view.loc (c : Thread nD τ) ↦[(oS a sz ia).view.set]{shr j} WO m c) := by
  unfold srcPts; rw [if_neg (by rw [hQ]; decide)]; unfold ptsO; rw [ha, hw, ← oS_set a sz ia h0]
theorem dstPts_O (j : Fin 17) (c : Dev nD) {b : ℕ} {sz} (ib) (hQ : (tr j).isQ = false) (hb : (tr j).dst = b) (hw : (tr j).w = sz 0) (h0 : sz 1 = 512) :
    dstPts m j c = ((oS b sz ib).view.loc (c : Thread nD τ) ↦[(oS b sz ib).view.set]{fullShare} WO m c) := by
  unfold dstPts; rw [if_neg (by rw [hQ]; decide)]; unfold ptsO; rw [hb, hw, ← oS_set b sz ib h0]
theorem dstAny_O (j : Fin 17) (c : Dev nD) {b : ℕ} {sz} (ib) (hQ : (tr j).isQ = false) (hb : (tr j).dst = b) (hw : (tr j).w = sz 0) (h0 : sz 1 = 512) :
    dstAny (F := F) j c ⊢ iprop(∃ f, (oS b sz ib).view.loc (c : Thread nD τ) ↦[(oS b sz ib).view.set]{fullShare} f) := by
  unfold dstAny; rw [if_neg (by rw [hQ]; decide)]; unfold ptsO; rw [hb, hw, ← oS_set b sz ib h0]

section Rules

variable (c : Dev nD) (W : Waits sig Unit)

/-- Starting a transfer of columns. -/
theorem wp_sndQ (j : Fin 17) (n : Dev nD) (hn : n = px (tr j).k c) {a b : ℕ} {sz} {ia} {ib} {sS rS : DmaSem sig}
    (hQ : (tr j).isQ = true) (ha : (tr j).src = a) (hb : (tr j).dst = b) (hw : (tr j).w = sz 1) (h0 : sz 0 = 512)
    (hs : (tr j).snd = sS) (hr : (tr j).rcv = rS) (hN : (qS b sz ib).view.dmaCredit = amt j)
    (o : ℕ) (ho : owe c o = owe c (o + 1) + tallyAt (rC j (px (tr j).k c)) () (amt j))
    {hsc : (qS b sz ib : Memref sig (Dev.tc n : Thread nD τ).2.kind .vmem ⟨2, sz⟩ .bf16).view.ref.isScScratch = false}
    {hsrc : (qS a sz ia).view.WordExact} {hdst : (qS b sz ib).view.WordExact}
    {hsem : DmaTarget.Typed .vmem (.dma rS) (.remote (Dev.tc n : Thread nD τ) (qS b sz ib) (.dma sS) hsc)}
    {α : Type} {Kt : α → sProp 𝕄} {k : PUnit → Prog (TpuEff nD τ sig (Elt F) Λ₀ .tc) α} :
    know m K ⊢ iprop(Res j c -∗ srcPts m j c -∗ dstAny j (px (tr j).k c) -∗ owes (c : Thread nD τ) (owe c o) W
      -∗ ((Fly j c ∗ owes (c : Thread nD τ) (owe c (o + 1)) W) -∗ wp frame (wpE (defs₀ (F := F)) 𝒱₀ (c : Thread nD τ) none) Set.univ (k ⟨⟩) Kt)
      -∗ wp frame (wpE (defs₀ (F := F)) 𝒱₀ (c : Thread nD τ) none) Set.univ
          (.op (.enqueueDma (qS a sz ia) (.remote (Dev.tc n : Thread nD τ) (qS b sz ib) (.dma sS) hsc) (.dma rS) hsrc hdst hsem) k) Kt) := by
  subst hn hs hr
  iintro #HK Hres Hsrc Hdst HO Hk
  icases (know_snd m K j c) $$ HK with ⟨%κ₁, #HI1, #HR1⟩
  icases (know_rcv m K j (px (tr j).k c)) $$ HK with ⟨%κ₂, #HI2, #HR2⟩
  unfold Res
  icases Hres with ⟨Ht1, Ht2, Hp1, Hp2, Hc⟩
  ihave Hsrc := (Entails.of_eq (srcPts_Q m j c ia hQ ha hw h0)) $$ Hsrc
  ihave Hdst := (dstAny_Q j (px (tr j).k c) ib hQ hb hw h0) $$ Hdst
  icases Hdst with ⟨%fd, Hdst⟩
  iapply (Rounds.wp_send_pointsTo 𝒱₀ ER (sched m) (c : Thread nD τ) none (sS := .dma (tr j).snd) (sem := .dma (tr j).rcv) (κ₁ := κ₁) (κ₂ := κ₂)
    (r₁ := 0) (r₂ := 0) (d₁ := 0) (d₂ := 0) (fd := fd)
    (by rw [duties_snd]; exact Finset.mem_singleton_self _) (by rw [duties_rcv]; exact Finset.mem_singleton_self _)
    () () (amt j) hN (amount_snd m c j 0) (amount_rcv m (px (tr j).k c) j 0) (owe c (o + 1)) ho (W := W)
    (by rw [payload_snd, srcPts_Q m j c ia hQ ha hw h0])
    (by rw [payload_rcv, dstPts_Q m j _ ib hQ hb hw h0]
        exact Entails.of_eq (pointsTo_congr (land_Q m j c ha hb hw fd)))) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hcs, HO⟩
  iapply Hk
  isplitr [HO]
  · unfold Fly
    isplitl [Hcs]; · iexact Hcs
    isplitl [Hp1]; · iexact Hp1
    isplitl [Hp2]; · iexact Hp2
    iexact Hc
  · iexact HO

/-- Starting a transfer of rows. -/
theorem wp_sndO (j : Fin 17) (n : Dev nD) (hn : n = px (tr j).k c) {a b : ℕ} {sz} {ia} {ib} {sS rS : DmaSem sig}
    (hQ : (tr j).isQ = false) (ha : (tr j).src = a) (hb : (tr j).dst = b) (hw : (tr j).w = sz 0) (h0 : sz 1 = 512)
    (hs : (tr j).snd = sS) (hr : (tr j).rcv = rS) (hN : (oS b sz ib).view.dmaCredit = amt j)
    (o : ℕ) (ho : owe c o = owe c (o + 1) + tallyAt (rC j (px (tr j).k c)) () (amt j))
    {hsc : (oS b sz ib : Memref sig (Dev.tc n : Thread nD τ).2.kind .vmem ⟨2, sz⟩ .bf16).view.ref.isScScratch = false}
    {hsrc : (oS a sz ia).view.WordExact} {hdst : (oS b sz ib).view.WordExact}
    {hsem : DmaTarget.Typed .vmem (.dma rS) (.remote (Dev.tc n : Thread nD τ) (oS b sz ib) (.dma sS) hsc)}
    {α : Type} {Kt : α → sProp 𝕄} {k : PUnit → Prog (TpuEff nD τ sig (Elt F) Λ₀ .tc) α} :
    know m K ⊢ iprop(Res j c -∗ srcPts m j c -∗ dstAny j (px (tr j).k c) -∗ owes (c : Thread nD τ) (owe c o) W
      -∗ ((Fly j c ∗ owes (c : Thread nD τ) (owe c (o + 1)) W) -∗ wp frame (wpE (defs₀ (F := F)) 𝒱₀ (c : Thread nD τ) none) Set.univ (k ⟨⟩) Kt)
      -∗ wp frame (wpE (defs₀ (F := F)) 𝒱₀ (c : Thread nD τ) none) Set.univ
          (.op (.enqueueDma (oS a sz ia) (.remote (Dev.tc n : Thread nD τ) (oS b sz ib) (.dma sS) hsc) (.dma rS) hsrc hdst hsem) k) Kt) := by
  subst hn hs hr
  iintro #HK Hres Hsrc Hdst HO Hk
  icases (know_snd m K j c) $$ HK with ⟨%κ₁, #HI1, #HR1⟩
  icases (know_rcv m K j (px (tr j).k c)) $$ HK with ⟨%κ₂, #HI2, #HR2⟩
  unfold Res
  icases Hres with ⟨Ht1, Ht2, Hp1, Hp2, Hc⟩
  ihave Hsrc := (Entails.of_eq (srcPts_O m j c ia hQ ha hw h0)) $$ Hsrc
  ihave Hdst := (dstAny_O j (px (tr j).k c) ib hQ hb hw h0) $$ Hdst
  icases Hdst with ⟨%fd, Hdst⟩
  iapply (Rounds.wp_send_pointsTo 𝒱₀ ER (sched m) (c : Thread nD τ) none (sS := .dma (tr j).snd) (sem := .dma (tr j).rcv) (κ₁ := κ₁) (κ₂ := κ₂)
    (r₁ := 0) (r₂ := 0) (d₁ := 0) (d₂ := 0) (fd := fd)
    (by rw [duties_snd]; exact Finset.mem_singleton_self _) (by rw [duties_rcv]; exact Finset.mem_singleton_self _)
    () () (amt j) hN (amount_snd m c j 0) (amount_rcv m (px (tr j).k c) j 0) (owe c (o + 1)) ho (W := W)
    (by rw [payload_snd, srcPts_O m j c ia hQ ha hw h0])
    (by rw [payload_rcv, dstPts_O m j _ ib hQ hb hw h0]
        exact Entails.of_eq (pointsTo_congr (land_O m j c ha hb hw fd)))) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hcs, HO⟩
  iapply Hk
  isplitr [HO]
  · unfold Fly
    isplitl [Hcs]; · iexact Hcs
    isplitl [Hp1]; · iexact Hp1
    isplitl [Hp2]; · iexact Hp2
    iexact Hc
  · iexact HO

/-- Waiting for the near end of transfer `j`: the lent share of the source comes back. -/
theorem wp_ws (j : Fin 17) {sS : DmaSem sig} (hs : (tr j).snd = sS) (o b : ℕ)
    (hlev : ∀ x ∈ (bills c).drop o, x.1.1.2 = .tc ∧ b < lvS x.1.2)
    {s₁ s₂ : Shape} {e₁ e₂ : EltTy} {sp₁ sp₂ : Space} {v₁ : Memref sig .tc sp₁ s₁ e₁} {v₂ : Memref sig .tc sp₂ s₂ e₂}
    {h₁ h₂} (hN₁ : v₂.view.dmaCredit = amt j)
    {α : Type} {Kt : α → sProp 𝕄} {k : PUnit → Prog (TpuEff nD τ sig (Elt F) Λ₀ .tc) α} :
    know m K ⊢ iprop(Fly j c -∗ owes (c : Thread nD τ) (owe c o) W
      -∗ ((∃ W', (Mid j c ∗ srcPts m j c) ∗ owes (c : Thread nD τ) (owe c o) W') -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sS v₁ v₂ h₁ h₂) k) Kt) := by
  subst hs
  iintro #HK Hfly HO Hk
  icases (know_snd m K j c) $$ HK with ⟨%κ₁, #HI1, -⟩
  ihave #Hlev := (know_lev m K) $$ HK
  unfold Fly
  icases Hfly with ⟨Hc1, Hp1, Hp2, Hc2⟩
  iapply (Rounds.wp_wait_rest_token 𝒱₀ ER (sched m) (c : Thread nD τ) none (κ := κ₁)
      (wpE_waitDma2_eq 𝒱₀ (c : Thread nD τ) none Set.univ) (Set.mem_univ _) () (O := owe c o) (W := W) (R := 0) (m := 0) (T := ∅)
      (by rw [Nat.zero_add, expect_snd]; exact hN₁)) $$ [Hc1 HO Hp1]
  · isplitr; · iexact HI1
    isplitl [Hc1]; · rw [hN₁]; iexact Hc1
    isplitl [HO]; · iexact HO
    isplitr
    · iapply (mayWait_of c (.dma (tr j).snd) o b (by dsimp only [lvS]; rw [role_snd]; exact Nat.zero_le _) hlev); iexact Hlev
    iexact Hp1
  iintro ⟨HO, Hp1, -, Hpay1⟩
  ihave Hsrc := (Entails.of_eq (rest_snd m c j)) $$ Hpay1
  iapply Hk
  iexists _
  isplitr [HO]
  · unfold Mid
    isplitr [Hsrc]
    · isplitl [Hp1]; · iexact Hp1
      isplitl [Hp2]; · iexact Hp2
      iexact Hc2
    iexact Hsrc
  · iexact HO

/-- Waiting for the neighbour's copy of transfer `j`: its piece has arrived. -/
theorem wp_wr (j : Fin 17) {rS : DmaSem sig} (hr : (tr j).rcv = rS) (o b : ℕ)
    (hlev : ∀ x ∈ (bills c).drop o, x.1.1.2 = .tc ∧ b < lvS x.1.2) (hb : lvS (.dma rS) ≤ b)
    {s₁ s₂ : Shape} {e₁ e₂ : EltTy} {sp₁ sp₂ : Space} {v₁ : Memref sig .tc sp₁ s₁ e₁} {v₂ : Memref sig .tc sp₂ s₂ e₂}
    {h₁ h₂} (hN₁ : v₂.view.dmaCredit = amt j)
    {α : Type} {Kt : α → sProp 𝕄} {k : PUnit → Prog (TpuEff nD τ sig (Elt F) Λ₀ .tc) α} :
    know m K ⊢ iprop(Mid j c -∗ owes (c : Thread nD τ) (owe c o) W
      -∗ ((∃ W', (Done j c ∗ dstPts m j c) ∗ owes (c : Thread nD τ) (owe c o) W') -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 rS v₁ v₂ h₁ h₂) k) Kt) := by
  subst hr
  iintro #HK Hfly HO Hk
  icases (know_rcv m K j c) $$ HK with ⟨%κ₂, #HI2, -⟩
  ihave #Hlev := (know_lev m K) $$ HK
  unfold Mid
  icases Hfly with ⟨Hp1, Hp2, Hc2⟩
  iapply (Rounds.wp_wait_rest_token 𝒱₀ ER (sched m) (c : Thread nD τ) none (κ := κ₂)
      (wpE_waitDma2_eq 𝒱₀ (c : Thread nD τ) none Set.univ) (Set.mem_univ _) () (O := owe c o) (W := W) (R := 0) (m := 0) (T := ∅)
      (by rw [Nat.zero_add, expect_rcv]; exact hN₁)) $$ [Hc2 HO Hp2]
  · isplitr; · iexact HI2
    isplitl [Hc2]; · rw [hN₁]; iexact Hc2
    isplitl [HO]; · iexact HO
    isplitr
    · iapply (mayWait_of c (.dma (tr j).rcv) o b hb hlev); iexact Hlev
    iexact Hp2
  iintro ⟨HO, Hp2, -, Hpay2⟩
  ihave Hdst := (Entails.of_eq (rest_rcv m c j)) $$ Hpay2
  iapply Hk
  iexists _
  isplitr [HO]
  · unfold Done
    isplitl [Hp1 Hp2]
    · isplitl [Hp1]; · iexact Hp1
      iexact Hp2
    iexact Hdst
  · iexact HO

/-- Arriving at the neighbour across mask `i`, handing it the regions it will write here. -/
theorem wp_arrive (i : Fin 3) (n : Dev nD) (hn : n = px (msk i) c) (o : ℕ) (ho : owe c o = owe c (o + 1) + tallyAt (barC (px (msk i) c)) () 1)
    {α : Type} {Kt : α → sProp 𝕄} {k : PUnit → Prog (TpuEff nD τ sig (Elt F) Λ₀ .tc) α} :
    know m K ⊢ iprop(dutyTok ER (barC (px (msk i) c)) 0 i -∗ barPay i c -∗ owes (c : Thread nD τ) (owe c o) W
      -∗ (owes (c : Thread nD τ) (owe c (o + 1)) W -∗ wp frame (wpE (defs₀ (F := F)) 𝒱₀ (c : Thread nD τ) none) Set.univ (k ⟨⟩) Kt)
      -∗ wp frame (wpE (defs₀ (F := F)) 𝒱₀ (c : Thread nD τ) none) Set.univ (semSignalWord n barS 1#32 >>= k) Kt) := by
  subst hn
  simp only [semSignalWord, Prog.lift, Prog.bind_op, Prog.bind_ret]
  iintro #HK Ht Hpay HO Hk
  icases (know_bar m K (px (msk i) c)) $$ HK with ⟨%κ, #HI, #HR⟩
  iapply (Rounds.wp_signal 𝒱₀ ER (sched m) (c : Thread nD τ) none (dst := (px (msk i) c : Thread nD τ)) (κ := κ)
      (d := i) (by rw [duties_bar]; exact Finset.mem_univ _) ((amount_bar m (px (msk i) c) i).trans (by decide)) () (owe c (o + 1)) ho)
    $$ [HO Ht Hpay]
  · isplitr; · iexact HI
    isplitl [HO]; · iexact HO
    isplitl [Ht]; · iexact Ht
    isplitl [Hpay]; · rw [payload_bar, px_px]; iexact Hpay
    iexact HR
  iexact Hk

/-- Waiting for the three neighbours to arrive. -/
theorem wp_meet {α : Type} {Kt : α → sProp 𝕄} {k : PUnit → Prog (TpuEff nD τ sig (Elt F) Λ₀ .tc) α} :
    know m K ⊢ iprop(cred (tallyAt (barC c) () 3) -∗ atPos ER (barC c) 0 ∅ 0 -∗ owes (c : Thread nD τ) (owe c 3) W
      -∗ ((∃ W', (atPos ER (barC c) 1 ∅ 0 ∗ barPay 0 (px 1 c) ∗ barPay 1 (px 3 c) ∗ barPay 2 (px 4 c)) ∗ owes (c : Thread nD τ) (owe c 3) W')
          -∗ wp frame (wpE (defs₀ (F := F)) 𝒱₀ (c : Thread nD τ) none) Set.univ (k ⟨⟩) Kt)
      -∗ wp frame (wpE (defs₀ (F := F)) 𝒱₀ (c : Thread nD τ) none) Set.univ (semWaitWord barS 3#32 >>= k) Kt) := by
  simp only [semWaitWord, Prog.lift, Prog.bind_op, Prog.bind_ret]
  iintro #HK Hc Hp HO Hk
  icases (know_bar m K c) $$ HK with ⟨%κ, #HI, -⟩
  ihave #Hlev := (know_lev m K) $$ HK
  iapply (Rounds.wp_wait_rest_token 𝒱₀ ER (sched m) (c : Thread nD τ) none (κ := κ)
      (wpE_semWait_eq 𝒱₀ (c : Thread nD τ) none Set.univ) (Set.mem_univ _) () (O := owe c 3) (W := W) (R := 0) (m := 0) (T := ∅)
      (by rw [expect_bar]; decide)) $$ [Hc HO Hp]
  · isplitr; · iexact HI
    isplitl [Hc]; · iexact Hc
    isplitl [HO]; · iexact HO
    isplitr; · iapply (mayWait_of c (.reg barS) 3 1 (Nat.le_refl 1) (bills_above c).2.1); iexact Hlev
    iexact Hp
  iintro ⟨HO, Hp, -, Hpay⟩
  ihave Hpay := (Entails.of_eq (rest_bar m c)) $$ Hpay
  iapply Hk
  iexists _
  isplitr [HO]
  · isplitl [Hp]; · iexact Hp
    iexact Hpay
  · iexact HO

/-- At the end the two counters of transfer `j` are back, at zero. -/
theorem close_both (j : Fin 17) : know m K ⊢ iprop(Done j c -∗ |={Set.univ}=> (semVal (sC j c) 0 ∗ semVal (rC j c) 0)) := by
  iintro #HK Hd
  icases (know_snd m K j c) $$ HK with ⟨%κ₁, #HI1, -⟩
  icases (know_rcv m K j c) $$ HK with ⟨%κ₂, #HI2, -⟩
  unfold Done
  icases Hd with ⟨H1, H2⟩
  imod (Rounds.cell_close ER (sched m) (Set.mem_univ κ₁) (fun h => h) (R := 0 + 1) (duties_later m (sC j c))) $$ [H1] with Hz1
  · isplitr; · iexact HI1
    iexact H1
  imod (Rounds.cell_close ER (sched m) (Set.mem_univ κ₂) (fun h => h) (R := 0 + 1) (duties_later m (rC j c))) $$ [H2] with Hz2
  · isplitr; · iexact HI2
    iexact H2
  imodintro
  isplitl [Hz1]; · iexact Hz1
  iexact Hz2

end Rules

end Cert.Wk
end
-- ==== Proof.Local.lean ====
/-
# The local work

What the loops leave in the device's own buffers.
-/
module

public import proofs.«01_k».proof.Proof.Loops
public import proofs.«01_k».proof.Proof.Steps

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- From `P`, running `p` on device `c` ends in `Q`. -/
abbrev Run (c : Dev nD) {α : Type} (P : sProp 𝕄) (p : Prog (TpuEff nD τ sig (Elt F) Λ₀ .tc) α) (Q : α → sProp 𝕄) : Prop :=
  P ⊢ wp frame (wpE (defs₀ (F := F)) 𝒱₀ (c : Thread nD τ) none) Set.univ p Q

theorem Run.bind {c : Dev nD} {α β : Type} {P : sProp 𝕄} {p : Prog (TpuEff nD τ sig (Elt F) Λ₀ .tc) α} {R : α → sProp 𝕄}
    {k : α → Prog (TpuEff nD τ sig (Elt F) Λ₀ .tc) β} {Q : β → sProp 𝕄}
    (h1 : Run c P p R) (h2 : ∀ x, Run c (R x) (k x) Q) : Run c P (p >>= k) Q := by
  show _ ⊢ _
  rw [wp_bind]
  exact h1.trans (wp_mono _ _ _ h2)

theorem Run.pre {c : Dev nD} {α : Type} {P P' : sProp 𝕄} {p : Prog (TpuEff nD τ sig (Elt F) Λ₀ .tc) α} {Q : α → sProp 𝕄}
    (h : P ⊢ P') (h1 : Run c P' p Q) : Run c P p Q := h.trans h1

theorem Run.framed {c : Dev nD} {α : Type} {P R : sProp 𝕄} {p : Prog (TpuEff nD τ sig (Elt F) Λ₀ .tc) α} {Q : α → sProp 𝕄}
    (h1 : Run c P p Q) : Run c iprop(P ∗ R) p (fun x => iprop(Q x ∗ R)) :=
  (sep_mono_left h1).trans (wp_frame_r _ _ _)

theorem Run.loop {c : Dev nD} {f : ℕ → PR F PUnit} (I : ℕ → sProp 𝕄) (L N : ℕ) (h : ∀ i, L ≤ i → i < N → Run c (I i) (f i) (fun _ => I (i + 1))) (n : ℕ) :
    ∀ s, L ≤ s → s + n ≤ N → Run c (I s) (Wk.loop f s n) (fun _ => I (s + n)) := by
  induction n with
  | zero => intro s _ _; exact fupd_intro
  | succ n ih =>
    intro s hl hs
    refine Run.bind (h s hl (by omega)) fun _ => ?_
    have := ih (s + 1) (by omega) (by omega)
    rwa [Nat.add_assoc, Nat.add_comm 1 n] at this

/-! ## Buffers known in part -/

/-- The buffer of `M` whole, its contents known to be `G`'s at the places of `P`. -/
def held {s : Shape} {e : EltTy} (M : Memref sig .tc .vmem s e) (c : Dev nD) (G : Buf (Elt F) (M.view.loc (c : Thread nD τ)))
    (P : Idx (M.view.loc (c : Thread nD τ)) → Prop) : sProp 𝕄 :=
  iprop(∃ f, ⌜∀ i, P i → f i = G i⌝ ∗ (M.view.loc (c : Thread nD τ)) ↦{fullShare} f)

theorem held_mono {s : Shape} {e : EltTy} (M : Memref sig .tc .vmem s e) (c : Dev nD) (G G' : Buf (Elt F) (M.view.loc (c : Thread nD τ)))
    (P P' : Idx (M.view.loc (c : Thread nD τ)) → Prop) (h : ∀ i, P' i → P i ∧ G i = G' i) : held M c G P ⊢ held M c G' P' := by
  unfold held
  iintro ⟨%f, %hf, H⟩
  iexists f
  isplitr
  · ipureintro; intro i hi; rw [hf i (h i hi).1, (h i hi).2]
  · iexact H

section rules
variable {s : Shape} {e : EltTy} (M : Memref sig .tc .vmem s e) (c : Dev nD) (r : Rect s)

/-- A load, of which the elements at known places are known. -/
theorem wp_ld {α : Type} {Kt : α → sProp 𝕄} {hl} {k : (r.shape.Idx → Elt F e) → Prog (TpuEff nD τ sig (Elt F) Λ₀ .tc) α} (G P) :
    held M c G P ⊢ iprop((∀ v, ⌜∀ x, P ((M.access r).emb x) → v x = (M.access r).read (Elt F) G x⌝ -∗ held M c G P
        -∗ wp frame (wpE (defs₀ (F := F)) 𝒱₀ (c : Thread nD τ) none) Set.univ (k v) Kt)
      -∗ wp frame (wpE (defs₀ (F := F)) 𝒱₀ (c : Thread nD τ) none) Set.univ (.op (.load M r.toLoadRect hl) k) Kt) := by
  iintro H Hk
  unfold held
  icases H with ⟨%f, %hf, H⟩
  iapply (wp_load_rect 𝒱₀ (c : Thread nD τ) none Set.univ (m := M) (r := r) (Finset.subset_univ _)) $$ H
  iintro H
  iapply Hk $$ %((M.access r).read (Elt F) f) [] [H]
  · ipureintro; intro x hx; exact View.read_congr_at (v := M.access r) x (hf _ hx)
  · iexists f
    isplitr
    · ipureintro; exact hf
    · iexact H

/-- A store of the wanted elements. -/
theorem wp_st {α : Type} {Kt : α → sProp 𝕄} {w : r.shape.Idx → Elt F e} {hx hm} {k : PUnit → Prog (TpuEff nD τ sig (Elt F) Λ₀ .tc) α} (G P P')
    (hw : (∀ i, P' i → P i ∨ ∃ x, (M.access r).emb x = i) ∧ ∀ x, P' ((M.access r).emb x) → w x = (M.access r).read (Elt F) G x) :
    held M c G P ⊢ iprop((held M c G P'
        -∗ wp frame (wpE (defs₀ (F := F)) 𝒱₀ (c : Thread nD τ) none) Set.univ (k ⟨⟩) Kt)
      -∗ wp frame (wpE (defs₀ (F := F)) 𝒱₀ (c : Thread nD τ) none) Set.univ (.op (.store M r w Finset.univ hx hm) k) Kt) := by
  iintro H Hk
  unfold held
  icases H with ⟨%f, %hf, H⟩
  iapply (wp_store 𝒱₀ (c : Thread nD τ) none Set.univ (m := M) (r := r) (Finset.subset_univ _)) $$ H
  iintro H
  iapply Hk
  iexists _
  isplitr
  swap
  · iexact H
  ipureintro
  intro i hi
  by_cases h : ∃ x, (M.access r).emb x = i
  · obtain ⟨x, rfl⟩ := h
    rw [View.write_emb_of_mem _ _ (Finset.mem_univ _), hw.2 x hi, View.read_apply, cast_cast, cast_eq]
  · rw [View.write_of_not_mem]
    · exact hf i ((hw.1 i hi).resolve_right h)
    · intro hm; obtain ⟨x, -, hx⟩ := Finset.mem_map.mp hm; exact h ⟨x, hx⟩

/-- A load whose result does not matter. -/
theorem wp_dead {α : Type} {Kt : α → sProp 𝕄} {hl} {k : (r.shape.Idx → Elt F e) → Prog (TpuEff nD τ sig (Elt F) Λ₀ .tc) α} (G P) :
    held M c G P ⊢ iprop((∀ v, held M c G P -∗ wp frame (wpE (defs₀ (F := F)) 𝒱₀ (c : Thread nD τ) none) Set.univ (k v) Kt)
      -∗ wp frame (wpE (defs₀ (F := F)) 𝒱₀ (c : Thread nD τ) none) Set.univ (.op (.load M r.toLoadRect hl) k) Kt) := by
  iintro H Hk
  iapply (wp_ld M c r G P) $$ H
  iintro %v - H
  iapply Hk $$ %v H

end rules

/-- A place inside the rectangle is one the access reaches. -/
theorem emb_ex (b : Ref sig .tc) {off size : Fin b.ty.shape.rank → ℕ} (inb) (i : b.ty.shape.Idx)
    (h : ∀ a, off a ≤ (i a).val ∧ (i a).val < off a + size a) :
    ∃ x, ((Memref.whole b).access (Rect.unit off size inb)).emb x = i :=
  ⟨fun a => ⟨(i a).val - off a, by have := h a; show _ < size a; omega⟩, funext fun a => Fin.ext (by
    show off a + 1 * ((i a).val - off a) = (i a).val
    have := h a; omega)⟩

/-! ## Keys and values by head -/

def numK (i : S8x8x128x64.Idx) : Fin 64 := ⟨(i 0).val * 8 + (i 1).val, by
  have h0 : (i 0).val < 8 := (i 0).isLt
  have h1 : (i 1).val < 8 := (i 1).isLt
  omega⟩
def locK (i : S8x8x128x64.Idx) : S1x1x128x64.Idx := fun a => match a with
  | ⟨0, _⟩ => (0 : Fin 1)
  | ⟨1, _⟩ => (0 : Fin 1)
  | ⟨2, _⟩ => ⟨(i 2).val, (i 2).isLt⟩
  | ⟨3, _⟩ => ⟨(i 3).val, (i 3).isLt⟩
/-- Head `n` of an input, cast. -/
def headOf (S : S2x128x32x64.Idx → F .f32) (n : Fin 64) (x : S1x1x128x64.Idx) : F .bf16 :=
  k0_pay6 (fun y => S ((rSrc n).emb y)) x
/-- All heads, chunk by chunk. -/
def CM (S : S2x128x32x64.Idx → F .f32) (i : S8x8x128x64.Idx) : F .bf16 := headOf S (numK i) (locK i)

theorem emb_rDst (n : Fin 64) (x : S1x1x128x64.Idx) : numK ((rDst n).emb x) = n ∧ locK ((rDst n).emb x) = x := by
  have h0 : (x 0).val < 1 := (x 0).isLt
  have h1 : (x 1).val < 1 := (x 1).isLt
  constructor
  · apply Fin.ext
    show (n.val / 8 + 1 * (x 0).val) * 8 + (n.val % 8 + 1 * (x 1).val) = n.val
    omega
  · funext a
    apply Fin.ext
    fin_cases a
    · show 0 = (x 0).val; omega
    · show 0 = (x 1).val; omega
    · show 0 + 1 * (x 2).val = (x 2).val; omega
    · show 0 + 1 * (x 3).val = (x 3).val; omega

theorem CM_tile (S : S2x128x32x64.Idx → F .f32) (n : Fin 64) (x : S1x1x128x64.Idx) : CM S ((rDst n).emb x) = headOf S n x := by
  unfold CM; rw [(emb_rDst n x).1, (emb_rDst n x).2]

/-- One head's copy. -/
theorem cpHead_run (c : Dev nD) (S : Memref sig .tc .vmem S2x128x32x64 .f32) (D : Memref sig .tc .vmem S8x8x128x64 .bf16) (hD : D.IsWhole) (i : Fin 64)
    (GS GD P P')
    (hw : (∀ i', P' i' → P i' ∨ ∃ x, (D.access (rDst i)).emb x = i') ∧ ∀ x, k0_pay6 ((S.access (rSrc i)).read (Elt F) GS) x = (D.access (rDst i)).read (Elt F) GD x) :
    Run c iprop(held S c GS (fun _ => True) ∗ held D c GD P) (cpHead S D hD i) (fun _ => iprop(held S c GS (fun _ => True) ∗ held D c GD P')) := by
  unfold Run cpHead
  simp only [Prog.lift, Prog.bind_op, Prog.bind_ret]
  iintro ⟨HS, HD⟩
  iapply (wp_ld S c (rSrc i) GS (fun _ => True)) $$ HS
  iintro %v %hv HS
  iapply (wp_dead D c (rDst i) GD P) $$ HD
  iintro %_ HD
  have hv' : v = (S.access (rSrc i)).read (Elt F) GS := funext fun x => hv x trivial
  iapply (wp_st D c (rDst i) GD P P' ⟨hw.1, fun x _ => by rw [hv']; exact hw.2 x⟩) $$ HD
  iintro HD
  simp only [wp_ret]
  imodintro
  isplitl [HS]
  · iexact HS
  · iexact HD

theorem next_K (i : S8x8x128x64.Idx) (n : ℕ) (hn : n < 64) (hi : (numK i).val < n + 1) : (numK i).val < n ∨
    ∀ a : Fin 4, (![(Fin.ofNat 64 n).val / 8, (Fin.ofNat 64 n).val % 8, 0, 0] : Fin 4 → ℕ) a ≤ (i a).val
      ∧ (i a).val < (![(Fin.ofNat 64 n).val / 8, (Fin.ofNat 64 n).val % 8, 0, 0] : Fin 4 → ℕ) a + S1x1x128x64.size a := by
  have hn' : (Fin.ofNat 64 n).val = n := Nat.mod_eq_of_lt hn
  rcases Nat.lt_succ_iff_lt_or_eq.mp hi with h | h
  · exact .inl h
  · refine .inr ?_
    have h0 : (i 0).val < 8 := (i 0).isLt
    have h1 : (i 1).val < 8 := (i 1).isLt
    have h2 : (i 2).val < 128 := (i 2).isLt
    have h3 : (i 3).val < 64 := (i 3).isLt
    have h' : (i 0).val * 8 + (i 1).val = n := h
    rw [hn']
    intro a
    fin_cases a
    · show n / 8 ≤ (i 0).val ∧ (i 0).val < n / 8 + 1; omega
    · show n % 8 ≤ (i 1).val ∧ (i 1).val < n % 8 + 1; omega
    · show 0 ≤ (i 2).val ∧ (i 2).val < 0 + 128; omega
    · show 0 ≤ (i 3).val ∧ (i 3).val < 0 + 64; omega

theorem cpK_run (c : Dev nD) (GS : S2x128x32x64.Idx → F .f32) (n : ℕ) (hn : n < 64) :
    Run c iprop(held aK c GS (fun _ => True) ∗ held bK c (CM GS) (fun i => (numK i).val < n)) (cpHead aK bK (Memref.isWhole_whole _) (Fin.ofNat 64 n))
      (fun _ => iprop(held aK c GS (fun _ => True) ∗ held bK c (CM GS) (fun i => (numK i).val < n + 1))) :=
  cpHead_run (F := F) c aK bK _ (Fin.ofNat 64 n) GS (CM (F := F) GS) _ _
    ⟨fun i hi => (next_K i n hn hi).imp_right (emb_ex cc0_scratch3 _ i), fun x => (CM_tile (F := F) GS _ x).symm⟩

theorem cpV_run (c : Dev nD) (GS : S2x128x32x64.Idx → F .f32) (n : ℕ) (hn : n < 64) :
    Run c iprop(held aV c GS (fun _ => True) ∗ held bV c (CM GS) (fun i => (numK i).val < n)) (cpHead aV bV (Memref.isWhole_whole _) (Fin.ofNat 64 n))
      (fun _ => iprop(held aV c GS (fun _ => True) ∗ held bV c (CM GS) (fun i => (numK i).val < n + 1))) :=
  cpHead_run (F := F) c aV bV _ (Fin.ofNat 64 n) GS (CM (F := F) GS) _ _
    ⟨fun i hi => (next_K i n hn hi).imp_right (emb_ex cc0_scratch4 _ i), fun x => (CM_tile (F := F) GS _ x).symm⟩

/-! ## Chunks in slot order -/

def slotOf (i : S64x128x64.Idx) : Fin 8 := ⟨(i 0).val / 8, by have h0 : (i 0).val < 64 := (i 0).isLt; omega⟩
def locO (i : S64x128x64.Idx) : S8x128x64.Idx := fun a => match a with
  | ⟨0, _⟩ => ⟨(i 0).val % 8, Nat.mod_lt _ (by decide)⟩
  | ⟨1, _⟩ => ⟨(i 1).val, (i 1).isLt⟩
  | ⟨2, _⟩ => ⟨(i 2).val, (i 2).isLt⟩
/-- Chunk `o` of all heads. -/
def chunkIdx (o : Fin 8) (x : S1x8x128x64.Idx) : S8x8x128x64.Idx := fun a => match a with
  | ⟨0, _⟩ => o
  | ⟨1, _⟩ => ⟨(x 1).val, (x 1).isLt⟩
  | ⟨2, _⟩ => ⟨(x 2).val, (x 2).isLt⟩
  | ⟨3, _⟩ => ⟨(x 3).val, (x 3).isLt⟩
/-- The heads in the slot order of device `c`. -/
def OM (c : Dev nD) (S : S2x128x32x64.Idx → F .f32) (i : S64x128x64.Idx) : F .bf16 :=
  k0_pay134 (fun x => CM S (chunkIdx (px (slotX (slotOf i)) c) x)) (locO i)

theorem off1_eq (c : Dev nD) (s : Fin 8) : k0_off1 c (BitVec.ofNat 32 (slotX s).val) = ![(px (slotX s) c).val, 0, 0, 0] := by
  revert c s; decide

theorem emb_chk (c : Dev nD) (h : k0_cond1 c = 1#1) (s : Fin 8) (x : S1x8x128x64.Idx) : (rChk c h s).emb x = chunkIdx (px (slotX s) c) x := by
  have h0 : (x 0).val < 1 := (x 0).isLt
  funext a
  apply Fin.ext
  have e : ((rChk c h s).emb x a).val = k0_off1 c (BitVec.ofNat 32 (slotX s).val) a + 1 * (x a).val := rfl
  rw [e, off1_eq]
  fin_cases a
  · show (px (slotX s) c).val + 1 * (x 0).val = (px (slotX s) c).val; omega
  · show 0 + 1 * (x 1).val = (x 1).val; omega
  · show 0 + 1 * (x 2).val = (x 2).val; omega
  · show 0 + 1 * (x 3).val = (x 3).val; omega

theorem emb_rOrd (s : Fin 8) (x : S8x128x64.Idx) : slotOf ((rOrd s).emb x) = s ∧ locO ((rOrd s).emb x) = x := by
  have h0 : (x 0).val < 8 := (x 0).isLt
  constructor
  · apply Fin.ext
    show (8 * s.val + 1 * (x 0).val) / 8 = s.val
    omega
  · funext a
    apply Fin.ext
    fin_cases a
    · show (8 * s.val + 1 * (x 0).val) % 8 = (x 0).val; omega
    · show 0 + 1 * (x 1).val = (x 1).val; omega
    · show 0 + 1 * (x 2).val = (x 2).val; omega

theorem OM_tile (c : Dev nD) (S : S2x128x32x64.Idx → F .f32) (s : Fin 8) (x : S8x128x64.Idx) :
    OM c S ((rOrd s).emb x) = k0_pay134 (fun x => CM S (chunkIdx (px (slotX s) c) x)) x := by
  unfold OM; rw [(emb_rOrd s x).1, (emb_rOrd s x).2]

theorem next_O (i : S64x128x64.Idx) (n : ℕ) (hn : n < 8) (hi : (slotOf i).val < n + 1) : (slotOf i).val < n ∨
    ∀ a : Fin 3, (![8 * (Fin.ofNat 8 n).val, 0, 0] : Fin 3 → ℕ) a ≤ (i a).val
      ∧ (i a).val < (![8 * (Fin.ofNat 8 n).val, 0, 0] : Fin 3 → ℕ) a + S8x128x64.size a := by
  have hn' : (Fin.ofNat 8 n).val = n := Nat.mod_eq_of_lt hn
  rcases Nat.lt_succ_iff_lt_or_eq.mp hi with h | h
  · exact .inl h
  · refine .inr ?_
    have h1 : (i 1).val < 128 := (i 1).isLt
    have h2 : (i 2).val < 64 := (i 2).isLt
    have h' : (i 0).val / 8 = n := h
    rw [hn']
    intro a
    fin_cases a
    · show 8 * n ≤ (i 0).val ∧ (i 0).val < 8 * n + 8; omega
    · show 0 ≤ (i 1).val ∧ (i 1).val < 0 + 128; omega
    · show 0 ≤ (i 2).val ∧ (i 2).val < 0 + 64; omega

/-- One chunk's copy. -/
theorem cpOrd_run (c : Dev nD) (h : k0_cond1 c = 1#1) (S : Memref sig .tc .vmem S8x8x128x64 .bf16) (D : Memref sig .tc .vmem S64x128x64 .bf16) (hD : D.IsWhole)
    (s : Fin 8) (GS GD P P')
    (hw : (∀ i', P' i' → P i' ∨ ∃ x, (D.access (rOrd s)).emb x = i') ∧ ∀ x, k0_pay134 ((S.access (rChk c h s)).read (Elt F) GS) x = (D.access (rOrd s)).read (Elt F) GD x) :
    Run c iprop(held S c GS (fun _ => True) ∗ held D c GD P) (cpOrd c h S D hD s) (fun _ => iprop(held S c GS (fun _ => True) ∗ held D c GD P')) := by
  unfold Run cpOrd
  simp only [Prog.lift, Prog.bind_op, Prog.bind_ret]
  iintro ⟨HS, HD⟩
  iapply (wp_ld S c (rChk c h s) GS (fun _ => True)) $$ HS
  iintro %v %hv HS
  iapply (wp_dead D c (rOrd s) GD P) $$ HD
  iintro %_ HD
  have hv' : v = (S.access (rChk c h s)).read (Elt F) GS := funext fun x => hv x trivial
  iapply (wp_st D c (rOrd s) GD P P' ⟨hw.1, fun x _ => by rw [hv']; exact hw.2 x⟩) $$ HD
  iintro HD
  simp only [wp_ret]
  imodintro
  isplitl [HS]
  · iexact HS
  · iexact HD

theorem ordK_run (c : Dev nD) (h : k0_cond1 c = 1#1) (GS : S2x128x32x64.Idx → F .f32) (n : ℕ) (hn : n < 8) :
    Run c iprop(held bK c (CM GS) (fun _ => True) ∗ held bKo c (OM c GS) (fun i => (slotOf i).val < n)) (cpOrd c h bK bKo (Memref.isWhole_whole _) (Fin.ofNat 8 n))
      (fun _ => iprop(held bK c (CM GS) (fun _ => True) ∗ held bKo c (OM c GS) (fun i => (slotOf i).val < n + 1))) :=
  cpOrd_run (F := F) c h bK bKo _ (Fin.ofNat 8 n) (CM (F := F) GS) (OM (F := F) c GS) _ _
    ⟨fun i hi => (next_O i n hn hi).imp_right (emb_ex cc0_scratch5 _ i), fun x => (congrArg (fun y => k0_pay134 (F := F) y x)
      (funext fun y => congrArg (CM (F := F) GS) (emb_chk c h _ y))).trans (OM_tile (F := F) c GS _ x).symm⟩

theorem ordV_run (c : Dev nD) (h : k0_cond1 c = 1#1) (GS : S2x128x32x64.Idx → F .f32) (n : ℕ) (hn : n < 8) :
    Run c iprop(held bV c (CM GS) (fun _ => True) ∗ held bVo c (OM c GS) (fun i => (slotOf i).val < n)) (cpOrd c h bV bVo (Memref.isWhole_whole _) (Fin.ofNat 8 n))
      (fun _ => iprop(held bV c (CM GS) (fun _ => True) ∗ held bVo c (OM c GS) (fun i => (slotOf i).val < n + 1))) :=
  cpOrd_run (F := F) c h bV bVo _ (Fin.ofNat 8 n) (CM (F := F) GS) (OM (F := F) c GS) _ _
    ⟨fun i hi => (next_O i n hn hi).imp_right (emb_ex cc0_scratch6 _ i), fun x => (congrArg (fun y => k0_pay134 (F := F) y x)
      (funext fun y => congrArg (CM (F := F) GS) (emb_chk c h _ y))).trans (OM_tile (F := F) c GS _ x).symm⟩

/-! ## The first branch -/

/-- The device's activations, cast. -/
def XB (S : S2x128x512.Idx → F .f32) : S256x512.Idx → F .bf16 := k0_pay5 S

/-- A store over the whole buffer makes all of it known. -/
theorem whole_st (b : Ref sig .tc) {off : Fin b.ty.shape.rank → ℕ} (h : off = fun _ => 0) (inb : ∀ a, off a + b.ty.shape.size a ≤ b.ty.shape.size a)
    (w : b.ty.Contents (Elt F)) (P : b.ty.shape.Idx → Prop) :
    (∀ i : b.ty.shape.Idx, True → P i ∨ ∃ x, ((Memref.whole b).access (Rect.unit off b.ty.shape.size inb)).emb x = i) ∧
      ∀ x : b.ty.shape.Idx, True → w x = ((Memref.whole b).access (Rect.unit off b.ty.shape.size inb)).read (Elt F) w x :=
  ⟨fun i _ => .inr (emb_ex b inb i fun a => by subst h; exact ⟨Nat.zero_le _, by rw [Nat.zero_add]; exact (i a).isLt⟩),
    fun x _ => (congrFun (Memref.read_access_unit_zero (Elt F) b h inb w) x).symm⟩

theorem zero2 : (![0, 0] : Fin 2 → ℕ) = fun _ => 0 := by funext a; fin_cases a <;> rfl
theorem zero3 : (![0, 0, 0] : Fin 3 → ℕ) = fun _ => 0 := by funext a; fin_cases a <;> rfl

theorem ldX_run (c : Dev nD) (GS : S2x128x512.Idx → F .f32) (G) (P) :
    Run c iprop(held aX c GS (fun _ => True) ∗ held bX c G P) ldX (fun _ => iprop(held aX c GS (fun _ => True) ∗ held bX c (XB GS) (fun _ => True))) := by
  unfold Run ldX
  simp only [Prog.lift, Prog.bind_op, Prog.bind_ret]
  iintro ⟨HS, HD⟩
  iapply (wp_ld aX c _ GS (fun _ => True)) $$ HS
  iintro %v %hv HS
  have hv' : v = GS := funext fun x => (hv x trivial).trans (congrFun (Memref.read_access_unit_zero (Elt F) cc0_stg0_0 zero3 _ GS) x)
  subst hv'
  iapply (wp_dead bX c _ G P) $$ HD
  iintro %_ HD
  ihave HD := (held_mono bX c G (XB v) P (fun _ => False) (fun _ h => h.elim)) $$ HD
  iapply (wp_st bX c (Rect.unit (s := S256x512) ![0, 0] S256x512.size inb_S256x512_S256x512_0_0) (XB v) (fun _ => False) (fun _ => True)
    (whole_st (F := F) cc0_scratch2 zero2 _ (XB v) _)) $$ HD
  iintro HD
  simp only [wp_ret]
  imodintro
  isplitl [HS]
  · iexact HS
  · iexact HD

/-- Stepping through a stretch already run. -/
theorem Run.use {c : Dev nD} {α β : Type} {P : sProp 𝕄} {p : Prog (TpuEff nD τ sig (Elt F) Λ₀ .tc) α} {R : α → sProp 𝕄}
    {k : α → Prog (TpuEff nD τ sig (Elt F) Λ₀ .tc) β} {Q : β → sProp 𝕄} (h : Run c P p R) :
    P ⊢ iprop((∀ x, R x -∗ wp frame (wpE (defs₀ (F := F)) 𝒱₀ (c : Thread nD τ) none) Set.univ (k x) Q)
      -∗ wp frame (wpE (defs₀ (F := F)) 𝒱₀ (c : Thread nD τ) none) Set.univ (p >>= k) Q) := by
  iintro HP Hk
  iapply (show iprop(P ∗ (∀ x, R x -∗ wp frame (wpE (defs₀ (F := F)) 𝒱₀ (c : Thread nD τ) none) Set.univ (k x) Q)) ⊢ _ from
    Run.bind h.framed fun x => by
      iintro ⟨HR, Hk⟩
      iapply Hk $$ %x HR)
  isplitl [HP]
  · iexact HP
  · iexact Hk

/-- The last stretch. -/
theorem Run.last {c : Dev nD} {α : Type} {P : sProp 𝕄} {p : Prog (TpuEff nD τ sig (Elt F) Λ₀ .tc) α} {R Q : α → sProp 𝕄} (h : Run c P p R) :
    P ⊢ iprop((∀ x, R x -∗ Q x)
      -∗ wp frame (wpE (defs₀ (F := F)) 𝒱₀ (c : Thread nD τ) none) Set.univ p Q) := by
  iintro HP Hk
  iapply (show iprop(P ∗ (∀ x, R x -∗ Q x)) ⊢ _ from
    (Run.framed h).trans (wp_mono _ _ _ fun x => by
      iintro ⟨HR, Hk⟩
      iapply Hk $$ %x HR))
  isplitl [HP]
  · iexact HP
  · iexact Hk

/-- A buffer of which nothing is known. -/
abbrev anyOf {s : Shape} {e : EltTy} (M : Memref sig .tc .vmem s e) (c : Dev nD) (G : Buf (Elt F) (M.view.loc (c : Thread nD τ))) : sProp 𝕄 :=
  held M c G (fun _ => False)
abbrev allOf {s : Shape} {e : EltTy} (M : Memref sig .tc .vmem s e) (c : Dev nD) (G : Buf (Elt F) (M.view.loc (c : Thread nD τ))) : sProp 𝕄 :=
  held M c G (fun _ => True)

variable (m : (ℓ : Loc nD τ sig) → Buf (Elt F) ℓ)

theorem vk_run (c : Dev nD) (n : ℕ) (hn : n < 63) :
    Run c iprop((allOf aK c (kG m c) ∗ held bK c (CM (kG m c)) (fun i => (numK i).val < n + 1))
        ∗ (allOf aV c (vG m c) ∗ held bV c (CM (vG m c)) (fun i => (numK i).val < n))) (cpVK n)
      (fun _ => iprop((allOf aK c (kG m c) ∗ held bK c (CM (kG m c)) (fun i => (numK i).val < n + 1 + 1))
        ∗ (allOf aV c (vG m c) ∗ held bV c (CM (vG m c)) (fun i => (numK i).val < n + 1)))) := by
  refine Run.bind (Run.pre sep_symm (cpV_run c (vG m c) n (by omega)).framed) fun _ => ?_
  refine Run.pre sep_symm ?_
  exact (cpK_run c (kG m c) (n + 1) (by omega)).framed

theorem ordKV_run (c : Dev nD) (h : k0_cond1 c = 1#1) (n : ℕ) (hn : n < 8) :
    Run c iprop((allOf bK c (CM (kG m c)) ∗ held bKo c (OM c (kG m c)) (fun i => (slotOf i).val < n))
        ∗ (allOf bV c (CM (vG m c)) ∗ held bVo c (OM c (vG m c)) (fun i => (slotOf i).val < n))) (ordKV c h n)
      (fun _ => iprop((allOf bK c (CM (kG m c)) ∗ held bKo c (OM c (kG m c)) (fun i => (slotOf i).val < n + 1))
        ∗ (allOf bV c (CM (vG m c)) ∗ held bVo c (OM c (vG m c)) (fun i => (slotOf i).val < n + 1)))) := by
  refine Run.bind (ordK_run c h (kG m c) n hn).framed fun _ => ?_
  refine Run.pre sep_symm ?_
  iintro H
  iapply (Run.last (ordV_run c h (vG m c) n hn).framed) $$ H
  iintro %_ H
  iapply sep_symm $$ H

/-- What an even device holds after the first branch. -/
theorem segA_run (c : Dev nD) (h : k0_cond1 c = 1#1) :
    Run c iprop(allOf aX c (xG m c) ∗ allOf aK c (kG m c) ∗ allOf aV c (vG m c) ∗ anyOf bX c (XB (xG m c))
        ∗ anyOf bK c (CM (kG m c)) ∗ anyOf bV c (CM (vG m c)) ∗ anyOf bKo c (OM c (kG m c)) ∗ anyOf bVo c (OM c (vG m c))) (segA c h)
      (fun _ => iprop(allOf aX c (xG m c) ∗ allOf aK c (kG m c) ∗ allOf aV c (vG m c) ∗ allOf bX c (XB (xG m c))
        ∗ anyOf bK c (CM (kG m c)) ∗ anyOf bV c (CM (vG m c)) ∗ allOf bKo c (OM c (kG m c)) ∗ allOf bVo c (OM c (vG m c)))) := by
  unfold Run segA
  iintro ⟨HaX, HaK, HaV, HbX, HbK, HbV, HbKo, HbVo⟩
  iapply (Run.use (ldX_run c (xG m c) _ _)) $$ [HaX HbX]
  · isplitl [HaX]; · iexact HaX
    iexact HbX
  iintro %_ ⟨HaX, HbX⟩
  ihave HbK := (held_mono bK c _ (CM (kG m c)) _ (fun i => (numK i).val < 0) (fun _ h => absurd h (Nat.not_lt_zero _))) $$ HbK
  iapply (Run.use (cpK_run c (kG m c) 0 (by decide))) $$ [HaK HbK]
  · isplitl [HaK]; · iexact HaK
    iexact HbK
  iintro %_ ⟨HaK, HbK⟩
  ihave HbV := (held_mono bV c _ (CM (vG m c)) _ (fun i => (numK i).val < 0) (fun _ h => absurd h (Nat.not_lt_zero _))) $$ HbV
  iapply (Run.use (Run.loop _ 0 63 (fun n _ hn => vk_run m c n hn) 63 0 (Nat.le_refl 0) (by decide))) $$ [HaK HbK HaV HbV]
  · isplitl [HaK HbK]
    · isplitl [HaK]; · iexact HaK
      iexact HbK
    · isplitl [HaV]; · iexact HaV
      iexact HbV
  iintro %_ ⟨⟨HaK, HbK⟩, HaV, HbV⟩
  iapply (Run.use (cpV_run c (vG m c) 63 (by decide))) $$ [HaV HbV]
  · isplitl [HaV]; · iexact HaV
    iexact HbV
  iintro %_ ⟨HaV, HbV⟩
  ihave HbK := (held_mono bK c _ (CM (kG m c)) _ (fun _ => True) (fun i _ => ⟨(numK i).isLt, rfl⟩)) $$ HbK
  ihave HbV := (held_mono bV c _ (CM (vG m c)) _ (fun _ => True) (fun i _ => ⟨(numK i).isLt, rfl⟩)) $$ HbV
  ihave HbKo := (held_mono bKo c _ (OM c (kG m c)) _ (fun i => (slotOf i).val < 0) (fun _ h => absurd h (Nat.not_lt_zero _))) $$ HbKo
  ihave HbVo := (held_mono bVo c _ (OM c (vG m c)) _ (fun i => (slotOf i).val < 0) (fun _ h => absurd h (Nat.not_lt_zero _))) $$ HbVo
  iapply (Run.last (Run.loop _ 0 8 (fun n _ hn => ordKV_run m c h n hn) 8 0 (Nat.le_refl 0) (by decide))) $$ [HbK HbKo HbV HbVo]
  · isplitl [HbK HbKo]
    · isplitl [HbK]; · iexact HbK
      iexact HbKo
    · isplitl [HbV]; · iexact HbV
      iexact HbVo
  iintro %_ ⟨⟨HbK, HbKo⟩, HbV, HbVo⟩
  isplitl [HaX]; · iexact HaX
  isplitl [HaK]; · iexact HaK
  isplitl [HaV]; · iexact HaV
  isplitl [HbX]; · iexact HbX
  isplitl [HbK]; · iapply (held_mono bK c _ _ _ (fun _ => False) (fun _ h => h.elim)) $$ HbK
  isplitl [HbV]; · iapply (held_mono bV c _ _ _ (fun _ => False) (fun _ h => h.elim)) $$ HbV
  isplitl [HbKo]; · iapply (held_mono bKo c _ _ _ (fun _ => True) (fun i _ => ⟨(slotOf i).isLt, rfl⟩)) $$ HbKo
  iapply (held_mono bVo c _ _ _ (fun _ => True) (fun i _ => ⟨(slotOf i).isLt, rfl⟩)) $$ HbVo

end Cert.Wk
end
-- ==== Proof.Attend.lean ====
/-
# The attention parts

What each part leaves in the accumulator.
-/
module

public import proofs.«01_k».proof.Proof.Local

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The tiles -/

def locQ (i : S64x128x64.Idx) : S1x128x64.Idx := fun a => match a with
  | ⟨0, _⟩ => (0 : Fin 1)
  | ⟨1, _⟩ => ⟨(i 1).val, (i 1).isLt⟩
  | ⟨2, _⟩ => ⟨(i 2).val, (i 2).isLt⟩
/-- The queries of one part, head after head from place `i0`. -/
def GQ {nt nh : ℕ} [NeZero nt] (hsl : SlQ nt nh) (i0 : ℕ) (q : FVec F (shQ nh) .bf16) (i : S64x128x64.Idx) : F .bf16 :=
  qPay hsl q (Fin.ofNat nt ((i 0).val - i0)) (locQ i)

def numC (i : S256x1024.Idx) : ℕ := (i 1).val / 256 * 8 + (i 0).val / 128 * 4 + (i 1).val % 256 / 64
def locC (i : S256x1024.Idx) : S128x64.Idx := fun a => match a with
  | ⟨0, _⟩ => ⟨(i 0).val % 128, Nat.mod_lt _ (by decide)⟩
  | ⟨1, _⟩ => ⟨(i 1).val % 64, Nat.mod_lt _ (by decide)⟩
/-- The results of one part, head after head. -/
def GC {nt : ℕ} [NeZero nt] (hsl : SlC nt) (v : FVec F (shS nt) .f32) (i : S256x1024.Idx) : F .bf16 :=
  cPay hsl v (Fin.ofNat nt (numC i)) (locC i)

theorem tileQ_run {nt nh : ℕ} [NeZero nt] (hsl : SlQ nt nh) (i0 : ℕ) (q : FVec F (shQ nh) .bf16) (c : Dev nD) (n : ℕ) (h0 : i0 ≤ n) (hn : n < 64) :
    Run c iprop(held bQ c (GQ hsl i0 q) (fun i => i0 ≤ (i 0).val ∧ (i 0).val < n)) (tileQ (qPay hsl q (Fin.ofNat nt (n - i0))) (Fin.ofNat 64 n))
      (fun _ => iprop(held bQ c (GQ hsl i0 q) (fun i => i0 ≤ (i 0).val ∧ (i 0).val < n + 1))) := by
  have hn' : (Fin.ofNat 64 n).val = n := Nat.mod_eq_of_lt hn
  unfold Run tileQ
  simp only [Prog.lift, Prog.bind_op, Prog.bind_ret]
  iintro HD
  iapply (wp_dead bQ c (rQ (Fin.ofNat 64 n)) _ _) $$ HD
  iintro %_ HD
  iapply (wp_st bQ c (rQ (Fin.ofNat 64 n)) (GQ hsl i0 q) _ (fun i => i0 ≤ (i 0).val ∧ (i 0).val < n + 1) ⟨fun i hi => ?_, fun x _ => ?_⟩) $$ HD
  · rcases Nat.lt_succ_iff_lt_or_eq.mp hi.2 with h | h
    · exact .inl ⟨hi.1, h⟩
    · refine .inr (emb_ex cc0_scratch7 _ i fun a => ?_)
      have h1 : (i 1).val < 128 := (i 1).isLt
      have h2 : (i 2).val < 64 := (i 2).isLt
      fin_cases a
      · show (Fin.ofNat 64 n).val ≤ (i 0).val ∧ (i 0).val < (Fin.ofNat 64 n).val + 1; omega
      · show 0 ≤ (i 1).val ∧ (i 1).val < 0 + 128; omega
      · show 0 ≤ (i 2).val ∧ (i 2).val < 0 + 64; omega
  · have hx : (x 0).val < 1 := (x 0).isLt
    show _ = qPay hsl q (Fin.ofNat nt (((Fin.ofNat 64 n).val + 1 * (x 0).val) - i0)) (locQ ((rQ (Fin.ofNat 64 n)).emb x))
    congr 1
    · congr 2; omega
    · funext a
      apply Fin.ext
      fin_cases a
      · show (x 0).val = 0; omega
      · show (x 1).val = 0 + 1 * (x 1).val; omega
      · show (x 2).val = 0 + 1 * (x 2).val; omega
  iintro HD
  simp only [wp_ret]
  imodintro
  iexact HD

theorem tileC_run {nt : ℕ} [NeZero nt] (hsl : SlC nt) (v : FVec F (shS nt) .f32) (c : Dev nD) (n : ℕ) (hn : n < 32) :
    Run c iprop(held bC c (GC hsl v) (fun i => numC i < n)) (tileC (cPay hsl v (Fin.ofNat nt n)) (Fin.ofNat 32 n))
      (fun _ => iprop(held bC c (GC hsl v) (fun i => numC i < n + 1))) := by
  have hn' : (Fin.ofNat 32 n).val = n := Nat.mod_eq_of_lt hn
  unfold Run tileC stC
  simp only [Prog.lift, Prog.bind_op, Prog.bind_ret]
  iintro HD
  iapply (wp_dead bC c (rT (Fin.ofNat 32 n)) _ _) $$ HD
  iintro %_ HD
  iapply (wp_st bC c (rT (Fin.ofNat 32 n)) (GC hsl v) _ (fun i => numC i < n + 1) ⟨fun i hi => ?_, fun x _ => ?_⟩) $$ HD
  · rcases Nat.lt_succ_iff_lt_or_eq.mp hi with h | h
    · exact .inl h
    · refine .inr (emb_ex cc0_scratch8 _ i fun a => ?_)
      have h0 : (i 0).val < 256 := (i 0).isLt
      have h1 : (i 1).val < 1024 := (i 1).isLt
      have h' : (i 1).val / 256 * 8 + (i 0).val / 128 * 4 + (i 1).val % 256 / 64 = n := h
      fin_cases a
      · show (Fin.ofNat 32 n).val % 8 / 4 * 128 ≤ (i 0).val ∧ (i 0).val < (Fin.ofNat 32 n).val % 8 / 4 * 128 + 128; omega
      · show (4 * ((Fin.ofNat 32 n).val / 8) + (Fin.ofNat 32 n).val % 4) * 64 ≤ (i 1).val ∧ (i 1).val < (4 * ((Fin.ofNat 32 n).val / 8) + (Fin.ofNat 32 n).val % 4) * 64 + 64; omega
  · have hx0 : (x 0).val < 128 := (x 0).isLt
    have hx1 : (x 1).val < 64 := (x 1).isLt
    have e0 : (((rT (Fin.ofNat 32 n)).emb x) 0).val = (Fin.ofNat 32 n).val % 8 / 4 * 128 + 1 * (x 0).val := rfl
    have e1 : (((rT (Fin.ofNat 32 n)).emb x) 1).val = (4 * ((Fin.ofNat 32 n).val / 8) + (Fin.ofNat 32 n).val % 4) * 64 + 1 * (x 1).val := rfl
    show _ = cPay hsl v (Fin.ofNat nt (numC ((rT (Fin.ofNat 32 n)).emb x))) (locC ((rT (Fin.ofNat 32 n)).emb x))
    congr 1
    · congr 1
      unfold numC; rw [e0, e1, hn']; omega
    · funext a
      apply Fin.ext
      fin_cases a
      · show (x 0).val = (((rT (Fin.ofNat 32 n)).emb x) 0).val % 128; rw [e0]; omega
      · show (x 1).val = (((rT (Fin.ofNat 32 n)).emb x) 1).val % 64; rw [e1]; omega
  iintro HD
  simp only [wp_ret]
  imodintro
  iexact HD

/-! ## One part -/

/-- Columns of the first weight, rows of the second, a slab of heads. -/
def colsOf (nc c0 : ℕ) (hw : ∀ a, (![0, c0] : Fin 2 → ℕ) a + (⟨2, ![512, nc]⟩ : Shape).size a ≤ S512x2048.size a) (W : S512x2048.Idx → F .bf16) :
    Vec F ⟨2, ![512, nc]⟩ .bf16 := fun x => W ((Rect.unit (s := S512x2048) ![0, c0] (⟨2, ![512, nc]⟩ : Shape).size hw).emb x)
def rowsOf (nc c0 : ℕ) (hi : ∀ a, (![c0, 0] : Fin 2 → ℕ) a + (⟨2, ![nc, 512]⟩ : Shape).size a ≤ S2048x512.size a) (W : S2048x512.Idx → F .bf16) :
    Vec F ⟨2, ![nc, 512]⟩ .bf16 := fun x => W ((Rect.unit (s := S2048x512) ![c0, 0] (⟨2, ![nc, 512]⟩ : Shape).size hi).emb x)
def slabOf (nt i0 : ℕ) (hi : ∀ a, (![i0, 0, 0] : Fin 3 → ℕ) a + (shS nt).size a ≤ S64x128x64.size a) (G : S64x128x64.Idx → F .bf16) :
    Vec F (shS nt) .bf16 := fun x => G ((Rect.unit (s := S64x128x64) ![i0, 0, 0] (shS nt).size hi).emb x)

theorem ldWq_run (c : Dev nD) (nc c0 : ℕ) (hw hw0) (a b : ℕ) (ha : a ≤ c0) (hb : c0 + nc ≤ b) (q : PosShare TreeShare) (W : S512x2048.Idx → F .bf16) :
    Run c iprop(ptsQ c a b q W) (ldWq nc c0 hw hw0) (fun v => iprop(⌜v = colsOf nc c0 hw W⌝ ∗ ptsQ c a b q W)) := by
  unfold Run ldWq ptsQ
  simp only [Prog.lift]
  iintro H
  iapply (wp_load_rect 𝒱₀ (c : Thread nD τ) none Set.univ (m := qM) (r := Rect.unit (s := S512x2048) ![0, c0] (⟨2, ![512, nc]⟩ : Shape).size hw)
    (S := colSet a b) (q := q) (fun i hi => by
      obtain ⟨x, -, rfl⟩ := Finset.mem_map.mp hi
      have hx : (x 1).val < nc := (x 1).isLt
      refine Finset.mem_filter.mpr ⟨Finset.mem_univ _, ?_⟩
      show a ≤ c0 + 1 * (x 1).val ∧ c0 + 1 * (x 1).val < b
      omega)) $$ H
  iintro H
  simp only [wp_ret]
  imodintro
  isplitr
  · ipureintro; rfl
  · iexact H

theorem ldWo_run (c : Dev nD) (nc c0 : ℕ) (hw hw0) (a b : ℕ) (ha : a ≤ c0) (hb : c0 + nc ≤ b) (q : PosShare TreeShare) (W : S2048x512.Idx → F .bf16) :
    Run c iprop(ptsO c a b q W) (ldWo nc c0 hw hw0) (fun v => iprop(⌜v = rowsOf nc c0 hw W⌝ ∗ ptsO c a b q W)) := by
  unfold Run ldWo ptsO
  simp only [Prog.lift]
  iintro H
  iapply (wp_load_rect 𝒱₀ (c : Thread nD τ) none Set.univ (m := oM) (r := Rect.unit (s := S2048x512) ![c0, 0] (⟨2, ![nc, 512]⟩ : Shape).size hw)
    (S := rowSet a b) (q := q) (fun i hi => by
      obtain ⟨x, -, rfl⟩ := Finset.mem_map.mp hi
      have hx : (x 0).val < nc := (x 0).isLt
      refine Finset.mem_filter.mpr ⟨Finset.mem_univ _, ?_⟩
      show a ≤ c0 + 1 * (x 0).val ∧ c0 + 1 * (x 0).val < b
      omega)) $$ H
  iintro H
  simp only [wp_ret]
  imodintro
  isplitr
  · ipureintro; rfl
  · iexact H

/-- A load off a buffer known at every place read. -/
theorem ld_run {s : Shape} {e : EltTy} (M : Memref sig .tc .vmem s e) (c : Dev nD) (r : Rect s) (hl) (G P) (hP : ∀ x, P ((M.access r).emb x)) :
    Run c iprop(held M c G P) (Prog.lift (.load M r.toLoadRect hl)) (fun v => iprop(⌜v = (M.access r).read (Elt F) G⌝ ∗ held M c G P)) := by
  unfold Run
  simp only [Prog.lift]
  iintro H
  iapply (wp_ld M c r G P) $$ H
  iintro %v %hv H
  simp only [wp_ret]
  imodintro
  isplitr
  · ipureintro; exact funext fun x => hv x (hP x)
  · iexact H

section part
variable {nc nt nh : ℕ} [NeZero nt] (hslQ : SlQ nt nh) (hslC : SlC nt) (i0 c0 : ℕ)
  (hw : ∀ a, (![0, c0] : Fin 2 → ℕ) a + (⟨2, ![512, nc]⟩ : Shape).size a ≤ S512x2048.size a) (hw0 : 0 < (⟨2, ![512, nc]⟩ : Shape).numel)
  (hi : ∀ a, (![i0, 0, 0] : Fin 3 → ℕ) a + (shS nt).size a ≤ S64x128x64.size a) (h0 : 0 < (shS nt).numel)
  (proj : Vec F S256x512 .bf16 → Vec F ⟨2, ![512, nc]⟩ .bf16 → FVec F (shQ nh) .bf16)
  (att : Vec F (shS nt) .bf16 → Vec F (shS nt) .bf16 → Vec F (shS nt) .bf16 → FVec F (shS nt) .f32)

/-- The results of a part, from the activations, the weight and the ordered keys and values. -/
def attOf (X : S256x512.Idx → F .bf16) (W : S512x2048.Idx → F .bf16) (KO VO : S64x128x64.Idx → F .bf16) : FVec F (shS nt) .f32 :=
  att (slabOf nt i0 hi (GQ hslQ i0 (proj X (colsOf nc c0 hw W)))) (slabOf nt i0 hi KO) (slabOf nt i0 hi VO)

set_option maxHeartbeats 1000000 in
theorem attend_run (c : Dev nD) (a b : ℕ) (ha : a ≤ c0) (hb : c0 + nc ≤ b) (q : PosShare TreeShare) (hi0 : i0 + nt ≤ 64) (hnt : nt ≤ 32) (X W KO VO) (GQ₀ GC₀) :
    Run c iprop(allOf bX c X ∗ ptsQ c a b q W ∗ anyOf bQ c GQ₀ ∗ allOf bKo c KO ∗ allOf bVo c VO ∗ anyOf bC c GC₀)
      (attend hslQ hslC i0 c0 hw hw0 hi h0 proj att)
      (fun _ => iprop(allOf bX c X ∗ ptsQ c a b q W ∗ anyOf bQ c GQ₀ ∗ allOf bKo c KO ∗ allOf bVo c VO
        ∗ held bC c (GC hslC (attOf hslQ i0 c0 hw hi proj att X W KO VO)) (fun i => numC i < nt))) := by
  unfold Run attend
  iintro ⟨HX, HW, HQ, HK, HV, HC⟩
  iapply (Run.use (ld_run bX c _ _ X _ (fun _ => trivial))) $$ HX
  iintro %x ⟨%hx, HX⟩
  have hx' : x = X := hx.trans (Memref.read_access_unit_zero (Elt F) cc0_scratch2 zero2 _ X)
  iapply (Run.use (ldWq_run c nc c0 hw hw0 a b ha hb q W)) $$ HW
  iintro %w ⟨%hwv, HW⟩
  subst hx'
  subst hwv
  ihave HQ := (held_mono bQ c _ (GQ hslQ i0 (proj x (colsOf nc c0 hw W))) _ (fun i => i0 ≤ (i 0).val ∧ (i 0).val < i0) (fun _ h => absurd h.1 (Nat.not_le_of_lt h.2))) $$ HQ
  have hl := Run.loop (c := c) (fun n => held bQ c (GQ hslQ i0 (proj x (colsOf nc c0 hw W))) (fun i => i0 ≤ (i 0).val ∧ (i 0).val < n)) i0 64
    (fun n h1 hn => tileQ_run hslQ i0 (proj x (colsOf nc c0 hw W)) c n h1 hn) nt i0 (Nat.le_refl _) hi0
  iapply (Run.use hl) $$ HQ
  iintro %_ HQ
  unfold ldSlab
  iapply (Run.use (ld_run bQ c (Rect.unit (s := S64x128x64) ![i0, 0, 0] (shS nt).size hi) _ _ _ (fun y => ?_))) $$ HQ
  · have hy : (y 0).val < nt := (y 0).isLt
    show i0 ≤ i0 + 1 * (y 0).val ∧ i0 + 1 * (y 0).val < i0 + nt
    omega
  iintro %qv ⟨%hq, HQ⟩
  iapply (Run.use (ld_run bKo c (Rect.unit (s := S64x128x64) ![i0, 0, 0] (shS nt).size hi) _ KO _ (fun _ => trivial))) $$ HK
  iintro %kv ⟨%hk, HK⟩
  iapply (Run.use (ld_run bVo c (Rect.unit (s := S64x128x64) ![i0, 0, 0] (shS nt).size hi) _ VO _ (fun _ => trivial))) $$ HV
  iintro %vv ⟨%hv, HV⟩
  have hq' : qv = slabOf nt i0 hi (GQ hslQ i0 (proj x (colsOf nc c0 hw W))) := hq
  have hk' : kv = slabOf nt i0 hi KO := hk
  have hv' : vv = slabOf nt i0 hi VO := hv
  subst hq' hk' hv'
  ihave HC := (held_mono bC c _ (GC hslC (attOf hslQ i0 c0 hw hi proj att x W KO VO)) _ (fun i => numC i < 0) (fun _ h => absurd h (Nat.not_lt_zero _))) $$ HC
  have hlc := fun n (hn : n < nt) => tileC_run hslC (attOf hslQ i0 c0 hw hi proj att x W KO VO) c n (by omega)
  have hlC := Run.loop (c := c) (fun n => held bC c (GC hslC (attOf hslQ i0 c0 hw hi proj att x W KO VO)) (fun i => numC i < n)) 0 nt (fun n _ hn => hlc n hn) nt 0 (Nat.le_refl 0) (by omega)
  simp only [Nat.zero_add] at hlC
  iapply (Run.last hlC) $$ HC
  iintro %_ HC
  isplitl [HX]; · iexact HX
  isplitl [HW]; · iexact HW
  isplitl [HQ]; · iapply (held_mono bQ c _ _ _ (fun _ => False) (fun _ h => h.elim)) $$ HQ
  isplitl [HK]; · iexact HK
  isplitl [HV]; · iexact HV
  iexact HC

end part

/-! ## The accumulator -/

theorem numC_lt (i : S256x1024.Idx) : numC i < 32 := by
  have h0 : (i 0).val < 256 := (i 0).isLt
  have h1 : (i 1).val < 1024 := (i 1).isLt
  unfold numC; omega

/-- The second and third parts use the front columns only. -/
theorem pay302_congr (u u' : Vec F S256x1024 .bf16) (w : Vec F S768x512 .bf16) (a : Vec F S256x512 .f32)
    (h : ∀ x : S256x1024.Idx, (x 1).val < 768 → u x = u' x) : k0_pay302 u w a = k0_pay302 u' w a := by
  have e : extractStridedSlice S256x768 ![0, 0] u slices_S256x1024_o0_0_S256x768 = extractStridedSlice S256x768 ![0, 0] u' slices_S256x1024_o0_0_S256x768 := by
    funext j
    refine h _ ?_
    have hj : (j 1).val < 768 := (j 1).isLt
    show 0 + (j 1).val < 768
    omega
  unfold k0_pay302
  dsimp only
  rw [e]

theorem pay2_congr (u u' : Vec F S256x1024 .bf16) (w : Vec F S256x512 .bf16) (a : Vec F S256x512 .f32)
    (h : ∀ x : S256x1024.Idx, (x 1).val < 256 → u x = u' x) : k0_pay2 u w a = k0_pay2 u' w a := by
  have e : extractStridedSlice S256x256 ![0, 0] u slices_S256x1024_o0_0_S256x256 = extractStridedSlice S256x256 ![0, 0] u' slices_S256x1024_o0_0_S256x256 := by
    funext j
    refine h _ ?_
    have hj : (j 1).val < 256 := (j 1).isLt
    show 0 + (j 1).val < 256
    omega
  unfold k0_pay2
  dsimp only
  rw [e]

theorem numC_front (x : S256x1024.Idx) (n : ℕ) (h : (x 1).val < 256 * n) : numC x < 8 * n := by
  have h0 : (x 0).val < 256 := (x 0).isLt
  unfold numC; omega

variable (m : (ℓ : Loc nD τ sig) → Buf (Elt F) ℓ)

def CT1 (c : Dev nD) : S256x1024.Idx → F .bf16 :=
  GC slC32 (attOf slQ32 0 0 inb_S512x2048_S512x1024_0_0 inb_S64x128x64_S32x128x64_0_0_0 k0_pay149 att1 (XB (xG m c)) (WQ m c) (OM c (kG m c)) (OM c (vG m c)))
def CT2 (c : Dev nD) : S256x1024.Idx → F .bf16 :=
  GC slC24 (attOf slQ24 32 1024 inb_S512x2048_S512x768_0_1024 inb_S64x128x64_S24x128x64_32_0_0 k0_pay218 att2 (XB (xG m c)) (WQ m c) (OM c (kG m c)) (OM c (vG m c)))
def CT3 (c : Dev nD) : S256x1024.Idx → F .bf16 :=
  GC slC8 (attOf slQ8 56 1792 inb_S512x2048_S512x256_0_1792 inb_S64x128x64_S8x128x64_56_0_0 k0_pay274 att3 (XB (xG m c)) (WQ m c) (OM c (kG m c)) (OM c (vG m c)))
/-- The accumulator after each part. -/
def AC1 (c : Dev nD) : S256x512.Idx → F .f32 := k0_pay301 (CT1 m c) (rowsOf 1024 0 inb_S2048x512_S1024x512_0_0 (WO m c))
def AC2 (c : Dev nD) : S256x512.Idx → F .f32 := k0_pay302 (CT2 m c) (rowsOf 768 1024 inb_S2048x512_S768x512_1024_0 (WO m c)) (AC1 m c)
def AC3 (c : Dev nD) : S256x512.Idx → F .f32 := k0_pay2 (CT3 m c) (rowsOf 256 1792 inb_S2048x512_S256x512_1792_0 (WO m c)) (AC2 m c)

/-- What the parts work on. -/
def work (c : Dev nD) : sProp 𝕄 :=
  iprop(allOf bX c (XB (xG m c)) ∗ allOf bKo c (OM c (kG m c)) ∗ allOf bVo c (OM c (vG m c)) ∗ anyOf bQ c (OM c (kG m c)) ∗ anyOf bC c (CT1 m c))

theorem stA_run (c : Dev nD) (w : S256x512.Idx → F .f32) (G P) : Run c (held bA c G P) (stA w) (fun _ => allOf bA c w) := by
  unfold Run stA
  simp only [Prog.lift]
  iintro H
  ihave H := (held_mono bA c G w P (fun _ => False) (fun _ h => h.elim)) $$ H
  iapply (wp_st bA c (Rect.unit (s := S256x512) ![0, 0] S256x512.size inb_S256x512_S256x512_0_0) w (fun _ => False) (fun _ => True)
    (whole_st (F := F) cc0_scratch9 zero2 _ w _)) $$ H
  iintro H
  simp only [wp_ret]
  imodintro
  iexact H

theorem ldA_run (c : Dev nD) (G : S256x512.Idx → F .f32) : Run c (allOf bA c G) ldA (fun v => iprop(⌜v = G⌝ ∗ allOf bA c G)) := by
  unfold Run
  iintro H
  iapply (Run.last (ld_run bA c _ _ G _ (fun _ => trivial))) $$ H
  iintro %v ⟨%hv, H⟩
  isplitr
  · ipureintro; exact hv.trans (Memref.read_access_unit_zero (Elt F) cc0_scratch9 zero2 _ G)
  · iexact H

/-- A load of the result tiles' buffer, of which the front is known. -/
theorem ldC_run (c : Dev nD) (G : S256x1024.Idx → F .bf16) (P) :
    Run c (held bC c G P) ldC (fun v => iprop(⌜∀ x, P x → v x = G x⌝ ∗ held bC c G P)) := by
  unfold Run ldC
  simp only [Prog.lift]
  iintro H
  iapply (wp_ld bC c (Rect.unit (s := S256x1024) ![0, 0] S256x1024.size inb_S256x1024_S256x1024_0_0) G P) $$ H
  iintro %v %hv H
  simp only [wp_ret]
  imodintro
  isplitr
  · ipureintro
    intro x hx
    have e : ((bC.access (Rect.unit (s := S256x1024) ![0, 0] S256x1024.size inb_S256x1024_S256x1024_0_0)).emb x) = x := by
      funext a
      apply Fin.ext
      fin_cases a
      · show 0 + 1 * (x 0).val = (x 0).val; omega
      · show 0 + 1 * (x 1).val = (x 1).val; omega
    refine (hv x (by rw [e]; exact hx)).trans ?_
    exact congrFun (Memref.read_access_unit_zero (Elt F) cc0_scratch8 zero2 _ G) x
  · iexact H

theorem segB_run (c : Dev nD) (q q' : PosShare TreeShare) (G) :
    Run c iprop(work m c ∗ ptsQ c 0 1024 q (WQ m c) ∗ ptsO c 0 1024 q' (WO m c) ∗ anyOf bA c G) segB
      (fun _ => iprop(work m c ∗ ptsQ c 0 1024 q (WQ m c) ∗ ptsO c 0 1024 q' (WO m c) ∗ allOf bA c (AC1 m c))) := by
  unfold Run segB work
  iintro ⟨⟨HX, HK, HV, HQ, HC⟩, HW, HO, HA⟩
  iapply (Run.use (attend_run slQ32 slC32 0 0 _ _ _ _ _ _ c 0 1024 (by decide) (by decide) q (by decide) (by decide) (XB (xG m c)) (WQ m c) (OM c (kG m c)) (OM c (vG m c)) (OM c (kG m c)) (CT1 m c)))
    $$ [HX HW HQ HK HV HC]
  · isplitl [HX]; · iexact HX
    isplitl [HW]; · iexact HW
    isplitl [HQ]; · iexact HQ
    isplitl [HK]; · iexact HK
    isplitl [HV]; · iexact HV
    iexact HC
  iintro %_ ⟨HX, HW, HQ, HK, HV, HC⟩
  iapply (Run.use (ldC_run c _ _)) $$ HC
  iintro %u ⟨%hu, HC⟩
  have hu' : u = CT1 m c := funext fun x => hu x (numC_lt x)
  subst hu'
  iapply (Run.use (ldWo_run c 1024 0 _ _ 0 1024 (by decide) (by decide) q' (WO m c))) $$ HO
  iintro %w ⟨%hwv, HO⟩
  subst hwv
  unfold ldA
  simp only [Prog.lift, Prog.bind_op, Prog.bind_ret]
  iapply (wp_dead bA c _ _ _) $$ HA
  iintro %_ HA
  iapply (Run.last (stA_run c _ _ _)) $$ HA
  iintro %_ HA
  isplitr [HW HO HA]
  · isplitl [HX]; · iexact HX
    isplitl [HK]; · iexact HK
    isplitl [HV]; · iexact HV
    isplitl [HQ]; · iexact HQ
    iapply (held_mono bC c _ _ _ (fun _ => False) (fun _ h => h.elim)) $$ HC
  isplitl [HW]; · iexact HW
  isplitl [HO]; · iexact HO
  iexact HA

theorem segC_run (c : Dev nD) (q q' : PosShare TreeShare) :
    Run c iprop(work m c ∗ ptsQ c 1024 1792 q (WQ m c) ∗ ptsO c 1024 1792 q' (WO m c) ∗ allOf bA c (AC1 m c)) segC
      (fun _ => iprop(work m c ∗ ptsQ c 1024 1792 q (WQ m c) ∗ ptsO c 1024 1792 q' (WO m c) ∗ allOf bA c (AC2 m c))) := by
  unfold Run segC work
  iintro ⟨⟨HX, HK, HV, HQ, HC⟩, HW, HO, HA⟩
  iapply (Run.use (attend_run slQ24 slC24 32 1024 _ _ _ _ _ _ c 1024 1792 (by decide) (by decide) q (by decide) (by decide) (XB (xG m c)) (WQ m c) (OM c (kG m c)) (OM c (vG m c)) (OM c (kG m c)) (CT1 m c)))
    $$ [HX HW HQ HK HV HC]
  · isplitl [HX]; · iexact HX
    isplitl [HW]; · iexact HW
    isplitl [HQ]; · iexact HQ
    isplitl [HK]; · iexact HK
    isplitl [HV]; · iexact HV
    iexact HC
  iintro %_ ⟨HX, HW, HQ, HK, HV, HC⟩
  iapply (Run.use (ldC_run c _ _)) $$ HC
  iintro %u ⟨%hu, HC⟩
  iapply (Run.use (ldWo_run c 768 1024 _ _ 1024 1792 (by decide) (by decide) q' (WO m c))) $$ HO
  iintro %w ⟨%hwv, HO⟩
  subst hwv
  iapply (Run.use (ldA_run c _)) $$ HA
  iintro %a ⟨%ha, HA⟩
  subst ha
  iapply (Run.use (ldA_run c _)) $$ HA
  iintro %_ ⟨-, HA⟩
  rw [pay302_congr u (CT2 m c) _ _ fun x hx => hu x (numC_front x 3 hx)]
  iapply (Run.last (stA_run c _ _ _)) $$ HA
  iintro %_ HA
  isplitr [HW HO HA]
  · isplitl [HX]; · iexact HX
    isplitl [HK]; · iexact HK
    isplitl [HV]; · iexact HV
    isplitl [HQ]; · iexact HQ
    iapply (held_mono bC c _ _ _ (fun _ => False) (fun _ h => h.elim)) $$ HC
  isplitl [HW]; · iexact HW
  isplitl [HO]; · iexact HO
  iexact HA

theorem stOut_run (c : Dev nD) (w : S2x128x512.Idx → F .f32) (G P) : Run c (held aOut c G P) (stOut w) (fun _ => allOf aOut c w) := by
  unfold Run stOut
  simp only [Prog.lift, Prog.bind_op, Prog.bind_ret]
  iintro H
  iapply (wp_dead aOut c _ _ _) $$ H
  iintro %_ H
  ihave H := (held_mono aOut c G w P (fun _ => False) (fun _ h => h.elim)) $$ H
  iapply (wp_st aOut c (Rect.unit (s := S2x128x512) ![0, 0, 0] S2x128x512.size inb_S2x128x512_S2x128x512_0_0_0) w (fun _ => False) (fun _ => True)
    (whole_st (F := F) cc0_stg5_0 zero3 _ w _)) $$ H
  iintro H
  simp only [wp_ret]
  imodintro
  iexact H

theorem segD_run (c : Dev nD) (q q' : PosShare TreeShare) (G) :
    Run c iprop(work m c ∗ ptsQ c 1792 2048 q (WQ m c) ∗ ptsO c 1792 2048 q' (WO m c) ∗ allOf bA c (AC2 m c) ∗ anyOf aOut c G) segD
      (fun _ => iprop(work m c ∗ ptsQ c 1792 2048 q (WQ m c) ∗ ptsO c 1792 2048 q' (WO m c) ∗ allOf bA c (AC3 m c) ∗ allOf aOut c (k0_pay3 (AC3 m c)))) := by
  unfold Run segD work
  iintro ⟨⟨HX, HK, HV, HQ, HC⟩, HW, HO, HA, HR⟩
  iapply (Run.use (attend_run slQ8 slC8 56 1792 _ _ _ _ _ _ c 1792 2048 (by decide) (by decide) q (by decide) (by decide) (XB (xG m c)) (WQ m c) (OM c (kG m c)) (OM c (vG m c)) (OM c (kG m c)) (CT1 m c)))
    $$ [HX HW HQ HK HV HC]
  · isplitl [HX]; · iexact HX
    isplitl [HW]; · iexact HW
    isplitl [HQ]; · iexact HQ
    isplitl [HK]; · iexact HK
    isplitl [HV]; · iexact HV
    iexact HC
  iintro %_ ⟨HX, HW, HQ, HK, HV, HC⟩
  iapply (Run.use (ldC_run c _ _)) $$ HC
  iintro %u ⟨%hu, HC⟩
  iapply (Run.use (ldWo_run c 256 1792 _ _ 1792 2048 (by decide) (by decide) q' (WO m c))) $$ HO
  iintro %w ⟨%hwv, HO⟩
  subst hwv
  iapply (Run.use (ldA_run c _)) $$ HA
  iintro %a ⟨%ha, HA⟩
  subst ha
  iapply (Run.use (ldA_run c _)) $$ HA
  iintro %_ ⟨-, HA⟩
  rw [pay2_congr u (CT3 m c) _ _ fun x hx => hu x (numC_front x 1 hx)]
  iapply (Run.use (stA_run c _ _ _)) $$ HA
  iintro %_ HA
  iapply (Run.use (ldA_run c _)) $$ HA
  iintro %a ⟨%ha, HA⟩
  subst ha
  iapply (Run.last (stOut_run c _ _ _)) $$ HR
  iintro %_ HR
  isplitr [HW HO HA HR]
  · isplitl [HX]; · iexact HX
    isplitl [HK]; · iexact HK
    isplitl [HV]; · iexact HV
    isplitl [HQ]; · iexact HQ
    iapply (held_mono bC c _ _ _ (fun _ => False) (fun _ h => h.elim)) $$ HC
  isplitl [HW]; · iexact HW
  isplitl [HO]; · iexact HO
  isplitl [HA]; · iexact HA
  iexact HR

/-! ## On even devices only -/

def ev (c : Dev nD) : Prop := k0_cond1 c = 1#1

/-- What the parts work on, known where `e` holds. -/
def workIf (c : Dev nD) (e : Prop) : sProp 𝕄 :=
  iprop(held bX c (XB (xG m c)) (fun _ => e) ∗ held bKo c (OM c (kG m c)) (fun _ => e) ∗ held bVo c (OM c (vG m c)) (fun _ => e)
    ∗ anyOf bQ c (OM c (kG m c)) ∗ anyOf bC c (CT1 m c))
/-- The staged operands and the two staging buffers. -/
def base (c : Dev nD) : sProp 𝕄 :=
  iprop(allOf aX c (xG m c) ∗ allOf aK c (kG m c) ∗ allOf aV c (vG m c) ∗ anyOf bK c (CM (kG m c)) ∗ anyOf bV c (CM (vG m c)))

/-- A branch that runs `seg` before going on with `k`, or goes on at once. -/
theorem branch {c : Dev nD} {P Q : sProp 𝕄} {cond : Prop} [Decidable cond] {seg : cond → PR F PUnit}
    (h1 : ∀ h, Run c P (seg h) (fun _ => Q)) (h2 : ¬ cond → P ⊢ Q) {α : Type} {p : cond → Prog (TpuEff nD τ sig (Elt F) Λ₀ .tc) α}
    {k : Prog (TpuEff nD τ sig (Elt F) Λ₀ .tc) α} {Kt : α → sProp 𝕄} (hp : ∀ h, p h = (seg h >>= fun _ => k)) :
    P ⊢ iprop((Q -∗ wp frame (wpE (defs₀ (F := F)) 𝒱₀ (c : Thread nD τ) none) Set.univ k Kt)
      -∗ wp frame (wpE (defs₀ (F := F)) 𝒱₀ (c : Thread nD τ) none) Set.univ (dite cond p fun _ => k) Kt) := by
  by_cases h : cond
  · rw [dif_pos h, hp h]
    iintro HP Hk
    iapply (Run.use (h1 h)) $$ HP
    iintro %_ HQ
    iapply Hk; iexact HQ
  · rw [dif_neg h]
    iintro HP Hk
    iapply Hk
    iapply (h2 h); iexact HP

theorem brA (c : Dev nD) (h : k0_cond1 c = 1#1) : Run c iprop(base m c ∗ workIf m c False) (segA c h) (fun _ => iprop(base m c ∗ workIf m c (ev c))) := by
  have e : ev c = True := eq_true h
  rw [e]
  unfold base workIf Run
  iintro ⟨⟨HX, HK, HV, HKs, HVs⟩, HbX, HKo, HVo, HQ, HC⟩
  iapply (Run.last (segA_run m c h)) $$ [HX HK HV HKs HVs HbX HKo HVo]
  · isplitl [HX]; · iexact HX
    isplitl [HK]; · iexact HK
    isplitl [HV]; · iexact HV
    isplitl [HbX]; · iexact HbX
    isplitl [HKs]; · iexact HKs
    isplitl [HVs]; · iexact HVs
    isplitl [HKo]; · iexact HKo
    iexact HVo
  iintro %_ ⟨HX, HK, HV, HbX, HKs, HVs, HKo, HVo⟩
  isplitl [HX HK HV HKs HVs]
  · isplitl [HX]; · iexact HX
    isplitl [HK]; · iexact HK
    isplitl [HV]; · iexact HV
    isplitl [HKs]; · iexact HKs
    iexact HVs
  isplitl [HbX]; · iexact HbX
  isplitl [HKo]; · iexact HKo
  isplitl [HVo]; · iexact HVo
  isplitl [HQ]; · iexact HQ
  iexact HC

theorem brA_skip (c : Dev nD) (h : ¬ k0_cond1 c = 1#1) : iprop(base m c ∗ workIf m c False) ⊢ iprop(base m c ∗ workIf m c (ev c)) := by
  have e : ev c = False := eq_false h
  rw [e]

section weights

variable (c : Dev nD) (q q' : PosShare TreeShare)

theorem brB (h : ev c) : Run c iprop(workIf m c (ev c) ∗ ptsQ c 0 1024 q (WQ m c) ∗ ptsO c 0 1024 q' (WO m c) ∗ held bA c (AC1 m c) (fun _ => False)) segB
    (fun _ => iprop(workIf m c (ev c) ∗ ptsQ c 0 1024 q (WQ m c) ∗ ptsO c 0 1024 q' (WO m c) ∗ held bA c (AC1 m c) (fun _ => ev c))) := by
  rw [eq_true h]
  exact segB_run m c q q' (AC1 m c)

theorem brB_skip (h : ¬ ev c) : iprop(workIf m c (ev c) ∗ ptsQ c 0 1024 q (WQ m c) ∗ ptsO c 0 1024 q' (WO m c) ∗ held bA c (AC1 m c) (fun _ => False))
    ⊢ iprop(workIf m c (ev c) ∗ ptsQ c 0 1024 q (WQ m c) ∗ ptsO c 0 1024 q' (WO m c) ∗ held bA c (AC1 m c) (fun _ => ev c)) := by
  rw [eq_false h]

theorem brC (h : ev c) : Run c iprop(workIf m c (ev c) ∗ ptsQ c 1024 1792 q (WQ m c) ∗ ptsO c 1024 1792 q' (WO m c) ∗ held bA c (AC1 m c) (fun _ => ev c)) segC
    (fun _ => iprop(workIf m c (ev c) ∗ ptsQ c 1024 1792 q (WQ m c) ∗ ptsO c 1024 1792 q' (WO m c) ∗ held bA c (AC2 m c) (fun _ => ev c))) := by
  rw [eq_true h]
  exact segC_run m c q q'

theorem brC_skip (h : ¬ ev c) : iprop(workIf m c (ev c) ∗ ptsQ c 1024 1792 q (WQ m c) ∗ ptsO c 1024 1792 q' (WO m c) ∗ held bA c (AC1 m c) (fun _ => ev c))
    ⊢ iprop(workIf m c (ev c) ∗ ptsQ c 1024 1792 q (WQ m c) ∗ ptsO c 1024 1792 q' (WO m c) ∗ held bA c (AC2 m c) (fun _ => ev c)) := by
  rw [eq_false h]
  exact sep_mono_right (sep_mono_right (sep_mono_right (held_mono bA c _ _ _ _ (fun _ h => h.elim))))

theorem brD (h : ev c) : Run c iprop(workIf m c (ev c) ∗ ptsQ c 1792 2048 q (WQ m c) ∗ ptsO c 1792 2048 q' (WO m c) ∗ held bA c (AC2 m c) (fun _ => ev c) ∗ held aOut c (k0_pay3 (AC3 m c)) (fun _ => False)) segD
    (fun _ => iprop(workIf m c (ev c) ∗ ptsQ c 1792 2048 q (WQ m c) ∗ ptsO c 1792 2048 q' (WO m c) ∗ held bA c (AC3 m c) (fun _ => ev c) ∗ held aOut c (k0_pay3 (AC3 m c)) (fun _ => ev c))) := by
  rw [eq_true h]
  exact segD_run m c q q' (k0_pay3 (AC3 m c))

theorem brD_skip (h : ¬ ev c) : iprop(workIf m c (ev c) ∗ ptsQ c 1792 2048 q (WQ m c) ∗ ptsO c 1792 2048 q' (WO m c) ∗ held bA c (AC2 m c) (fun _ => ev c) ∗ held aOut c (k0_pay3 (AC3 m c)) (fun _ => False))
    ⊢ iprop(workIf m c (ev c) ∗ ptsQ c 1792 2048 q (WQ m c) ∗ ptsO c 1792 2048 q' (WO m c) ∗ held bA c (AC3 m c) (fun _ => ev c) ∗ held aOut c (k0_pay3 (AC3 m c)) (fun _ => ev c)) := by
  rw [eq_false h]
  exact sep_mono_right (sep_mono_right (sep_mono_right (sep_mono_left (held_mono bA c _ _ _ _ (fun _ h => h.elim)))))

end weights

/-- The result: the accumulator on an even device, zeros on an odd one. -/
def OUT (c : Dev nD) : S2x128x512.Idx → F .f32 := open Classical in if ev c then k0_pay3 (AC3 m c) else k0_pay4

theorem brE (c : Dev nD) (h : ¬ ev c) : Run c (held aOut c (k0_pay3 (AC3 m c)) (fun _ => ev c)) (stOut k0_pay4) (fun _ => allOf aOut c (OUT m c)) := by
  have e : OUT m c = k0_pay4 := if_neg h
  rw [e]
  exact stOut_run c _ _ _

theorem brE_skip (c : Dev nD) (h : ev c) : (held aOut c (k0_pay3 (AC3 m c)) (fun _ => ev c)) ⊢ allOf aOut c (OUT m c) := by
  have e : OUT m c = k0_pay3 (AC3 m c) := if_pos h
  rw [e]
  exact held_mono aOut c _ _ _ _ (fun _ _ => ⟨h, rfl⟩)

end Cert.Wk
end
-- ==== Proof.Parts.lean ====
/-
# The program is its loops

Each stretch of local work in the printed program equals the loop form.
-/
module

public import proofs.«01_k».proof.Proof.Loops

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A part of the program at this call's buffers and semaphores. -/
abbrev onA {β : Sort*} (p : (a0 : Memref sig .tc .vmem S2x128x512 .f32) → a0.IsWhole →
    (a1 : Memref sig .tc .vmem S512x256 .f32) → a1.IsWhole →
    (a2 : Memref sig .tc .vmem S2x128x32x64 .f32) → a2.IsWhole →
    (a3 : Memref sig .tc .vmem S2x128x32x64 .f32) → a3.IsWhole →
    (a4 : Memref sig .tc .vmem S256x512 .f32) → a4.IsWhole →
    (a5 : Memref sig .tc .vmem S2x128x512 .f32) → a5.IsWhole →
    (a6 : Memref sig .tc .vmem S512x2048 .bf16) → a6.IsWhole →
    (a7 : Memref sig .tc .vmem S2048x512 .bf16) → a7.IsWhole →
    (a8 : Memref sig .tc .vmem S256x512 .bf16) → a8.IsWhole →
    (a9 : Memref sig .tc .vmem S8x8x128x64 .bf16) → a9.IsWhole →
    (a10 : Memref sig .tc .vmem S8x8x128x64 .bf16) → a10.IsWhole →
    (a11 : Memref sig .tc .vmem S64x128x64 .bf16) → a11.IsWhole →
    (a12 : Memref sig .tc .vmem S64x128x64 .bf16) → a12.IsWhole →
    (a13 : Memref sig .tc .vmem S64x128x64 .bf16) → a13.IsWhole →
    (a14 : Memref sig .tc .vmem S256x1024 .bf16) → a14.IsWhole →
    (a15 : Memref sig .tc .vmem S256x512 .f32) → a15.IsWhole →
    DmaSems sig S2x3 → DmaSems sig S2x3 → DmaSems sig S2x3 → DmaSems sig S2x3 → DmaSems sig S6 → DmaSems sig S6 → β) : β :=
  p aX (Memref.isWhole_whole _) aWq (Memref.isWhole_whole _) aK (Memref.isWhole_whole _) aV (Memref.isWhole_whole _) aWo (Memref.isWhole_whole _) aOut (Memref.isWhole_whole _) qM (Memref.isWhole_whole _) oM (Memref.isWhole_whole _) bX (Memref.isWhole_whole _) bK (Memref.isWhole_whole _) bV (Memref.isWhole_whole _) bKo (Memref.isWhole_whole _) bVo (Memref.isWhole_whole _) bQ (Memref.isWhole_whole _) bC (Memref.isWhole_whole _) bA (Memref.isWhole_whole _)
    cc0_scratch10 cc0_scratch11 cc0_scratch12 cc0_scratch13 cc0_scratch14 cc0_scratch15

/-- As `loop`, with what follows. -/
def loopK (f : ℕ → PR F PUnit) : ℕ → ℕ → PR F PUnit → PR F PUnit
  | _, 0, k => k
  | s, n + 1, k => f s >>= fun _ => loopK f (s + 1) n k

theorem loopK_eq (f : ℕ → PR F PUnit) (k : PR F PUnit) (n : ℕ) : ∀ s, loopK f s n k = loop f s n >>= fun _ => k := by
  induction n with
  | zero => intro s; rfl
  | succ n ih => intro s; simp only [loopK, loop, ih, Prog.bind_assoc]

theorem loop_add (f : ℕ → PR F PUnit) (a b : ℕ) : ∀ s, loop f s (a + b) = loop f s a >>= fun _ => loop f (s + a) b := by
  induction a with
  | zero => intro s; simp only [Nat.zero_add, Nat.add_zero]; rfl
  | succ a ih => intro s; rw [Nat.succ_add]; simp only [loop, ih, Prog.bind_assoc]; rw [Nat.add_right_comm s 1 a, Nat.add_assoc s a 1]

theorem loop_loop (f : ℕ → PR F PUnit) (w a n : ℕ) : ∀ s, loop (fun i => loop f (w * i + a) w) s n = loop f (w * s + a) (n * w) := by
  induction n with
  | zero => intro s; simp only [Nat.zero_mul, loop]
  | succ n ih =>
    intro s
    rw [Nat.succ_mul, Nat.add_comm (n * w) w, loop_add f w (n * w), loop, ih (s + 1), Nat.mul_add, Nat.mul_one, Nat.add_right_comm (w * s) w a]

/-- The parts that only copy heads. -/
def headParts : List (PR F PUnit) := [onA k0_part2, onA k0_part3, onA k0_part4, onA k0_part5, onA k0_part6, onA k0_part7, onA k0_part8, onA k0_part9, onA k0_part10, onA k0_part11, onA k0_part12, onA k0_part13, onA k0_part14, onA k0_part15, onA k0_part16, onA k0_part17, onA k0_part18, onA k0_part19, onA k0_part20, onA k0_part21, onA k0_part22, onA k0_part23, onA k0_part24, onA k0_part25, onA k0_part26, onA k0_part27, onA k0_part28, onA k0_part29, onA k0_part30, onA k0_part31, onA k0_part32]
def headPart (i : ℕ) : PR F PUnit := headParts.getD i (pure ⟨⟩)

set_option maxRecDepth 65536 in
theorem headPart_eq : ∀ i : Fin 31, headPart (F := F) i = loop cpVK (2 * i + 1) 2 := by
  intro i; fin_cases i <;> rfl

set_option maxRecDepth 65536 in
/-- The first branch of an even device. -/
theorem segA_eq (d0 : Dev nD) (v2 : BitVec 32) (h : k0_cond1 d0 = 1#1) :
    (onA (k0_part36 (F := F)) d0 v2 h >>= fun v1215 => (do
      let _ : Vec F S8x128x64 .bf16 ← Prog.lift (.load bVo (rOrd 6).toLoadRect (View.loadsAt_vmem h_S8x128x64))
      Prog.lift (.store bVo (rOrd 6) (k0_pay295 v1215) Finset.univ (View.stores_vmem h_S8x128x64 ((Memref.isWhole_whole _ : bVo.IsWhole).storeExact_slice rfl _ (packed_ord 6)) (fun _ => rfl)) (.inl rfl))
      ordKV d0 h 7)) = segA d0 h := by
  rw [k0_part36_eq_skeleton]
  simp only [onA, k0_part36_skel, Prog.bind_assoc]
  refine Eq.trans (b := onA (k0_part1 (F := F)) >>= fun _ => loopK headPart 0 31 (do cpHead aV bV (Memref.isWhole_whole _) 63; loop (ordKV d0 h) 0 8)) ?_ ?_
  · have tail : ∀ (k k' : PR F PUnit), k = k' → loopK headPart 0 31 k = loopK headPart 0 31 k' := fun _ _ e => e ▸ rfl
    exact congrArg (onA (k0_part1 (F := F)) >>= ·) (funext fun _ => tail _ _ rfl)
  · have h1 : onA (k0_part1 (F := F)) = (do ldX; cpHead aK bK (Memref.isWhole_whole _) 0; cpVK 0) := by rw [k0_part1_eq_skeleton]; rfl
    have h2 : loop (F := F) headPart 0 31 = loop cpVK 1 62 := by
      rw [← loop_loop cpVK 2 1 31 0]
      have : ∀ n s, s + n ≤ 31 → loop (F := F) headPart s n = loop (fun i => loop cpVK (2 * i + 1) 2) s n := by
        intro n
        induction n with
        | zero => intro s _; rfl
        | succ n ih =>
          intro s hs
          simp only [loop]
          rw [ih (s + 1) (by omega), show headPart s = loop cpVK (2 * s + 1) 2 from headPart_eq (F := F) ⟨s, by omega⟩]
          rfl
      exact this 31 0 (by omega)
    rw [h1, loopK_eq, h2]
    have h3 : loop (F := F) cpVK 0 63 = (cpVK 0 >>= fun _ => loop cpVK 1 62) := rfl
    simp only [segA, h3, Prog.bind_assoc]

set_option maxRecDepth 65536 in
/-- The second. -/
theorem segB_eq :
    (onA (k0_part37 (F := F)) >>= fun a => onA k0_part38 a.1 a.2 >>= fun b => onA k0_part39 a.1 b >>= fun d => onA k0_part40 a.1 d >>= fun e =>
      onA k0_part41 a.1 e >>= fun _ => onA k0_part42 >>= fun v => onA k0_part43 v >>= fun f => onA k0_part44 v f.1 f.2 >>= fun g => onA k0_part45 v g >>= fun _ =>
      onA k0_part46 v >>= fun h => (do
        stC (k0_pay298 h.1) 29
        tileC (k0_pay299 v) 30
        tileC (k0_pay300 v) 31
        let u ← ldC
        let w ← ldWo 1024 0 inb_S2048x512_S1024x512_0_0 h_S1024x512
        let _ ← ldA
        stA (k0_pay301 u w))) = segB := rfl

set_option maxRecDepth 65536 in
/-- The third. -/
theorem segC_eq :
    (onA (k0_part47 (F := F)) >>= fun a => onA k0_part48 a.1 a.2 >>= fun b => onA k0_part49 a.1 b >>= fun d => onA k0_part50 a.1 d >>= fun e =>
      onA k0_part51 e.1 e.2 >>= fun f => onA k0_part52 f.1 f.2 >>= fun _ => onA k0_part53 f.1 >>= fun g => onA k0_part54 f.1 g.1 g.2 >>= fun u => (do
        let w ← ldWo 768 1024 inb_S2048x512_S768x512_1024_0 h_S768x512
        let a ← ldA
        let _ ← ldA
        stA (k0_pay302 u w a))) = segC := rfl

set_option maxRecDepth 65536 in
/-- The last. -/
theorem segD_eq :
    (onA (k0_part55 (F := F)) >>= fun a => onA k0_part56 a.1 a.2 >>= fun b => onA k0_part57 b.1 b.2 >>= fun _ => (do
        tileC (k0_pay1 b.1) 7
        let u ← ldC
        let w ← ldWo 256 1792 inb_S2048x512_S256x512_1792_0 h_S256x512
        let a ← ldA
        let _ ← ldA
        stA (k0_pay2 u w a)
        let r ← ldA
        stOut (k0_pay3 r))) = segD := rfl

end Cert.Wk
end
-- ==== Proof.Body.lean ====
/-
# The body's parts

Each part of the body in turn: what it needs and what it leaves.
-/
module

public import proofs.«01_k».proof.Proof.Attend
public import proofs.«01_k».proof.Proof.Parts

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 37 → ℕ) (c : Dev nD)

/-- Where device `c` is: it has paid its first `n` bills. -/
def St (n : ℕ) : sProp 𝕄 := iprop(know m K ∗ ∃ W, owes (c : Thread nD τ) (owe c n) W)
theorem St_open (n : ℕ) : St m K c n ⊢ iprop(know m K ∗ ∃ W, owes (c : Thread nD τ) (owe c n) W) := Entails.rfl
/-- All that starting transfer `j` takes, and all that it leaves once through. -/
def Go (j : Fin 17) : sProp 𝕄 := iprop(Res j c ∗ srcPts m j c ∗ dstAny j (px (tr j).k c))
def Got (j : Fin 17) : sProp 𝕄 := iprop(Done j c ∗ srcPts m j c ∗ dstPts m j c)

theorem stepQ (j : Fin 17) (n : Dev nD) (hn : n = px (tr j).k c) {a b : ℕ} {sz} {ia} {ib} {sS rS : DmaSem sig}
    (hQ : (tr j).isQ = true) (ha : (tr j).src = a) (hb : (tr j).dst = b) (hw : (tr j).w = sz 1) (h0 : sz 0 = 512)
    (hs : (tr j).snd = sS) (hr : (tr j).rcv = rS) (hN : (qS b sz ib).view.dmaCredit = amt j)
    (o : ℕ) (ho : owe c o = owe c (o + 1) + tallyAt (rC j (px (tr j).k c)) () (amt j))
    {hsc : (qS b sz ib : Memref sig (Dev.tc n : Thread nD τ).2.kind .vmem ⟨2, sz⟩ .bf16).view.ref.isScScratch = false}
    {hsrc : (qS a sz ia).view.WordExact} {hdst : (qS b sz ib).view.WordExact}
    {hsem : DmaTarget.Typed .vmem (.dma rS) (.remote (Dev.tc n : Thread nD τ) (qS b sz ib) (.dma sS) hsc)}
    {α : Type} {Kt : α → sProp 𝕄} {k : PUnit → Prog (TpuEff nD τ sig (Elt F) Λ₀ .tc) α} :
    iprop(St m K c o ∗ Go m c j) ⊢ iprop(((St m K c (o + 1) ∗ Fly j c) -∗ wp frame (wpE (defs₀ (F := F)) 𝒱₀ (c : Thread nD τ) none) Set.univ (k ⟨⟩) Kt)
      -∗ wp frame (wpE (defs₀ (F := F)) 𝒱₀ (c : Thread nD τ) none) Set.univ
          (.op (.enqueueDma (qS a sz ia) (.remote (Dev.tc n : Thread nD τ) (qS b sz ib) (.dma sS) hsc) (.dma rS) hsrc hdst hsem) k) Kt) := by
  unfold St Go
  iintro ⟨⟨#HK, %W, HO⟩, HR, HS, HD⟩ Hk
  iapply (wp_sndQ m K c W j n hn hQ ha hb hw h0 hs hr hN o ho) $$ HK HR HS HD HO
  iintro ⟨HF, HO⟩
  iapply Hk
  isplitr [HF]
  · isplitr; · iexact HK
    iexists W; iexact HO
  · iexact HF

theorem stepO (j : Fin 17) (n : Dev nD) (hn : n = px (tr j).k c) {a b : ℕ} {sz} {ia} {ib} {sS rS : DmaSem sig}
    (hQ : (tr j).isQ = false) (ha : (tr j).src = a) (hb : (tr j).dst = b) (hw : (tr j).w = sz 0) (h0 : sz 1 = 512)
    (hs : (tr j).snd = sS) (hr : (tr j).rcv = rS) (hN : (oS b sz ib).view.dmaCredit = amt j)
    (o : ℕ) (ho : owe c o = owe c (o + 1) + tallyAt (rC j (px (tr j).k c)) () (amt j))
    {hsc : (oS b sz ib : Memref sig (Dev.tc n : Thread nD τ).2.kind .vmem ⟨2, sz⟩ .bf16).view.ref.isScScratch = false}
    {hsrc : (oS a sz ia).view.WordExact} {hdst : (oS b sz ib).view.WordExact}
    {hsem : DmaTarget.Typed .vmem (.dma rS) (.remote (Dev.tc n : Thread nD τ) (oS b sz ib) (.dma sS) hsc)}
    {α : Type} {Kt : α → sProp 𝕄} {k : PUnit → Prog (TpuEff nD τ sig (Elt F) Λ₀ .tc) α} :
    iprop(St m K c o ∗ Go m c j) ⊢ iprop(((St m K c (o + 1) ∗ Fly j c) -∗ wp frame (wpE (defs₀ (F := F)) 𝒱₀ (c : Thread nD τ) none) Set.univ (k ⟨⟩) Kt)
      -∗ wp frame (wpE (defs₀ (F := F)) 𝒱₀ (c : Thread nD τ) none) Set.univ
          (.op (.enqueueDma (oS a sz ia) (.remote (Dev.tc n : Thread nD τ) (oS b sz ib) (.dma sS) hsc) (.dma rS) hsrc hdst hsem) k) Kt) := by
  unfold St Go
  iintro ⟨⟨#HK, %W, HO⟩, HR, HS, HD⟩ Hk
  iapply (wp_sndO m K c W j n hn hQ ha hb hw h0 hs hr hN o ho) $$ HK HR HS HD HO
  iintro ⟨HF, HO⟩
  iapply Hk
  isplitr [HF]
  · isplitr; · iexact HK
    iexists W; iexact HO
  · iexact HF

theorem stepS (j : Fin 17) {sS : DmaSem sig} (hs : (tr j).snd = sS) (o b : ℕ)
    (hlev : ∀ x ∈ (bills c).drop o, x.1.1.2 = .tc ∧ b < lvS x.1.2)
    {s₁ s₂ : Shape} {e₁ e₂ : EltTy} {sp₁ sp₂ : Space} {v₁ : Memref sig .tc sp₁ s₁ e₁} {v₂ : Memref sig .tc sp₂ s₂ e₂}
    {h₁ h₂} (hN₁ : v₂.view.dmaCredit = amt j)
    {α : Type} {Kt : α → sProp 𝕄} {k : PUnit → Prog (TpuEff nD τ sig (Elt F) Λ₀ .tc) α} :
    iprop(St m K c o ∗ Fly j c) ⊢ iprop(((St m K c o ∗ Mid j c ∗ srcPts m j c) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 sS v₁ v₂ h₁ h₂) k) Kt) := by
  unfold St
  iintro ⟨⟨#HK, %W, HO⟩, HF⟩ Hk
  iapply (wp_ws m K c W j hs o b hlev hN₁) $$ HK HF HO
  iintro ⟨%W', HM, HO⟩
  iapply Hk
  isplitr [HM]
  · isplitr; · iexact HK
    iexists W'; iexact HO
  · iexact HM

theorem stepR (j : Fin 17) {rS : DmaSem sig} (hr : (tr j).rcv = rS) (o b : ℕ)
    (hlev : ∀ x ∈ (bills c).drop o, x.1.1.2 = .tc ∧ b < lvS x.1.2) (hb : lvS (.dma rS) ≤ b)
    {s₁ s₂ : Shape} {e₁ e₂ : EltTy} {sp₁ sp₂ : Space} {v₁ : Memref sig .tc sp₁ s₁ e₁} {v₂ : Memref sig .tc sp₂ s₂ e₂}
    {h₁ h₂} (hN₁ : v₂.view.dmaCredit = amt j)
    {α : Type} {Kt : α → sProp 𝕄} {k : PUnit → Prog (TpuEff nD τ sig (Elt F) Λ₀ .tc) α} :
    iprop(St m K c o ∗ Mid j c ∗ srcPts m j c) ⊢ iprop(((St m K c o ∗ Got m c j) -∗ wp frame (wpE (defs₀ (F := F)) 𝒱₀ (c : Thread nD τ) none) Set.univ (k ⟨⟩) Kt)
      -∗ wp frame (wpE (defs₀ (F := F)) 𝒱₀ (c : Thread nD τ) none) Set.univ (.op (.waitDma2 rS v₁ v₂ h₁ h₂) k) Kt) := by
  unfold St Got
  iintro ⟨⟨#HK, %W, HO⟩, HF, Hs⟩ Hk
  iapply (wp_wr m K c W j hr o b hlev hb hN₁) $$ HK HF HO
  iintro ⟨%W', ⟨HM, Hd⟩, HO⟩
  iapply Hk
  isplitr [HM Hd Hs]
  · isplitr; · iexact HK
    iexists W'; iexact HO
  · isplitl [HM]; · iexact HM
    isplitl [Hs]; · iexact Hs
    iexact Hd

theorem bills_done : ∀ x ∈ (bills c).drop 20, x.1.1.2 = .tc ∧ 4 < lvS x.1.2 := by
  intro x hx; exact absurd hx (List.not_mem_nil)

theorem part60_run (v15 v16 : BitVec 32) : Run c iprop(St m K c 5 ∗ Go m c 2 ∗ Go m c 3 ∗ Go m c 4) (onA (k0_part60 (F := F)) c v15 v16)
    (fun _ => iprop(St m K c 8 ∗ Fly 2 c ∗ Fly 3 c ∗ Fly 4 c)) := by
  have h6 : ∀ c, (⟨k0_dev6 c, k0_dev6_lt c⟩ : Dev nD) = px 3 c := by decide
  have h7 : ∀ c, (⟨k0_dev7 c, k0_dev7_lt c⟩ : Dev nD) = px 3 c := by decide
  have h8 : ∀ c, (⟨k0_dev8 c, k0_dev8_lt c⟩ : Dev nD) = px 4 c := by decide
  rw [k0_part60_eq_skeleton]
  unfold Run
  simp only [onA, k0_part60_skel, Prog.lift, Prog.bind_op, Prog.bind_ret]
  iintro ⟨HS, G2, G3, G4⟩
  iapply (stepQ m K c 2 _ (h6 c) rfl rfl rfl rfl rfl rfl rfl rfl 5 rfl) $$ [HS G2]
  · isplitl [HS]; · iexact HS
    iexact G2
  iintro ⟨HS, G2⟩
  iapply (stepO m K c 3 _ (h7 c) rfl rfl rfl rfl rfl rfl rfl rfl 6 rfl) $$ [HS G3]
  · isplitl [HS]; · iexact HS
    iexact G3
  iintro ⟨HS, G3⟩
  iapply (stepQ m K c 4 _ (h8 c) rfl rfl rfl rfl rfl rfl rfl rfl 7 rfl) $$ [HS G4]
  · isplitl [HS]; · iexact HS
    iexact G4
  iintro ⟨HS, G4⟩
  simp only [wp_pure]
  imodintro
  isplitl [HS]; · iexact HS
  isplitl [G2]; · iexact G2
  isplitl [G3]; · iexact G3
  iexact G4

theorem part62_run (v14 v15 : BitVec 32) : Run c iprop(St m K c 9 ∗ (Mid 1 c ∗ srcPts m 1 c) ∗ Fly 2 c ∗ Fly 3 c) (onA (k0_part62 (F := F)) v14 v15)
    (fun _ => iprop(St m K c 9 ∗ Got m c 1 ∗ Got m c 2 ∗ (Mid 3 c ∗ srcPts m 3 c))) := by
  rw [k0_part62_eq_skeleton]
  unfold Run
  simp only [onA, k0_part62_skel, Prog.lift, Prog.bind_op, Prog.bind_ret]
  iintro ⟨HS, G1, G2, G3⟩
  iapply (stepR m K c 1 rfl 9 2 (bills_above c).2.2.1 (by decide) ?_) $$ [HS G1]
  · rfl
  · isplitl [HS]; · iexact HS
    iexact G1
  iintro ⟨HS, G1⟩
  iapply (stepS m K c 2 rfl 9 2 (bills_above c).2.2.1 ?_) $$ [HS G2]
  · rfl
  · isplitl [HS]; · iexact HS
    iexact G2
  iintro ⟨HS, G2⟩
  iapply (stepR m K c 2 rfl 9 2 (bills_above c).2.2.1 (by decide) ?_) $$ [HS G2]
  · rfl
  · isplitl [HS]; · iexact HS
    iexact G2
  iintro ⟨HS, G2⟩
  iapply (stepS m K c 3 rfl 9 2 (bills_above c).2.2.1 ?_) $$ [HS G3]
  · rfl
  · isplitl [HS]; · iexact HS
    iexact G3
  iintro ⟨HS, G3⟩
  simp only [wp_pure]
  imodintro
  isplitl [HS]; · iexact HS
  isplitl [G1]; · iexact G1
  isplitl [G2]; · iexact G2
  iexact G3

theorem part63_run (v15 v16 : BitVec 32) : Run c iprop(St m K c 9 ∗ (Mid 3 c ∗ srcPts m 3 c) ∗ Fly 4 c) (onA (k0_part63 (F := F)) v15 v16)
    (fun _ => iprop(St m K c 9 ∗ Got m c 3 ∗ Got m c 4)) := by
  rw [k0_part63_eq_skeleton]
  unfold Run
  simp only [onA, k0_part63_skel, Prog.lift, Prog.bind_op, Prog.bind_ret]
  iintro ⟨HS, G3, G4⟩
  iapply (stepR m K c 3 rfl 9 2 (bills_above c).2.2.1 (by decide) ?_) $$ [HS G3]
  · rfl
  · isplitl [HS]; · iexact HS
    iexact G3
  iintro ⟨HS, G3⟩
  iapply (stepS m K c 4 rfl 9 2 (bills_above c).2.2.1 ?_) $$ [HS G4]
  · rfl
  · isplitl [HS]; · iexact HS
    iexact G4
  iintro ⟨HS, G4⟩
  iapply (stepR m K c 4 rfl 9 2 (bills_above c).2.2.1 (by decide) ?_) $$ [HS G4]
  · rfl
  · isplitl [HS]; · iexact HS
    iexact G4
  iintro ⟨HS, G4⟩
  simp only [wp_pure]
  imodintro
  isplitl [HS]; · iexact HS
  isplitl [G3]; · iexact G3
  iexact G4

theorem part64_run (v14 v16 : BitVec 32) : Run c iprop(St m K c 9 ∗ Fly 5 c ∗ Go m c 6 ∗ Go m c 7) (onA (k0_part64 (F := F)) c v14 v16)
    (fun _ => iprop(St m K c 11 ∗ Got m c 5 ∗ Fly 6 c ∗ Fly 7 c)) := by
  have h10 : ∀ c, (⟨k0_dev10 c, k0_dev10_lt c⟩ : Dev nD) = px 1 c := by decide
  have h11 : ∀ c, (⟨k0_dev11 c, k0_dev11_lt c⟩ : Dev nD) = px 1 c := by decide
  rw [k0_part64_eq_skeleton]
  unfold Run
  simp only [onA, k0_part64_skel, Prog.lift, Prog.bind_op, Prog.bind_ret]
  iintro ⟨HS, G5, G6, G7⟩
  iapply (stepS m K c 5 rfl 9 2 (bills_above c).2.2.1 ?_) $$ [HS G5]
  · rfl
  · isplitl [HS]; · iexact HS
    iexact G5
  iintro ⟨HS, G5⟩
  iapply (stepR m K c 5 rfl 9 2 (bills_above c).2.2.1 (by decide) ?_) $$ [HS G5]
  · rfl
  · isplitl [HS]; · iexact HS
    iexact G5
  iintro ⟨HS, G5⟩
  iapply (stepQ m K c 6 _ (h10 c) rfl rfl rfl rfl rfl rfl rfl rfl 9 rfl) $$ [HS G6]
  · isplitl [HS]; · iexact HS
    iexact G6
  iintro ⟨HS, G6⟩
  iapply (stepO m K c 7 _ (h11 c) rfl rfl rfl rfl rfl rfl rfl rfl 10 rfl) $$ [HS G7]
  · isplitl [HS]; · iexact HS
    iexact G7
  iintro ⟨HS, G7⟩
  simp only [wp_pure]
  imodintro
  isplitl [HS]; · iexact HS
  isplitl [G5]; · iexact G5
  isplitl [G6]; · iexact G6
  iexact G7

theorem part65_run (v15 v16 : BitVec 32) : Run c iprop(St m K c 11 ∗ Go m c 8 ∗ Go m c 9 ∗ Go m c 10) (onA (k0_part65 (F := F)) c v15 v16)
    (fun _ => iprop(St m K c 14 ∗ Fly 8 c ∗ Fly 9 c ∗ Fly 10 c)) := by
  have h12 : ∀ c, (⟨k0_dev12 c, k0_dev12_lt c⟩ : Dev nD) = px 3 c := by decide
  have h13 : ∀ c, (⟨k0_dev13 c, k0_dev13_lt c⟩ : Dev nD) = px 3 c := by decide
  have h14 : ∀ c, (⟨k0_dev14 c, k0_dev14_lt c⟩ : Dev nD) = px 4 c := by decide
  rw [k0_part65_eq_skeleton]
  unfold Run
  simp only [onA, k0_part65_skel, Prog.lift, Prog.bind_op, Prog.bind_ret]
  iintro ⟨HS, G8, G9, G10⟩
  iapply (stepQ m K c 8 _ (h12 c) rfl rfl rfl rfl rfl rfl rfl rfl 11 rfl) $$ [HS G8]
  · isplitl [HS]; · iexact HS
    iexact G8
  iintro ⟨HS, G8⟩
  iapply (stepO m K c 9 _ (h13 c) rfl rfl rfl rfl rfl rfl rfl rfl 12 rfl) $$ [HS G9]
  · isplitl [HS]; · iexact HS
    iexact G9
  iintro ⟨HS, G9⟩
  iapply (stepQ m K c 10 _ (h14 c) rfl rfl rfl rfl rfl rfl rfl rfl 13 rfl) $$ [HS G10]
  · isplitl [HS]; · iexact HS
    iexact G10
  iintro ⟨HS, G10⟩
  simp only [wp_pure]
  imodintro
  isplitl [HS]; · iexact HS
  isplitl [G8]; · iexact G8
  isplitl [G9]; · iexact G9
  iexact G10

theorem part67_run (v14 v15 : BitVec 32) : Run c iprop(St m K c 15 ∗ Fly 7 c ∗ Fly 8 c) (onA (k0_part67 (F := F)) v14 v15)
    (fun _ => iprop(St m K c 15 ∗ Got m c 7 ∗ Got m c 8)) := by
  rw [k0_part67_eq_skeleton]
  unfold Run
  simp only [onA, k0_part67_skel, Prog.lift, Prog.bind_op, Prog.bind_ret]
  iintro ⟨HS, G7, G8⟩
  iapply (stepS m K c 7 rfl 15 3 (bills_above c).2.2.2 ?_) $$ [HS G7]
  · rfl
  · isplitl [HS]; · iexact HS
    iexact G7
  iintro ⟨HS, G7⟩
  iapply (stepR m K c 7 rfl 15 3 (bills_above c).2.2.2 (by decide) ?_) $$ [HS G7]
  · rfl
  · isplitl [HS]; · iexact HS
    iexact G7
  iintro ⟨HS, G7⟩
  iapply (stepS m K c 8 rfl 15 3 (bills_above c).2.2.2 ?_) $$ [HS G8]
  · rfl
  · isplitl [HS]; · iexact HS
    iexact G8
  iintro ⟨HS, G8⟩
  iapply (stepR m K c 8 rfl 15 3 (bills_above c).2.2.2 (by decide) ?_) $$ [HS G8]
  · rfl
  · isplitl [HS]; · iexact HS
    iexact G8
  iintro ⟨HS, G8⟩
  simp only [wp_pure]
  imodintro
  isplitl [HS]; · iexact HS
  isplitl [G7]; · iexact G7
  iexact G8

theorem part68_run (v15 v16 : BitVec 32) : Run c iprop(St m K c 15 ∗ Fly 9 c ∗ Fly 10 c) (onA (k0_part68 (F := F)) v15 v16)
    (fun _ => iprop(St m K c 15 ∗ Got m c 9 ∗ Got m c 10)) := by
  rw [k0_part68_eq_skeleton]
  unfold Run
  simp only [onA, k0_part68_skel, Prog.lift, Prog.bind_op, Prog.bind_ret]
  iintro ⟨HS, G9, G10⟩
  iapply (stepS m K c 9 rfl 15 3 (bills_above c).2.2.2 ?_) $$ [HS G9]
  · rfl
  · isplitl [HS]; · iexact HS
    iexact G9
  iintro ⟨HS, G9⟩
  iapply (stepR m K c 9 rfl 15 3 (bills_above c).2.2.2 (by decide) ?_) $$ [HS G9]
  · rfl
  · isplitl [HS]; · iexact HS
    iexact G9
  iintro ⟨HS, G9⟩
  iapply (stepS m K c 10 rfl 15 3 (bills_above c).2.2.2 ?_) $$ [HS G10]
  · rfl
  · isplitl [HS]; · iexact HS
    iexact G10
  iintro ⟨HS, G10⟩
  iapply (stepR m K c 10 rfl 15 3 (bills_above c).2.2.2 (by decide) ?_) $$ [HS G10]
  · rfl
  · isplitl [HS]; · iexact HS
    iexact G10
  iintro ⟨HS, G10⟩
  simp only [wp_pure]
  imodintro
  isplitl [HS]; · iexact HS
  isplitl [G9]; · iexact G9
  iexact G10

theorem part69_run (v14 v15 v16 : BitVec 32) : Run c iprop(St m K c 15 ∗ Fly 11 c ∗ Go m c 12 ∗ Go m c 13) (onA (k0_part69 (F := F)) c v14 v15 v16)
    (fun _ => iprop(St m K c 17 ∗ Got m c 11 ∗ Fly 12 c ∗ Fly 13 c)) := by
  have h16 : ∀ c, (⟨k0_dev16 c, k0_dev16_lt c⟩ : Dev nD) = px 1 c := by decide
  have h17 : ∀ c, (⟨k0_dev17 c, k0_dev17_lt c⟩ : Dev nD) = px 1 c := by decide
  rw [k0_part69_eq_skeleton]
  unfold Run
  simp only [onA, k0_part69_skel, Prog.lift, Prog.bind_op, Prog.bind_ret]
  iintro ⟨HS, G11, G12, G13⟩
  iapply (stepS m K c 11 rfl 15 3 (bills_above c).2.2.2 ?_) $$ [HS G11]
  · rfl
  · isplitl [HS]; · iexact HS
    iexact G11
  iintro ⟨HS, G11⟩
  iapply (stepR m K c 11 rfl 15 3 (bills_above c).2.2.2 (by decide) ?_) $$ [HS G11]
  · rfl
  · isplitl [HS]; · iexact HS
    iexact G11
  iintro ⟨HS, G11⟩
  iapply (stepQ m K c 12 _ (h16 c) rfl rfl rfl rfl rfl rfl rfl rfl 15 rfl) $$ [HS G12]
  · isplitl [HS]; · iexact HS
    iexact G12
  iintro ⟨HS, G12⟩
  iapply (stepO m K c 13 _ (h17 c) rfl rfl rfl rfl rfl rfl rfl rfl 16 rfl) $$ [HS G13]
  · isplitl [HS]; · iexact HS
    iexact G13
  iintro ⟨HS, G13⟩
  simp only [wp_pure]
  imodintro
  isplitl [HS]; · iexact HS
  isplitl [G11]; · iexact G11
  isplitl [G12]; · iexact G12
  iexact G13

theorem part71_run (v14 : BitVec 32) : Run c iprop(St m K c 20 ∗ Fly 12 c ∗ Fly 13 c ∗ Fly 14 c) (onA (k0_part71 (F := F)) v14)
    (fun _ => iprop(St m K c 20 ∗ Got m c 12 ∗ Got m c 13 ∗ (Mid 14 c ∗ srcPts m 14 c))) := by
  rw [k0_part71_eq_skeleton]
  unfold Run
  simp only [onA, k0_part71_skel, Prog.lift, Prog.bind_op, Prog.bind_ret]
  iintro ⟨HS, G12, G13, G14⟩
  iapply (stepS m K c 12 rfl 20 4 (bills_done c) ?_) $$ [HS G12]
  · rfl
  · isplitl [HS]; · iexact HS
    iexact G12
  iintro ⟨HS, G12⟩
  iapply (stepR m K c 12 rfl 20 4 (bills_done c) (by decide) ?_) $$ [HS G12]
  · rfl
  · isplitl [HS]; · iexact HS
    iexact G12
  iintro ⟨HS, G12⟩
  iapply (stepS m K c 13 rfl 20 4 (bills_done c) ?_) $$ [HS G13]
  · rfl
  · isplitl [HS]; · iexact HS
    iexact G13
  iintro ⟨HS, G13⟩
  iapply (stepR m K c 13 rfl 20 4 (bills_done c) (by decide) ?_) $$ [HS G13]
  · rfl
  · isplitl [HS]; · iexact HS
    iexact G13
  iintro ⟨HS, G13⟩
  iapply (stepS m K c 14 rfl 20 4 (bills_done c) ?_) $$ [HS G14]
  · rfl
  · isplitl [HS]; · iexact HS
    iexact G14
  iintro ⟨HS, G14⟩
  simp only [wp_pure]
  imodintro
  isplitl [HS]; · iexact HS
  isplitl [G12]; · iexact G12
  isplitl [G13]; · iexact G13
  iexact G14

theorem part72_run (v15 v16 z : BitVec 32) : Run c iprop(St m K c 20 ∗ (Mid 14 c ∗ srcPts m 14 c) ∗ Fly 15 c ∗ Fly 16 c) (onA (k0_part72 (F := F)) v15 v16 z)
    (fun _ => iprop(St m K c 20 ∗ Got m c 14 ∗ Got m c 15 ∗ (Mid 16 c ∗ srcPts m 16 c))) := by
  rw [k0_part72_eq_skeleton]
  unfold Run
  simp only [onA, k0_part72_skel, Prog.lift, Prog.bind_op, Prog.bind_ret]
  iintro ⟨HS, G14, G15, G16⟩
  iapply (stepR m K c 14 rfl 20 4 (bills_done c) (by decide) ?_) $$ [HS G14]
  · rfl
  · isplitl [HS]; · iexact HS
    iexact G14
  iintro ⟨HS, G14⟩
  iapply (stepS m K c 15 rfl 20 4 (bills_done c) ?_) $$ [HS G15]
  · rfl
  · isplitl [HS]; · iexact HS
    iexact G15
  iintro ⟨HS, G15⟩
  iapply (stepR m K c 15 rfl 20 4 (bills_done c) (by decide) ?_) $$ [HS G15]
  · rfl
  · isplitl [HS]; · iexact HS
    iexact G15
  iintro ⟨HS, G15⟩
  iapply (stepS m K c 16 rfl 20 4 (bills_done c) ?_) $$ [HS G16]
  · rfl
  · isplitl [HS]; · iexact HS
    iexact G16
  iintro ⟨HS, G16⟩
  simp only [wp_pure]
  imodintro
  isplitl [HS]; · iexact HS
  isplitl [G14]; · iexact G14
  isplitl [G15]; · iexact G15
  iexact G16

/-- The meeting and the first two transfers. -/
theorem part59_run (v14 v15 v16 : BitVec 32) (v29 : Sems sig S_) (hb : v29.sem = barS) :
    Run c iprop(St m K c 1 ∗ (dutyTok ER (barC (px (msk 1) c)) 0 1 ∗ barPay 1 c) ∗ (dutyTok ER (barC (px (msk 2) c)) 0 2 ∗ barPay 2 c)
        ∗ (cred (tallyAt (barC c) () 3) ∗ atPos ER (barC c) 0 ∅ 0) ∗ (Res 0 c ∗ srcPts m 0 c) ∗ (Res 1 c ∗ srcPts m 1 c))
      (onA (k0_part59 (F := F)) c v14 v15 v16 v29)
      (fun _ => iprop(St m K c 5 ∗ Fly 0 c ∗ Fly 1 c ∗ atPos ER (barC c) 1 ∅ 0
        ∗ (dstAny 6 (px 1 c) ∗ dstAny 7 (px 1 c) ∗ dstAny 12 (px 1 c) ∗ dstAny 13 (px 1 c)) ∗ barPay 1 (px 3 c) ∗ barPay 2 (px 4 c))) := by
  have h2 : ∀ c, (⟨k0_dev2 c, k0_dev2_lt c⟩ : Dev nD) = px 3 c := by decide
  have h3 : ∀ c, (⟨k0_dev3 c, k0_dev3_lt c⟩ : Dev nD) = px 4 c := by decide
  have h4 : ∀ c, (⟨k0_dev4 c, k0_dev4_lt c⟩ : Dev nD) = px 1 c := by decide
  have h5 : ∀ c, (⟨k0_dev5 c, k0_dev5_lt c⟩ : Dev nD) = px 1 c := by decide
  rw [k0_part59_eq_skeleton]
  unfold Run
  simp only [onA, k0_part59_skel, Prog.lift, Prog.bind_op, Prog.bind_ret, hb]
  iintro ⟨HS, ⟨T1, P1⟩, ⟨T2, P2⟩, ⟨Hc, Hp⟩, ⟨R0, S0⟩, R1, S1⟩
  ihave HS := (St_open m K c 1) $$ HS
  icases HS with ⟨#HK, %W, HO⟩
  iapply (wp_arrive m K c W 1 _ (h2 c) 1 rfl) $$ HK T1 P1 HO
  iintro HO
  iapply (wp_arrive m K c W 2 _ (h3 c) 2 rfl) $$ HK T2 P2 HO
  iintro HO
  iapply (wp_meet m K c W) $$ HK Hc Hp HO
  iintro ⟨%W', ⟨Hp, Q0, Q1, Q2⟩, HO⟩
  ihave Q0 := (show barPay (F := F) 0 (px 1 c) ⊢ iprop(dstAny 0 (px 1 c) ∗ dstAny 1 (px 1 c) ∗ dstAny 6 (px 1 c) ∗ dstAny 7 (px 1 c) ∗ dstAny 12 (px 1 c) ∗ dstAny 13 (px 1 c)) from Entails.rfl) $$ Q0
  icases Q0 with ⟨D0, D1, D⟩
  iapply (stepQ m K c 0 _ (h4 c) rfl rfl rfl rfl rfl rfl rfl rfl 3 rfl) $$ [HO R0 S0 D0]
  · unfold St Go
    isplitl [HO]
    · isplitr; · iexact HK
      iexists W'; iexact HO
    isplitl [R0]; · iexact R0
    isplitl [S0]; · iexact S0
    iexact D0
  iintro ⟨HS, F0⟩
  iapply (stepO m K c 1 _ (h5 c) rfl rfl rfl rfl rfl rfl rfl rfl 4 rfl) $$ [HS R1 S1 D1]
  · unfold Go
    isplitl [HS]; · iexact HS
    isplitl [R1]; · iexact R1
    isplitl [S1]; · iexact S1
    iexact D1
  iintro ⟨HS, F1⟩
  simp only [wp_pure]
  imodintro
  isplitl [HS]; · iexact HS
  isplitl [F0]; · iexact F0
  isplitl [F1]; · iexact F1
  isplitl [Hp]; · iexact Hp
  isplitl [D]; · iexact D
  isplitl [Q1]; · iexact Q1
  iexact Q2

/-- The last transfer of the first phase, and the first branch. -/
theorem part61_run (v2 : BitVec 32) (v13 : BitVec 1) (v14 : BitVec 32) :
    Run c iprop(St m K c 8 ∗ Go m c 5 ∗ Fly 0 c ∗ Fly 1 c ∗ base m c ∗ workIf m c False) (onA (k0_part61 (F := F)) c v2 v13 v14)
      (fun _ => iprop(St m K c 9 ∗ Fly 5 c ∗ Got m c 0 ∗ (Mid 1 c ∗ srcPts m 1 c) ∗ base m c ∗ workIf m c (ev c))) := by
  have h9 : ∀ c, (⟨k0_dev9 c, k0_dev9_lt c⟩ : Dev nD) = px 4 c := by decide
  rw [k0_part61_eq_skeleton]
  unfold Run
  simp only [onA, k0_part61_skel]
  iintro ⟨HS, G5, G0, G1, HB, HW⟩
  iapply (stepO m K c 5 _ (h9 c) rfl rfl rfl rfl rfl rfl rfl rfl 8 rfl) $$ [HS G5]
  · isplitl [HS]; · iexact HS
    iexact G5
  iintro ⟨HS, G5⟩
  iapply (branch (brA m c) (brA_skip m c) ?_) $$ [HB HW]
  · intro h; rw [← segA_eq c v2 h]; simp only [ordKV, cpOrd, Prog.bind_assoc]; rfl
  · isplitl [HB]; · iexact HB
    iexact HW
  iintro ⟨HB, HW⟩
  simp only [Prog.lift, Prog.bind_op, Prog.bind_ret]
  iapply (stepS m K c 0 rfl 9 2 (bills_above c).2.2.1 ?_) $$ [HS G0]
  · rfl
  · isplitl [HS]; · iexact HS
    iexact G0
  iintro ⟨HS, G0⟩
  iapply (stepR m K c 0 rfl 9 2 (bills_above c).2.2.1 (by decide) ?_) $$ [HS G0]
  · rfl
  · isplitl [HS]; · iexact HS
    iexact G0
  iintro ⟨HS, G0⟩
  iapply (stepS m K c 1 rfl 9 2 (bills_above c).2.2.1 ?_) $$ [HS G1]
  · rfl
  · isplitl [HS]; · iexact HS
    iexact G1
  iintro ⟨HS, G1⟩
  simp only [wp_pure]
  imodintro
  isplitl [HS]; · iexact HS
  isplitl [G5]; · iexact G5
  isplitl [G0]; · iexact G0
  isplitl [G1]; · iexact G1
  isplitl [HB]; · iexact HB
  iexact HW

/-- The condition of the later branches, from the parity bit. -/
abbrev isEv (v13 : BitVec 1) : Prop := Scalar.cmpi .ne (Scalar.extui v13 : BitVec 32) 0#32 = 1#1

/-- The last transfer of the second phase, and the second branch. -/
theorem part66_run (v13 : BitVec 1) (v14 v186 z : BitVec 32) (hv : isEv v13 ↔ ev c) (q q' : PosShare TreeShare) :
    Run c iprop(St m K c 14 ∗ Go m c 11 ∗ Fly 6 c ∗ workIf m c (ev c) ∗ ptsQ c 0 1024 q (WQ m c) ∗ ptsO c 0 1024 q' (WO m c) ∗ held bA c (AC1 m c) (fun _ => False))
      (onA (k0_part66 (F := F)) c v13 v14 v186 z)
      (fun _ => iprop(St m K c 15 ∗ Fly 11 c ∗ Got m c 6 ∗ workIf m c (ev c) ∗ ptsQ c 0 1024 q (WQ m c) ∗ ptsO c 0 1024 q' (WO m c) ∗ held bA c (AC1 m c) (fun _ => ev c))) := by
  have h15 : ∀ c, (⟨k0_dev15 c, k0_dev15_lt c⟩ : Dev nD) = px 4 c := by decide
  rw [k0_part66_eq_skeleton]
  unfold Run
  simp only [onA, k0_part66_skel]
  iintro ⟨HS, G11, G6, HW⟩
  iapply (stepO m K c 11 _ (h15 c) rfl rfl rfl rfl rfl rfl rfl rfl 14 rfl) $$ [HS G11]
  · isplitl [HS]; · iexact HS
    iexact G11
  iintro ⟨HS, G11⟩
  iapply (branch (fun h => brB m c q q' (hv.mp h)) (fun h => brB_skip m c q q' fun h' => h (hv.mpr h')) ?_) $$ HW
  · intro h; rw [← segB_eq]; simp only [stC, tileC, ldC, ldWo, ldA, stA, Prog.bind_assoc]; rfl
  iintro HW
  simp only [Prog.lift, Prog.bind_op, Prog.bind_ret]
  iapply (stepS m K c 6 rfl 15 3 (bills_above c).2.2.2 ?_) $$ [HS G6]
  · rfl
  · isplitl [HS]; · iexact HS
    iexact G6
  iintro ⟨HS, G6⟩
  iapply (stepR m K c 6 rfl 15 3 (bills_above c).2.2.2 (by decide) ?_) $$ [HS G6]
  · rfl
  · isplitl [HS]; · iexact HS
    iexact G6
  iintro ⟨HS, G6⟩
  simp only [wp_pure]
  imodintro
  isplitl [HS]; · iexact HS
  isplitl [G11]; · iexact G11
  isplitl [G6]; · iexact G6
  iexact HW

/-- The last transfers, and the third branch. -/
theorem part70_run (v13 : BitVec 1) (v15 v16 v272 : BitVec 32) (hv : isEv v13 ↔ ev c) (q q' : PosShare TreeShare) :
    Run c iprop(St m K c 17 ∗ Go m c 14 ∗ Go m c 15 ∗ Go m c 16 ∗ workIf m c (ev c) ∗ ptsQ c 1024 1792 q (WQ m c) ∗ ptsO c 1024 1792 q' (WO m c) ∗ held bA c (AC1 m c) (fun _ => ev c))
      (onA (k0_part70 (F := F)) c v13 v15 v16 v272)
      (fun _ => iprop(St m K c 20 ∗ Fly 14 c ∗ Fly 15 c ∗ Fly 16 c ∗ workIf m c (ev c) ∗ ptsQ c 1024 1792 q (WQ m c) ∗ ptsO c 1024 1792 q' (WO m c) ∗ held bA c (AC2 m c) (fun _ => ev c))) := by
  have h18 : ∀ c, (⟨k0_dev18 c, k0_dev18_lt c⟩ : Dev nD) = px 3 c := by decide
  have h19 : ∀ c, (⟨k0_dev19 c, k0_dev19_lt c⟩ : Dev nD) = px 3 c := by decide
  have h20 : ∀ c, (⟨k0_dev20 c, k0_dev20_lt c⟩ : Dev nD) = px 4 c := by decide
  rw [k0_part70_eq_skeleton]
  unfold Run
  simp only [onA, k0_part70_skel]
  iintro ⟨HS, G14, G15, G16, HW⟩
  iapply (stepQ m K c 14 _ (h18 c) rfl rfl rfl rfl rfl rfl rfl rfl 17 rfl) $$ [HS G14]
  · isplitl [HS]; · iexact HS
    iexact G14
  iintro ⟨HS, G14⟩
  iapply (stepO m K c 15 _ (h19 c) rfl rfl rfl rfl rfl rfl rfl rfl 18 rfl) $$ [HS G15]
  · isplitl [HS]; · iexact HS
    iexact G15
  iintro ⟨HS, G15⟩
  iapply (stepO m K c 16 _ (h20 c) rfl rfl rfl rfl rfl rfl rfl rfl 19 rfl) $$ [HS G16]
  · isplitl [HS]; · iexact HS
    iexact G16
  iintro ⟨HS, G16⟩
  iapply (branch (fun h => brC m c q q' (hv.mp h)) (fun h => brC_skip m c q q' fun h' => h (hv.mpr h')) ?_) $$ HW
  · intro h; rw [← segC_eq]; simp only [ldWo, ldA, stA, Prog.bind_assoc]
  iintro HW
  simp only [wp_pure]
  imodintro
  isplitl [HS]; · iexact HS
  isplitl [G14]; · iexact G14
  isplitl [G15]; · iexact G15
  isplitl [G16]; · iexact G16
  iexact HW

end Cert.Wk
end
-- ==== Proof.Pieces.lean ====
/-
# The two gathered weights, piece by piece

The pieces lent to transfers, those that arrive, and the stretches the parts read.
-/
module

public import proofs.«01_k».proof.Proof.Body

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cutting and joining -/

theorem srcQ (j : Fin 17) (a b : ℕ) (q) (h : (tr j).isQ = true) (e : (tr j).src = a ∧ (tr j).src + (tr j).w = b ∧ shr j = q) : srcPts m j c = ptsQ c a b q (WQ m c) := by
  obtain ⟨rfl, rfl, rfl⟩ := e; exact if_pos h
theorem srcO (j : Fin 17) (a b : ℕ) (q) (h : (tr j).isQ = false) (e : (tr j).src = a ∧ (tr j).src + (tr j).w = b ∧ shr j = q) : srcPts m j c = ptsO c a b q (WO m c) := by
  obtain ⟨rfl, rfl, rfl⟩ := e; exact if_neg (by rw [h]; decide)
theorem dstQ (j : Fin 17) (a b : ℕ) (h : (tr j).isQ = true) (e : (tr j).dst = a ∧ (tr j).dst + (tr j).w = b) : dstPts m j c = ptsQ c a b fullShare (WQ m c) := by
  obtain ⟨rfl, rfl⟩ := e; exact if_pos h
theorem dstO (j : Fin 17) (a b : ℕ) (h : (tr j).isQ = false) (e : (tr j).dst = a ∧ (tr j).dst + (tr j).w = b) : dstPts m j c = ptsO c a b fullShare (WO m c) := by
  obtain ⟨rfl, rfl⟩ := e; exact if_neg (by rw [h]; decide)

/-- The device's own piece, lent three times. -/
theorem lend1Q : iprop(ptsQ c 0 256 fullShare (WQ m c)) ⊢ iprop(srcPts m 0 c ∗ srcPts m 2 c ∗ srcPts m 4 c) := by
  iintro H
  icases (ptsQ_halves c 0 256 fullShare (WQ m c)).1 $$ H with ⟨H0, H⟩
  icases (ptsQ_halves c 0 256 fullShare.right (WQ m c)).1 $$ H with ⟨H1, H2⟩
  isplitl [H0]; · iapply (Entails.of_eq (srcQ m c 0 0 256 (fullShare.left) rfl ⟨rfl, rfl, rfl⟩).symm); iexact H0
  isplitl [H1]; · iapply (Entails.of_eq (srcQ m c 2 0 256 (fullShare.right.left) rfl ⟨rfl, rfl, rfl⟩).symm); iexact H1
  iapply (Entails.of_eq (srcQ m c 4 0 256 (fullShare.right.right) rfl ⟨rfl, rfl, rfl⟩).symm); iexact H2

/-- The device's own piece, lent three times. -/
theorem lend1O : iprop(ptsO c 0 256 fullShare (WO m c)) ⊢ iprop(srcPts m 1 c ∗ srcPts m 3 c ∗ srcPts m 5 c) := by
  iintro H
  icases (ptsO_halves c 0 256 fullShare (WO m c)).1 $$ H with ⟨H0, H⟩
  icases (ptsO_halves c 0 256 fullShare.right (WO m c)).1 $$ H with ⟨H1, H2⟩
  isplitl [H0]; · iapply (Entails.of_eq (srcO m c 1 0 256 (fullShare.left) rfl ⟨rfl, rfl, rfl⟩).symm); iexact H0
  isplitl [H1]; · iapply (Entails.of_eq (srcO m c 3 0 256 (fullShare.right.left) rfl ⟨rfl, rfl, rfl⟩).symm); iexact H1
  iapply (Entails.of_eq (srcO m c 5 0 256 (fullShare.right.right) rfl ⟨rfl, rfl, rfl⟩).symm); iexact H2

/-- The first four pieces of columns: one half stays to be read, the other is lent on. -/
theorem lend2Q : iprop(srcPts m 0 c ∗ srcPts m 2 c ∗ srcPts m 4 c ∗ dstPts m 0 c ∗ dstPts m 2 c ∗ dstPts m 4 c) ⊢ iprop(ptsQ c 0 1024 fullShare.right (WQ m c) ∗ ptsQ c 0 256 fullShare.left (WQ m c) ∗ srcPts m 6 c ∗ srcPts m 8 c ∗ srcPts m 10 c) := by
  iintro ⟨S0, S1, S2, D0, D1, D2⟩
  ihave S0 := (Entails.of_eq (srcQ m c 0 0 256 (fullShare.left) rfl ⟨rfl, rfl, rfl⟩)) $$ S0
  ihave S1 := (Entails.of_eq (srcQ m c 2 0 256 (fullShare.right.left) rfl ⟨rfl, rfl, rfl⟩)) $$ S1
  ihave S2 := (Entails.of_eq (srcQ m c 4 0 256 (fullShare.right.right) rfl ⟨rfl, rfl, rfl⟩)) $$ S2
  ihave D0 := (Entails.of_eq (dstQ m c 0 256 512 rfl ⟨rfl, rfl⟩)) $$ D0
  ihave D1 := (Entails.of_eq (dstQ m c 2 512 768 rfl ⟨rfl, rfl⟩)) $$ D1
  ihave D2 := (Entails.of_eq (dstQ m c 4 768 1024 rfl ⟨rfl, rfl⟩)) $$ D2
  ihave S := (ptsQ_halves c 0 256 fullShare.right (WQ m c)).2 $$ [S1 S2]
  · isplitl [S1]; · iexact S1
    iexact S2
  icases (ptsQ_halves c 256 512 fullShare (WQ m c)).1 $$ D0 with ⟨L0, R0⟩
  icases (ptsQ_halves c 512 768 fullShare (WQ m c)).1 $$ D1 with ⟨L1, R1⟩
  icases (ptsQ_halves c 768 1024 fullShare (WQ m c)).1 $$ D2 with ⟨L2, R2⟩
  ihave S := (ptsQ_split c (a := 0) (b := 512) 256 fullShare.right (WQ m c) (by decide) (by decide)).2 $$ [S R0]
  · isplitl [S]; · iexact S
    iexact R0
  ihave S := (ptsQ_split c (a := 0) (b := 768) 512 fullShare.right (WQ m c) (by decide) (by decide)).2 $$ [S R1]
  · isplitl [S]; · iexact S
    iexact R1
  ihave S := (ptsQ_split c (a := 0) (b := 1024) 768 fullShare.right (WQ m c) (by decide) (by decide)).2 $$ [S R2]
  · isplitl [S]; · iexact S
    iexact R2
  isplitl [S]; · iexact S
  isplitl [S0]; · iexact S0
  isplitl [L1]; · iapply (Entails.of_eq (srcQ m c 6 512 768 (fullShare.left) rfl ⟨rfl, rfl, rfl⟩).symm); iexact L1
  isplitl [L2]; · iapply (Entails.of_eq (srcQ m c 8 768 1024 (fullShare.left) rfl ⟨rfl, rfl, rfl⟩).symm); iexact L2
  iapply (Entails.of_eq (srcQ m c 10 256 512 (fullShare.left) rfl ⟨rfl, rfl, rfl⟩).symm); iexact L0

/-- The same for rows, the piece that goes first. -/
theorem lend2O : iprop(dstPts m 3 c) ⊢ iprop(srcPts m 7 c ∗ ptsO c 512 768 fullShare.right (WO m c)) := by
  iintro D
  ihave D := (Entails.of_eq (dstO m c 3 512 768 rfl ⟨rfl, rfl⟩)) $$ D
  icases (ptsO_halves c 512 768 fullShare (WO m c)).1 $$ D with ⟨L, R⟩
  isplitl [L]; · iapply (Entails.of_eq (srcO m c 7 512 768 (fullShare.left) rfl ⟨rfl, rfl, rfl⟩).symm); iexact L
  iexact R

/-- The other two. -/
theorem lend2O' : iprop(srcPts m 1 c ∗ srcPts m 3 c ∗ srcPts m 5 c ∗ dstPts m 1 c ∗ ptsO c 512 768 fullShare.right (WO m c) ∗ dstPts m 5 c) ⊢ iprop(ptsO c 0 1024 fullShare.right (WO m c) ∗ ptsO c 0 256 fullShare.left (WO m c) ∗ srcPts m 9 c ∗ srcPts m 11 c) := by
  iintro ⟨S0, S1, S2, D0, R1, D2⟩
  ihave S0 := (Entails.of_eq (srcO m c 1 0 256 (fullShare.left) rfl ⟨rfl, rfl, rfl⟩)) $$ S0
  ihave S1 := (Entails.of_eq (srcO m c 3 0 256 (fullShare.right.left) rfl ⟨rfl, rfl, rfl⟩)) $$ S1
  ihave S2 := (Entails.of_eq (srcO m c 5 0 256 (fullShare.right.right) rfl ⟨rfl, rfl, rfl⟩)) $$ S2
  ihave D0 := (Entails.of_eq (dstO m c 1 256 512 rfl ⟨rfl, rfl⟩)) $$ D0
  ihave D2 := (Entails.of_eq (dstO m c 5 768 1024 rfl ⟨rfl, rfl⟩)) $$ D2
  ihave S := (ptsO_halves c 0 256 fullShare.right (WO m c)).2 $$ [S1 S2]
  · isplitl [S1]; · iexact S1
    iexact S2
  icases (ptsO_halves c 256 512 fullShare (WO m c)).1 $$ D0 with ⟨L0, R0⟩
  icases (ptsO_halves c 768 1024 fullShare (WO m c)).1 $$ D2 with ⟨L2, R2⟩
  ihave S := (ptsO_split c (a := 0) (b := 512) 256 fullShare.right (WO m c) (by decide) (by decide)).2 $$ [S R0]
  · isplitl [S]; · iexact S
    iexact R0
  ihave S := (ptsO_split c (a := 0) (b := 768) 512 fullShare.right (WO m c) (by decide) (by decide)).2 $$ [S R1]
  · isplitl [S]; · iexact S
    iexact R1
  ihave S := (ptsO_split c (a := 0) (b := 1024) 768 fullShare.right (WO m c) (by decide) (by decide)).2 $$ [S R2]
  · isplitl [S]; · iexact S
    iexact R2
  isplitl [S]; · iexact S
  isplitl [S0]; · iexact S0
  isplitl [L2]; · iapply (Entails.of_eq (srcO m c 9 768 1024 (fullShare.left) rfl ⟨rfl, rfl, rfl⟩).symm); iexact L2
  iapply (Entails.of_eq (srcO m c 11 256 512 (fullShare.left) rfl ⟨rfl, rfl, rfl⟩).symm); iexact L0

/-- The next three pieces of columns. -/
theorem lend3Q : iprop(dstPts m 6 c ∗ dstPts m 8 c ∗ dstPts m 10 c) ⊢ iprop(ptsQ c 1024 1792 fullShare.right (WQ m c) ∗ ptsQ c 1024 1280 fullShare.left (WQ m c) ∗ srcPts m 12 c ∗ ptsQ c 1408 1664 fullShare.left (WQ m c) ∗ srcPts m 14 c) := by
  iintro ⟨D0, D1, D2⟩
  ihave D0 := (Entails.of_eq (dstQ m c 6 1024 1280 rfl ⟨rfl, rfl⟩)) $$ D0
  ihave D1 := (Entails.of_eq (dstQ m c 8 1280 1536 rfl ⟨rfl, rfl⟩)) $$ D1
  ihave D2 := (Entails.of_eq (dstQ m c 10 1536 1792 rfl ⟨rfl, rfl⟩)) $$ D2
  ihave D := (ptsQ_split c (a := 1024) (b := 1536) 1280 fullShare (WQ m c) (by decide) (by decide)).2 $$ [D0 D1]
  · isplitl [D0]; · iexact D0
    iexact D1
  ihave D := (ptsQ_split c (a := 1024) (b := 1792) 1536 fullShare (WQ m c) (by decide) (by decide)).2 $$ [D D2]
  · isplitl [D]; · iexact D
    iexact D2
  icases (ptsQ_halves c 1024 1792 fullShare (WQ m c)).1 $$ D with ⟨L, R⟩
  icases (ptsQ_split c (a := 1024) (b := 1792) 1280 fullShare.left (WQ m c) (by decide) (by decide)).1 $$ L with ⟨A, L⟩
  icases (ptsQ_split c (a := 1280) (b := 1792) 1408 fullShare.left (WQ m c) (by decide) (by decide)).1 $$ L with ⟨B, L⟩
  icases (ptsQ_split c (a := 1408) (b := 1792) 1664 fullShare.left (WQ m c) (by decide) (by decide)).1 $$ L with ⟨C, E⟩
  isplitl [R]; · iexact R
  isplitl [A]; · iexact A
  isplitl [B]; · iapply (Entails.of_eq (srcQ m c 12 1280 1408 (fullShare.left) rfl ⟨rfl, rfl, rfl⟩).symm); iexact B
  isplitl [C]; · iexact C
  iapply (Entails.of_eq (srcQ m c 14 1664 1792 (fullShare.left) rfl ⟨rfl, rfl, rfl⟩).symm); iexact E

/-- And of rows. -/
theorem lend3O : iprop(dstPts m 9 c) ⊢ iprop(srcPts m 13 c ∗ ptsO c 1328 1536 fullShare.left (WO m c) ∗ ptsO c 1280 1536 fullShare.right (WO m c)) := by
  iintro D
  ihave D := (Entails.of_eq (dstO m c 9 1280 1536 rfl ⟨rfl, rfl⟩)) $$ D
  icases (ptsO_halves c 1280 1536 fullShare (WO m c)).1 $$ D with ⟨L, R⟩
  icases (ptsO_split c (a := 1280) (b := 1536) 1328 fullShare.left (WO m c) (by decide) (by decide)).1 $$ L with ⟨A, B⟩
  isplitl [A]; · iapply (Entails.of_eq (srcO m c 13 1280 1328 (fullShare.left) rfl ⟨rfl, rfl, rfl⟩).symm); iexact A
  isplitl [B]; · iexact B
  iexact R

/-- The other two. -/
theorem lend3O' : iprop(dstPts m 7 c ∗ ptsO c 1280 1536 fullShare.right (WO m c) ∗ dstPts m 11 c) ⊢ iprop(ptsO c 1024 1792 fullShare.right (WO m c) ∗ ptsO c 1024 1120 fullShare.left (WO m c) ∗ srcPts m 16 c ∗ ptsO c 1536 1584 fullShare.left (WO m c) ∗ srcPts m 15 c ∗ ptsO c 1632 1792 fullShare.left (WO m c)) := by
  iintro ⟨D0, R1, D2⟩
  ihave D0 := (Entails.of_eq (dstO m c 7 1024 1280 rfl ⟨rfl, rfl⟩)) $$ D0
  ihave D2 := (Entails.of_eq (dstO m c 11 1536 1792 rfl ⟨rfl, rfl⟩)) $$ D2
  icases (ptsO_halves c 1024 1280 fullShare (WO m c)).1 $$ D0 with ⟨L0, R0⟩
  icases (ptsO_halves c 1536 1792 fullShare (WO m c)).1 $$ D2 with ⟨L2, R2⟩
  ihave R := (ptsO_split c (a := 1024) (b := 1536) 1280 fullShare.right (WO m c) (by decide) (by decide)).2 $$ [R0 R1]
  · isplitl [R0]; · iexact R0
    iexact R1
  ihave R := (ptsO_split c (a := 1024) (b := 1792) 1536 fullShare.right (WO m c) (by decide) (by decide)).2 $$ [R R2]
  · isplitl [R]; · iexact R
    iexact R2
  icases (ptsO_split c (a := 1024) (b := 1280) 1120 fullShare.left (WO m c) (by decide) (by decide)).1 $$ L0 with ⟨A, B⟩
  icases (ptsO_split c (a := 1536) (b := 1792) 1584 fullShare.left (WO m c) (by decide) (by decide)).1 $$ L2 with ⟨C, L2⟩
  icases (ptsO_split c (a := 1584) (b := 1792) 1632 fullShare.left (WO m c) (by decide) (by decide)).1 $$ L2 with ⟨E, G⟩
  isplitl [R]; · iexact R
  isplitl [A]; · iexact A
  isplitl [B]; · iapply (Entails.of_eq (srcO m c 16 1120 1280 (fullShare.left) rfl ⟨rfl, rfl, rfl⟩).symm); iexact B
  isplitl [C]; · iexact C
  isplitl [E]; · iapply (Entails.of_eq (srcO m c 15 1584 1632 (fullShare.left) rfl ⟨rfl, rfl, rfl⟩).symm); iexact E
  iexact G

/-- The last stretch of columns. -/
theorem last4Q : iprop(dstPts m 12 c ∗ dstPts m 14 c) ⊢ iprop(ptsQ c 1792 2048 fullShare (WQ m c)) := by
  iintro ⟨A, B⟩
  ihave A := (Entails.of_eq (dstQ m c 12 1792 1920 rfl ⟨rfl, rfl⟩)) $$ A
  ihave B := (Entails.of_eq (dstQ m c 14 1920 2048 rfl ⟨rfl, rfl⟩)) $$ B
  ihave A := (ptsQ_split c (a := 1792) (b := 2048) 1920 fullShare (WQ m c) (by decide) (by decide)).2 $$ [A B]
  · isplitl [A]; · iexact A
    iexact B
  iexact A

/-- The last stretch of rows. -/
theorem last4O : iprop(dstPts m 13 c ∗ dstPts m 15 c ∗ dstPts m 16 c) ⊢ iprop(ptsO c 1792 2048 fullShare (WO m c)) := by
  iintro ⟨A, B, C⟩
  ihave A := (Entails.of_eq (dstO m c 13 1792 1840 rfl ⟨rfl, rfl⟩)) $$ A
  ihave B := (Entails.of_eq (dstO m c 15 1840 1888 rfl ⟨rfl, rfl⟩)) $$ B
  ihave C := (Entails.of_eq (dstO m c 16 1888 2048 rfl ⟨rfl, rfl⟩)) $$ C
  ihave A := (ptsO_split c (a := 1792) (b := 1888) 1840 fullShare (WO m c) (by decide) (by decide)).2 $$ [A B]
  · isplitl [A]; · iexact A
    iexact B
  ihave A := (ptsO_split c (a := 1792) (b := 2048) 1888 fullShare (WO m c) (by decide) (by decide)).2 $$ [A C]
  · isplitl [A]; · iexact A
    iexact C
  iexact A

/-- All of the columns once more. -/
theorem againQ : iprop(ptsQ c 0 1024 fullShare.right (WQ m c) ∗ ptsQ c 0 256 fullShare.left (WQ m c) ∗ srcPts m 10 c ∗ srcPts m 6 c ∗ srcPts m 8 c ∗ ptsQ c 1024 1792 fullShare.right (WQ m c) ∗ ptsQ c 1024 1280 fullShare.left (WQ m c) ∗ srcPts m 12 c ∗ ptsQ c 1408 1664 fullShare.left (WQ m c) ∗ srcPts m 14 c ∗ ptsQ c 1792 2048 fullShare (WQ m c)) ⊢ iprop(anyOf qM c (WQ m c)) := by
  iintro ⟨R, A, S0, S1, S2, R2, A2, B, C, E, Z⟩
  ihave S0 := (Entails.of_eq (srcQ m c 10 256 512 (fullShare.left) rfl ⟨rfl, rfl, rfl⟩)) $$ S0
  ihave S1 := (Entails.of_eq (srcQ m c 6 512 768 (fullShare.left) rfl ⟨rfl, rfl, rfl⟩)) $$ S1
  ihave S2 := (Entails.of_eq (srcQ m c 8 768 1024 (fullShare.left) rfl ⟨rfl, rfl, rfl⟩)) $$ S2
  ihave B := (Entails.of_eq (srcQ m c 12 1280 1408 (fullShare.left) rfl ⟨rfl, rfl, rfl⟩)) $$ B
  ihave E := (Entails.of_eq (srcQ m c 14 1664 1792 (fullShare.left) rfl ⟨rfl, rfl, rfl⟩)) $$ E
  ihave A := (ptsQ_split c (a := 0) (b := 512) 256 fullShare.left (WQ m c) (by decide) (by decide)).2 $$ [A S0]
  · isplitl [A]; · iexact A
    iexact S0
  ihave A := (ptsQ_split c (a := 0) (b := 768) 512 fullShare.left (WQ m c) (by decide) (by decide)).2 $$ [A S1]
  · isplitl [A]; · iexact A
    iexact S1
  ihave A := (ptsQ_split c (a := 0) (b := 1024) 768 fullShare.left (WQ m c) (by decide) (by decide)).2 $$ [A S2]
  · isplitl [A]; · iexact A
    iexact S2
  ihave H := (ptsQ_halves c 0 1024 fullShare (WQ m c)).2 $$ [A R]
  · isplitl [A]; · iexact A
    iexact R
  ihave A2 := (ptsQ_split c (a := 1024) (b := 1408) 1280 fullShare.left (WQ m c) (by decide) (by decide)).2 $$ [A2 B]
  · isplitl [A2]; · iexact A2
    iexact B
  ihave A2 := (ptsQ_split c (a := 1024) (b := 1664) 1408 fullShare.left (WQ m c) (by decide) (by decide)).2 $$ [A2 C]
  · isplitl [A2]; · iexact A2
    iexact C
  ihave A2 := (ptsQ_split c (a := 1024) (b := 1792) 1664 fullShare.left (WQ m c) (by decide) (by decide)).2 $$ [A2 E]
  · isplitl [A2]; · iexact A2
    iexact E
  ihave H2 := (ptsQ_halves c 1024 1792 fullShare (WQ m c)).2 $$ [A2 R2]
  · isplitl [A2]; · iexact A2
    iexact R2
  ihave H := (ptsQ_split c (a := 0) (b := 1792) 1024 fullShare (WQ m c) (by decide) (by decide)).2 $$ [H H2]
  · isplitl [H]; · iexact H
    iexact H2
  ihave H := (ptsQ_split c (a := 0) (b := 2048) 1792 fullShare (WQ m c) (by decide) (by decide)).2 $$ [H Z]
  · isplitl [H]; · iexact H
    iexact Z
  unfold anyOf held
  iexists (WQ m c)
  isplitr
  · ipureintro; exact fun _ h => h.elim
  unfold ptsQ
  rw [show colSet 0 2048 = Finset.univ from by ext i; have h : (i 1).val < 2048 := (i 1).isLt; simp only [mem_colSet, Finset.mem_univ, iff_true]; omega]
  iexact H

/-- All of the rows once more. -/
theorem againO : iprop(ptsO c 0 1024 fullShare.right (WO m c) ∗ ptsO c 0 256 fullShare.left (WO m c) ∗ srcPts m 11 c ∗ srcPts m 7 c ∗ srcPts m 9 c ∗ ptsO c 1024 1792 fullShare.right (WO m c) ∗ ptsO c 1024 1120 fullShare.left (WO m c) ∗ srcPts m 16 c ∗ srcPts m 13 c ∗ ptsO c 1328 1536 fullShare.left (WO m c) ∗ ptsO c 1536 1584 fullShare.left (WO m c) ∗ srcPts m 15 c ∗ ptsO c 1632 1792 fullShare.left (WO m c) ∗ ptsO c 1792 2048 fullShare (WO m c)) ⊢ iprop(anyOf oM c (WO m c)) := by
  iintro ⟨R, A, S0, S1, S2, R2, A2, B, B2, C2, C, E, G, Z⟩
  ihave S0 := (Entails.of_eq (srcO m c 11 256 512 (fullShare.left) rfl ⟨rfl, rfl, rfl⟩)) $$ S0
  ihave S1 := (Entails.of_eq (srcO m c 7 512 768 (fullShare.left) rfl ⟨rfl, rfl, rfl⟩)) $$ S1
  ihave S2 := (Entails.of_eq (srcO m c 9 768 1024 (fullShare.left) rfl ⟨rfl, rfl, rfl⟩)) $$ S2
  ihave B := (Entails.of_eq (srcO m c 16 1120 1280 (fullShare.left) rfl ⟨rfl, rfl, rfl⟩)) $$ B
  ihave B2 := (Entails.of_eq (srcO m c 13 1280 1328 (fullShare.left) rfl ⟨rfl, rfl, rfl⟩)) $$ B2
  ihave E := (Entails.of_eq (srcO m c 15 1584 1632 (fullShare.left) rfl ⟨rfl, rfl, rfl⟩)) $$ E
  ihave A := (ptsO_split c (a := 0) (b := 512) 256 fullShare.left (WO m c) (by decide) (by decide)).2 $$ [A S0]
  · isplitl [A]; · iexact A
    iexact S0
  ihave A := (ptsO_split c (a := 0) (b := 768) 512 fullShare.left (WO m c) (by decide) (by decide)).2 $$ [A S1]
  · isplitl [A]; · iexact A
    iexact S1
  ihave A := (ptsO_split c (a := 0) (b := 1024) 768 fullShare.left (WO m c) (by decide) (by decide)).2 $$ [A S2]
  · isplitl [A]; · iexact A
    iexact S2
  ihave H := (ptsO_halves c 0 1024 fullShare (WO m c)).2 $$ [A R]
  · isplitl [A]; · iexact A
    iexact R
  ihave A2 := (ptsO_split c (a := 1024) (b := 1280) 1120 fullShare.left (WO m c) (by decide) (by decide)).2 $$ [A2 B]
  · isplitl [A2]; · iexact A2
    iexact B
  ihave A2 := (ptsO_split c (a := 1024) (b := 1328) 1280 fullShare.left (WO m c) (by decide) (by decide)).2 $$ [A2 B2]
  · isplitl [A2]; · iexact A2
    iexact B2
  ihave A2 := (ptsO_split c (a := 1024) (b := 1536) 1328 fullShare.left (WO m c) (by decide) (by decide)).2 $$ [A2 C2]
  · isplitl [A2]; · iexact A2
    iexact C2
  ihave A2 := (ptsO_split c (a := 1024) (b := 1584) 1536 fullShare.left (WO m c) (by decide) (by decide)).2 $$ [A2 C]
  · isplitl [A2]; · iexact A2
    iexact C
  ihave A2 := (ptsO_split c (a := 1024) (b := 1632) 1584 fullShare.left (WO m c) (by decide) (by decide)).2 $$ [A2 E]
  · isplitl [A2]; · iexact A2
    iexact E
  ihave A2 := (ptsO_split c (a := 1024) (b := 1792) 1632 fullShare.left (WO m c) (by decide) (by decide)).2 $$ [A2 G]
  · isplitl [A2]; · iexact A2
    iexact G
  ihave H2 := (ptsO_halves c 1024 1792 fullShare (WO m c)).2 $$ [A2 R2]
  · isplitl [A2]; · iexact A2
    iexact R2
  ihave H := (ptsO_split c (a := 0) (b := 1792) 1024 fullShare (WO m c) (by decide) (by decide)).2 $$ [H H2]
  · isplitl [H]; · iexact H
    iexact H2
  ihave H := (ptsO_split c (a := 0) (b := 2048) 1792 fullShare (WO m c) (by decide) (by decide)).2 $$ [H Z]
  · isplitl [H]; · iexact H
    iexact Z
  unfold anyOf held
  iexists (WO m c)
  isplitr
  · ipureintro; exact fun _ h => h.elim
  unfold ptsO
  rw [show rowSet 0 2048 = Finset.univ from by ext i; have h : (i 0).val < 2048 := (i 0).isLt; simp only [mem_rowSet, Finset.mem_univ, iff_true]; omega]
  iexact H

end Cert.Wk
end
-- ==== Proof.Head.lean ====
/-
# The head of the body

The device's own pieces cast into place, the rest of the two buffers handed to the neighbours, the first arrival.
-/
module

public import proofs.«01_k».proof.Proof.Pieces

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 37 → ℕ) (c : Dev nD)

theorem anyQ (j : Fin 17) (a b : ℕ) (h : (tr j).isQ = true) (e : (tr j).dst = a ∧ (tr j).dst + (tr j).w = b) (f) : ptsQ (F := F) c a b fullShare f ⊢ dstAny j c := by
  obtain ⟨rfl, rfl⟩ := e
  unfold dstAny; rw [if_pos h]
  iintro H; iexists f; iexact H
theorem anyO (j : Fin 17) (a b : ℕ) (h : (tr j).isQ = false) (e : (tr j).dst = a ∧ (tr j).dst + (tr j).w = b) (f) : ptsO (F := F) c a b fullShare f ⊢ dstAny j c := by
  obtain ⟨rfl, rfl⟩ := e
  unfold dstAny; rw [if_neg (by rw [h]; decide)]
  iintro H; iexists f; iexact H

/-- The buffer cut: the device's own piece, and every piece a neighbour will write. -/
theorem splitQ : held qM c (WQ m c) (fun i => (i 1).val < 256) ⊢ iprop(ptsQ c 0 256 fullShare (WQ m c) ∗ dstAny 0 c ∗ dstAny 2 c ∗ dstAny 4 c ∗ dstAny 6 c ∗ dstAny 8 c ∗ dstAny 10 c ∗ dstAny 12 c ∗ dstAny 14 c) := by
  unfold held
  iintro ⟨%f, %hf, H⟩
  ihave H := (Entails.of_eq (show ((qM.view.loc (c : Thread nD τ)) ↦{fullShare} f : sProp 𝕄) = ptsQ c 0 2048 fullShare f from by
    unfold ptsQ; rw [show colSet 0 2048 = Finset.univ from by ext i; have h : (i 1).val < 2048 := (i 1).isLt; simp only [mem_colSet, Finset.mem_univ, iff_true]; omega])) $$ H
  icases (ptsQ_split c (a := 0) (b := 2048) 256 fullShare f (by decide) (by decide)).1 $$ H with ⟨H0, H⟩
  icases (ptsQ_split c (a := 256) (b := 2048) 512 fullShare f (by decide) (by decide)).1 $$ H with ⟨H1, H⟩
  icases (ptsQ_split c (a := 512) (b := 2048) 768 fullShare f (by decide) (by decide)).1 $$ H with ⟨H2, H⟩
  icases (ptsQ_split c (a := 768) (b := 2048) 1024 fullShare f (by decide) (by decide)).1 $$ H with ⟨H3, H⟩
  icases (ptsQ_split c (a := 1024) (b := 2048) 1280 fullShare f (by decide) (by decide)).1 $$ H with ⟨H4, H⟩
  icases (ptsQ_split c (a := 1280) (b := 2048) 1536 fullShare f (by decide) (by decide)).1 $$ H with ⟨H5, H⟩
  icases (ptsQ_split c (a := 1536) (b := 2048) 1792 fullShare f (by decide) (by decide)).1 $$ H with ⟨H6, H⟩
  icases (ptsQ_split c (a := 1792) (b := 2048) 1920 fullShare f (by decide) (by decide)).1 $$ H with ⟨H7, H⟩
  isplitl [H0]
  · iapply (Entails.of_eq (show ptsQ c 0 256 fullShare f = ptsQ c 0 256 fullShare (WQ m c) from by
      unfold ptsQ; exact pointsTo_congr fun i hi => hf i (mem_colSet.mp hi).2)); iexact H0
  isplitl [H1]; · iapply (anyQ c 0 256 512 rfl ⟨rfl, rfl⟩ f); iexact H1
  isplitl [H2]; · iapply (anyQ c 2 512 768 rfl ⟨rfl, rfl⟩ f); iexact H2
  isplitl [H3]; · iapply (anyQ c 4 768 1024 rfl ⟨rfl, rfl⟩ f); iexact H3
  isplitl [H4]; · iapply (anyQ c 6 1024 1280 rfl ⟨rfl, rfl⟩ f); iexact H4
  isplitl [H5]; · iapply (anyQ c 8 1280 1536 rfl ⟨rfl, rfl⟩ f); iexact H5
  isplitl [H6]; · iapply (anyQ c 10 1536 1792 rfl ⟨rfl, rfl⟩ f); iexact H6
  isplitl [H7]; · iapply (anyQ c 12 1792 1920 rfl ⟨rfl, rfl⟩ f); iexact H7
  iapply (anyQ c 14 1920 2048 rfl ⟨rfl, rfl⟩ f); iexact H

/-- The buffer cut: the device's own piece, and every piece a neighbour will write. -/
theorem splitO : held oM c (WO m c) (fun i => (i 0).val < 256) ⊢ iprop(ptsO c 0 256 fullShare (WO m c) ∗ dstAny 1 c ∗ dstAny 3 c ∗ dstAny 5 c ∗ dstAny 7 c ∗ dstAny 9 c ∗ dstAny 11 c ∗ dstAny 13 c ∗ dstAny 15 c ∗ dstAny 16 c) := by
  unfold held
  iintro ⟨%f, %hf, H⟩
  ihave H := (Entails.of_eq (show ((oM.view.loc (c : Thread nD τ)) ↦{fullShare} f : sProp 𝕄) = ptsO c 0 2048 fullShare f from by
    unfold ptsO; rw [show rowSet 0 2048 = Finset.univ from by ext i; have h : (i 0).val < 2048 := (i 0).isLt; simp only [mem_rowSet, Finset.mem_univ, iff_true]; omega])) $$ H
  icases (ptsO_split c (a := 0) (b := 2048) 256 fullShare f (by decide) (by decide)).1 $$ H with ⟨H0, H⟩
  icases (ptsO_split c (a := 256) (b := 2048) 512 fullShare f (by decide) (by decide)).1 $$ H with ⟨H1, H⟩
  icases (ptsO_split c (a := 512) (b := 2048) 768 fullShare f (by decide) (by decide)).1 $$ H with ⟨H2, H⟩
  icases (ptsO_split c (a := 768) (b := 2048) 1024 fullShare f (by decide) (by decide)).1 $$ H with ⟨H3, H⟩
  icases (ptsO_split c (a := 1024) (b := 2048) 1280 fullShare f (by decide) (by decide)).1 $$ H with ⟨H4, H⟩
  icases (ptsO_split c (a := 1280) (b := 2048) 1536 fullShare f (by decide) (by decide)).1 $$ H with ⟨H5, H⟩
  icases (ptsO_split c (a := 1536) (b := 2048) 1792 fullShare f (by decide) (by decide)).1 $$ H with ⟨H6, H⟩
  icases (ptsO_split c (a := 1792) (b := 2048) 1840 fullShare f (by decide) (by decide)).1 $$ H with ⟨H7, H⟩
  icases (ptsO_split c (a := 1840) (b := 2048) 1888 fullShare f (by decide) (by decide)).1 $$ H with ⟨H8, H⟩
  isplitl [H0]
  · iapply (Entails.of_eq (show ptsO c 0 256 fullShare f = ptsO c 0 256 fullShare (WO m c) from by
      unfold ptsO; exact pointsTo_congr fun i hi => hf i (mem_rowSet.mp hi).2)); iexact H0
  isplitl [H1]; · iapply (anyO c 1 256 512 rfl ⟨rfl, rfl⟩ f); iexact H1
  isplitl [H2]; · iapply (anyO c 3 512 768 rfl ⟨rfl, rfl⟩ f); iexact H2
  isplitl [H3]; · iapply (anyO c 5 768 1024 rfl ⟨rfl, rfl⟩ f); iexact H3
  isplitl [H4]; · iapply (anyO c 7 1024 1280 rfl ⟨rfl, rfl⟩ f); iexact H4
  isplitl [H5]; · iapply (anyO c 9 1280 1536 rfl ⟨rfl, rfl⟩ f); iexact H5
  isplitl [H6]; · iapply (anyO c 11 1536 1792 rfl ⟨rfl, rfl⟩ f); iexact H6
  isplitl [H7]; · iapply (anyO c 13 1792 1840 rfl ⟨rfl, rfl⟩ f); iexact H7
  isplitl [H8]; · iapply (anyO c 15 1840 1888 rfl ⟨rfl, rfl⟩ f); iexact H8
  iapply (anyO c 16 1888 2048 rfl ⟨rfl, rfl⟩ f); iexact H

theorem bar0 : iprop(dstAny (F := F) 0 c ∗ dstAny 1 c ∗ dstAny 6 c ∗ dstAny 7 c ∗ dstAny 12 c ∗ dstAny 13 c) ⊢ barPay 0 c := Entails.rfl
theorem bar1 : iprop(dstAny (F := F) 2 c ∗ dstAny 3 c ∗ dstAny 8 c ∗ dstAny 9 c ∗ dstAny 14 c ∗ dstAny 15 c) ⊢ barPay 1 c := Entails.rfl
theorem bar2 : iprop(dstAny (F := F) 4 c ∗ dstAny 5 c ∗ dstAny 10 c ∗ dstAny 11 c ∗ dstAny 16 c) ⊢ barPay 2 c := Entails.rfl

/-- The device's own pieces, where it puts them. -/
theorem ownQ (i : S512x2048.Idx) (x : S512x256.Idx) (h0 : (i 0).val = (x 0).val) (h1 : (i 1).val = (x 1).val) : k0_pay293 (wqG m c) x = WQ m c i := by
  have hx : (x 1).val < 256 := (x 1).isLt
  have hz : ∀ c, px (slotX 0) c = c := by decide
  have hs : (⟨(i 1).val / 256, by have h : (i 1).val < 2048 := (i 1).isLt; omega⟩ : Fin 8) = 0 := Fin.ext (by show (i 1).val / 256 = 0; omega)
  unfold WQ
  rw [hs, hz]
  congr 1
  funext a
  fin_cases a
  · exact Fin.ext h0.symm
  · exact Fin.ext (by show (x 1).val = (i 1).val % 256; omega)
theorem ownO (i : S2048x512.Idx) (x : S256x512.Idx) (h0 : (i 0).val = (x 0).val) (h1 : (i 1).val = (x 1).val) : k0_pay294 (woG m c) x = WO m c i := by
  have hx : (x 0).val < 256 := (x 0).isLt
  have hz : ∀ c, px (slotX 0) c = c := by decide
  have hs : (⟨(i 0).val / 256, by have h : (i 0).val < 2048 := (i 0).isLt; omega⟩ : Fin 8) = 0 := Fin.ext (by show (i 0).val / 256 = 0; omega)
  unfold WO
  rw [hs, hz]
  congr 1
  funext a
  fin_cases a
  · exact Fin.ext (by show (x 0).val = (i 0).val % 256; omega)
  · exact Fin.ext h1.symm

theorem part58_run :
    Run c iprop(St m K c 0 ∗ allOf aWq c (wqG m c) ∗ allOf aWo c (woG m c) ∗ anyOf qM c (WQ m c) ∗ anyOf oM c (WO m c) ∗ dutyTok ER (barC (px (msk 0) c)) 0 0)
      (onA (k0_part58 (F := F)))
      (fun r => iprop(⌜r.1 = c ∧ (isEv r.2.2.1 ↔ ev c) ∧ (isEv (Scalar.xori r.2.2.1 1#1) ↔ ¬ ev c) ∧ r.2.2.2.2.2.2.sem = barS⌝
        ∗ St m K c 1 ∗ allOf aWq c (wqG m c) ∗ allOf aWo c (woG m c) ∗ ptsQ c 0 256 fullShare (WQ m c) ∗ ptsO c 0 256 fullShare (WO m c) ∗ barPay 1 c ∗ barPay 2 c)) := by
  have h1 : ∀ c, (⟨k0_dev1 c, k0_dev1_lt c⟩ : Dev nD) = px 1 c := by decide
  rw [k0_part58_eq_skeleton]
  unfold Run
  simp only [onA, k0_part58_skel, Prog.lift, Prog.bind_op, Prog.bind_ret, wp_deviceId]
  iintro ⟨HS, HQ, HO, Hq, Ho, T0⟩
  iapply (wp_ld aWq c _ (wqG m c) (fun _ => True)) $$ HQ
  iintro %v %hv HQ
  have hv' : v = wqG m c := funext fun x => (hv x trivial).trans (congrFun (Memref.read_access_unit_zero (Elt F) cc0_stg1_0 zero2 _ (wqG m c)) x)
  subst hv'
  iapply (wp_dead qM c _ _ _) $$ Hq
  iintro %_ Hq
  iapply (wp_st qM c (Rect.unit (s := S512x2048) ![0, 0] S512x256.size inb_S512x2048_S512x256_0_0) (WQ m c) (fun _ => False) (fun i => (i 1).val < 256) ⟨?_, ?_⟩) $$ Hq
  · intro i hi
    refine .inr (emb_ex cc0_scratch0 inb_S512x2048_S512x256_0_0 i fun a => ?_)
    fin_cases a
    · exact ⟨Nat.zero_le _, (i 0).isLt⟩
    · exact ⟨Nat.zero_le _, (Nat.zero_add 256).symm ▸ hi⟩
  · intro x hx
    exact ownQ m c _ x (by show 0 + 1 * (x 0).val = _; omega) (by show 0 + 1 * (x 1).val = _; omega)
  iintro Hq
  iapply (wp_ld aWo c _ (woG m c) (fun _ => True)) $$ HO
  iintro %w %hw HO
  have hw' : w = woG m c := funext fun x => (hw x trivial).trans (congrFun (Memref.read_access_unit_zero (Elt F) cc0_stg4_0 zero2 _ (woG m c)) x)
  subst hw'
  iapply (wp_dead oM c _ _ _) $$ Ho
  iintro %_ Ho
  iapply (wp_st oM c (Rect.unit (s := S2048x512) ![0, 0] S256x512.size inb_S2048x512_S256x512_0_0) (WO m c) (fun _ => False) (fun i => (i 0).val < 256) ⟨?_, ?_⟩) $$ Ho
  · intro i hi
    refine .inr (emb_ex cc0_scratch1 inb_S2048x512_S256x512_0_0 i fun a => ?_)
    fin_cases a
    · exact ⟨Nat.zero_le _, (Nat.zero_add 256).symm ▸ hi⟩
    · exact ⟨Nat.zero_le _, (i 1).isLt⟩
  · intro x hx
    exact ownO m c _ x (by show 0 + 1 * (x 0).val = _; omega) (by show 0 + 1 * (x 1).val = _; omega)
  iintro Ho
  ihave Hq := (splitQ m c) $$ Hq
  icases Hq with ⟨Hq, D0, D2, D4, D6, D8, D10, D12, D14⟩
  ihave Ho := (splitO m c) $$ Ho
  icases Ho with ⟨Ho, D1, D3, D5, D7, D9, D11, D13, D15, D16⟩
  ihave HS := (St_open m K c 0) $$ HS
  icases HS with ⟨#HK, %W, HOw⟩
  iapply (wp_arrive m K c W 0 _ (h1 c) 0 rfl) $$ HK T0 [D0 D1 D6 D7 D12 D13] HOw
  · iapply (bar0 c)
    isplitl [D0]; · iexact D0
    isplitl [D1]; · iexact D1
    isplitl [D6]; · iexact D6
    isplitl [D7]; · iexact D7
    isplitl [D12]; · iexact D12
    iexact D13
  iintro HOw
  simp only [wp_pure]
  imodintro
  isplitr
  · ipureintro
    refine ⟨trivial, ?_, ?_, trivial⟩
    · clear hv hw; unfold ev; revert c; decide
    · clear hv hw; unfold ev; revert c; decide
  isplitl [HOw]
  · unfold St
    isplitr; · iexact HK
    iexists W; iexact HOw
  isplitl [HQ]; · iexact HQ
  isplitl [HO]; · iexact HO
  isplitl [Hq]; · iexact Hq
  isplitl [Ho]; · iexact Ho
  isplitl [D2 D3 D8 D9 D14 D15]
  · iapply (bar1 c)
    isplitl [D2]; · iexact D2
    isplitl [D3]; · iexact D3
    isplitl [D8]; · iexact D8
    isplitl [D9]; · iexact D9
    isplitl [D14]; · iexact D14
    iexact D15
  iapply (bar2 c)
  isplitl [D4]; · iexact D4
  isplitl [D5]; · iexact D5
  isplitl [D10]; · iexact D10
  isplitl [D11]; · iexact D11
  iexact D16

end Cert.Wk
end
-- ==== Proof.Whole.lean ====
/-
# The body

All the parts in turn: from every transfer's tokens and the buffers to the result.
-/
module

public import proofs.«01_k».proof.Proof.Head

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 37 → ℕ) (c : Dev nD)

/-- Everything the seventeen transfers start from, and what they leave. -/
def Ress : sProp 𝕄 := iprop(Res 0 c ∗ Res 1 c ∗ Res 2 c ∗ Res 3 c ∗ Res 4 c ∗ Res 5 c ∗ Res 6 c ∗ Res 7 c ∗ Res 8 c ∗ Res 9 c ∗ Res 10 c ∗ Res 11 c ∗ Res 12 c ∗ Res 13 c ∗ Res 14 c ∗ Res 15 c ∗ Res 16 c)
def Dones : sProp 𝕄 := iprop(Done 0 c ∗ Done 1 c ∗ Done 2 c ∗ Done 3 c ∗ Done 4 c ∗ Done 5 c ∗ Done 6 c ∗ Done 7 c ∗ Done 8 c ∗ Done 9 c ∗ Done 10 c ∗ Done 11 c ∗ Done 12 c ∗ Done 13 c ∗ Done 14 c ∗ Done 15 c ∗ Done 16 c)
/-- The barrier's share of it. -/
def Meet : sProp 𝕄 := iprop((dutyTok ER (barC (px (msk 0) c)) 0 0 ∗ dutyTok ER (barC (px (msk 1) c)) 0 1 ∗ dutyTok ER (barC (px (msk 2) c)) 0 2)
  ∗ cred (tallyAt (barC c) () 3) ∗ atPos ER (barC c) 0 ∅ 0)
/-- The local memory before and after. -/
def before : sProp 𝕄 := iprop(base m c ∗ workIf m c False ∗ held bA c (AC1 m c) (fun _ => False) ∗ allOf aWq c (wqG m c) ∗ allOf aWo c (woG m c)
  ∗ anyOf qM c (WQ m c) ∗ anyOf oM c (WO m c) ∗ held aOut c (k0_pay3 (AC3 m c)) (fun _ => False))
def afterwards : sProp 𝕄 := iprop(base m c ∗ workIf m c (ev c) ∗ held bA c (AC3 m c) (fun _ => ev c) ∗ allOf aWq c (wqG m c) ∗ allOf aWo c (woG m c)
  ∗ anyOf qM c (WQ m c) ∗ anyOf oM c (WO m c) ∗ allOf aOut c (OUT m c))

theorem Go_intro (j : Fin 17) : iprop(Res j c ∗ srcPts m j c ∗ dstAny j (px (tr j).k c)) ⊢ Go m c j := Entails.rfl
theorem Got_open (j : Fin 17) : Got m c j ⊢ iprop(Done j c ∗ srcPts m j c ∗ dstPts m j c) := Entails.rfl
theorem bar1_open (p : Dev nD) : barPay (F := F) 1 p ⊢ iprop(dstAny 2 p ∗ dstAny 3 p ∗ dstAny 8 p ∗ dstAny 9 p ∗ dstAny 14 p ∗ dstAny 15 p) := Entails.rfl
theorem bar2_open (p : Dev nD) : barPay (F := F) 2 p ⊢ iprop(dstAny 4 p ∗ dstAny 5 p ∗ dstAny 10 p ∗ dstAny 11 p ∗ dstAny 16 p) := Entails.rfl

/-- The body at device `c`. -/
theorem body_run : Run c iprop(St m K c 0 ∗ Ress c ∗ Meet c ∗ before m c) (onA (cc0_body (F := F)))
    (fun _ => iprop(St m K c 20 ∗ Dones c ∗ atPos ER (barC c) 1 ∅ 0 ∗ afterwards m c)) := by
  rw [cc0_body_eq_skeleton]
  unfold Run Ress Meet before
  simp only [onA, cc0_body_skel]
  iintro ⟨HS, ⟨R0, R1, R2, R3, R4, R5, R6, R7, R8, R9, R10, R11, R12, R13, R14, R15, R16⟩, ⟨⟨T0, T1, T2⟩, Hc, Hp⟩, HB, HW, HA, HQ, HO, Hq, Ho, Hr⟩
  iapply (Run.use (part58_run m K c)) $$ [HS HQ HO Hq Ho T0]
  · isplitl [HS]; · iexact HS
    isplitl [HQ]; · iexact HQ
    isplitl [HO]; · iexact HO
    isplitl [Hq]; · iexact Hq
    isplitl [Ho]; · iexact Ho
    iexact T0
  iintro %r ⟨%hr, HS, HQ, HO, Hq, Ho, P1, P2⟩
  obtain ⟨d0, v2, v13, v14, v15, v16, v29⟩ := r
  obtain ⟨hd, hv, hv', hb⟩ := hr
  dsimp only at hd hv hv' hb
  have hd' : c = d0 := hd.symm
  subst hd'
  dsimp only
  ihave H := (lend1Q m c) $$ [Hq]
  · iexact Hq
  icases H with ⟨S0, S2, S4⟩
  ihave H := (lend1O m c) $$ [Ho]
  · iexact Ho
  icases H with ⟨S1, S3, S5⟩
  iapply (Run.use (part59_run m K c v14 v15 v16 v29 hb)) $$ [HS T1 P1 T2 P2 Hc Hp R0 S0 R1 S1]
  · isplitl [HS]; · iexact HS
    isplitl [T1 P1]
    · isplitl [T1]; · iexact T1
      iexact P1
    isplitl [T2 P2]
    · isplitl [T2]; · iexact T2
      iexact P2
    isplitl [Hc Hp]
    · isplitl [Hc]; · iexact Hc
      iexact Hp
    isplitl [R0 S0]
    · isplitl [R0]; · iexact R0
      iexact S0
    isplitl [R1]; · iexact R1
    iexact S1
  iintro %_ ⟨HS, G0, G1, Hp, ⟨A6, A7, A12, A13⟩, B1, B2⟩
  ihave B1 := (bar1_open (px 3 c)) $$ B1
  icases B1 with ⟨A2, A3, A8, A9, A14, A15⟩
  ihave B2 := (bar2_open (px 4 c)) $$ B2
  icases B2 with ⟨A4, A5, A10, A11, A16⟩
  ihave G2 := (Go_intro m c 2) $$ [R2 S2 A2]
  · isplitl [R2]; · iexact R2
    isplitl [S2]; · iexact S2
    iexact A2
  ihave G3 := (Go_intro m c 3) $$ [R3 S3 A3]
  · isplitl [R3]; · iexact R3
    isplitl [S3]; · iexact S3
    iexact A3
  ihave G4 := (Go_intro m c 4) $$ [R4 S4 A4]
  · isplitl [R4]; · iexact R4
    isplitl [S4]; · iexact S4
    iexact A4
  ihave G5 := (Go_intro m c 5) $$ [R5 S5 A5]
  · isplitl [R5]; · iexact R5
    isplitl [S5]; · iexact S5
    iexact A5
  iapply (Run.use (part60_run m K c v15 v16)) $$ [HS G2 G3 G4]
  · isplitl [HS]; · iexact HS
    isplitl [G2]; · iexact G2
    isplitl [G3]; · iexact G3
    iexact G4
  iintro %_ ⟨HS, G2, G3, G4⟩
  iapply (Run.use (part61_run m K c v2 v13 v14)) $$ [HS G5 G0 G1 HB HW]
  · isplitl [HS]; · iexact HS
    isplitl [G5]; · iexact G5
    isplitl [G0]; · iexact G0
    isplitl [G1]; · iexact G1
    isplitl [HB]; · iexact HB
    iexact HW
  iintro %_ ⟨HS, G5, G0, G1, HB, HW⟩
  iapply (Run.use (part62_run m K c v14 v15)) $$ [HS G1 G2 G3]
  · isplitl [HS]; · iexact HS
    isplitl [G1]; · iexact G1
    isplitl [G2]; · iexact G2
    iexact G3
  iintro %_ ⟨HS, G1, G2, G3⟩
  iapply (Run.use (part63_run m K c v15 v16)) $$ [HS G3 G4]
  · isplitl [HS]; · iexact HS
    isplitl [G3]; · iexact G3
    iexact G4
  iintro %_ ⟨HS, G3, G4⟩
  ihave G0 := (Got_open m c 0) $$ G0
  icases G0 with ⟨E0, S0, D0⟩
  ihave G1 := (Got_open m c 1) $$ G1
  icases G1 with ⟨E1, S1, D1⟩
  ihave G2 := (Got_open m c 2) $$ G2
  icases G2 with ⟨E2, S2, D2⟩
  ihave G3 := (Got_open m c 3) $$ G3
  icases G3 with ⟨E3, S3, D3⟩
  ihave G4 := (Got_open m c 4) $$ G4
  icases G4 with ⟨E4, S4, D4⟩
  ihave H := (lend2Q m c) $$ [S0 S2 S4 D0 D2 D4]
  · isplitl [S0]; · iexact S0
    isplitl [S2]; · iexact S2
    isplitl [S4]; · iexact S4
    isplitl [D0]; · iexact D0
    isplitl [D2]; · iexact D2
    iexact D4
  icases H with ⟨Q1, Q0, S6, S8, S10⟩
  ihave H := (lend2O m c) $$ [D3]
  · iexact D3
  icases H with ⟨S7, O5⟩
  ihave G6 := (Go_intro m c 6) $$ [R6 S6 A6]
  · isplitl [R6]; · iexact R6
    isplitl [S6]; · iexact S6
    iexact A6
  ihave G7 := (Go_intro m c 7) $$ [R7 S7 A7]
  · isplitl [R7]; · iexact R7
    isplitl [S7]; · iexact S7
    iexact A7
  iapply (Run.use (part64_run m K c v14 v16)) $$ [HS G5 G6 G7]
  · isplitl [HS]; · iexact HS
    isplitl [G5]; · iexact G5
    isplitl [G6]; · iexact G6
    iexact G7
  iintro %_ ⟨HS, G5, G6, G7⟩
  ihave G5 := (Got_open m c 5) $$ G5
  icases G5 with ⟨E5, S5, D5⟩
  ihave H := (lend2O' m c) $$ [S1 S3 S5 D1 O5 D5]
  · isplitl [S1]; · iexact S1
    isplitl [S3]; · iexact S3
    isplitl [S5]; · iexact S5
    isplitl [D1]; · iexact D1
    isplitl [O5]; · iexact O5
    iexact D5
  icases H with ⟨O1, O0, S9, S11⟩
  ihave G8 := (Go_intro m c 8) $$ [R8 S8 A8]
  · isplitl [R8]; · iexact R8
    isplitl [S8]; · iexact S8
    iexact A8
  ihave G9 := (Go_intro m c 9) $$ [R9 S9 A9]
  · isplitl [R9]; · iexact R9
    isplitl [S9]; · iexact S9
    iexact A9
  ihave G10 := (Go_intro m c 10) $$ [R10 S10 A10]
  · isplitl [R10]; · iexact R10
    isplitl [S10]; · iexact S10
    iexact A10
  ihave G11 := (Go_intro m c 11) $$ [R11 S11 A11]
  · isplitl [R11]; · iexact R11
    isplitl [S11]; · iexact S11
    iexact A11
  iapply (Run.use (part65_run m K c v15 v16)) $$ [HS G8 G9 G10]
  · isplitl [HS]; · iexact HS
    isplitl [G8]; · iexact G8
    isplitl [G9]; · iexact G9
    iexact G10
  iintro %_ ⟨HS, G8, G9, G10⟩
  iapply (Run.use (part66_run m K c v13 v14 _ _ hv _ _)) $$ [HS G11 G6 HW Q1 O1 HA]
  · isplitl [HS]; · iexact HS
    isplitl [G11]; · iexact G11
    isplitl [G6]; · iexact G6
    isplitl [HW]; · iexact HW
    isplitl [Q1]; · iexact Q1
    isplitl [O1]; · iexact O1
    iexact HA
  iintro %_ ⟨HS, G11, G6, HW, Q1, O1, HA⟩
  iapply (Run.use (part67_run m K c v14 v15)) $$ [HS G7 G8]
  · isplitl [HS]; · iexact HS
    isplitl [G7]; · iexact G7
    iexact G8
  iintro %_ ⟨HS, G7, G8⟩
  iapply (Run.use (part68_run m K c v15 v16)) $$ [HS G9 G10]
  · isplitl [HS]; · iexact HS
    isplitl [G9]; · iexact G9
    iexact G10
  iintro %_ ⟨HS, G9, G10⟩
  ihave G6 := (Got_open m c 6) $$ G6
  icases G6 with ⟨E6, S6, D6⟩
  ihave G7 := (Got_open m c 7) $$ G7
  icases G7 with ⟨E7, S7, D7⟩
  ihave G8 := (Got_open m c 8) $$ G8
  icases G8 with ⟨E8, S8, D8⟩
  ihave G9 := (Got_open m c 9) $$ G9
  icases G9 with ⟨E9, S9, D9⟩
  ihave G10 := (Got_open m c 10) $$ G10
  icases G10 with ⟨E10, S10, D10⟩
  ihave H := (lend3Q m c) $$ [D6 D8 D10]
  · isplitl [D6]; · iexact D6
    isplitl [D8]; · iexact D8
    iexact D10
  icases H with ⟨Q2, Q3, S12, Q4, S14⟩
  ihave H := (lend3O m c) $$ [D9]
  · iexact D9
  icases H with ⟨S13, O3, O6⟩
  ihave G12 := (Go_intro m c 12) $$ [R12 S12 A12]
  · isplitl [R12]; · iexact R12
    isplitl [S12]; · iexact S12
    iexact A12
  ihave G13 := (Go_intro m c 13) $$ [R13 S13 A13]
  · isplitl [R13]; · iexact R13
    isplitl [S13]; · iexact S13
    iexact A13
  iapply (Run.use (part69_run m K c v14 v15 v16)) $$ [HS G11 G12 G13]
  · isplitl [HS]; · iexact HS
    isplitl [G11]; · iexact G11
    isplitl [G12]; · iexact G12
    iexact G13
  iintro %_ ⟨HS, G11, G12, G13⟩
  ihave G11 := (Got_open m c 11) $$ G11
  icases G11 with ⟨E11, S11, D11⟩
  ihave H := (lend3O' m c) $$ [D7 O6 D11]
  · isplitl [D7]; · iexact D7
    isplitl [O6]; · iexact O6
    iexact D11
  icases H with ⟨O2, O4, S16, O7, S15, O8⟩
  ihave G14 := (Go_intro m c 14) $$ [R14 S14 A14]
  · isplitl [R14]; · iexact R14
    isplitl [S14]; · iexact S14
    iexact A14
  ihave G15 := (Go_intro m c 15) $$ [R15 S15 A15]
  · isplitl [R15]; · iexact R15
    isplitl [S15]; · iexact S15
    iexact A15
  ihave G16 := (Go_intro m c 16) $$ [R16 S16 A16]
  · isplitl [R16]; · iexact R16
    isplitl [S16]; · iexact S16
    iexact A16
  iapply (Run.use (part70_run m K c v13 v15 v16 _ hv _ _)) $$ [HS G14 G15 G16 HW Q2 O2 HA]
  · isplitl [HS]; · iexact HS
    isplitl [G14]; · iexact G14
    isplitl [G15]; · iexact G15
    isplitl [G16]; · iexact G16
    isplitl [HW]; · iexact HW
    isplitl [Q2]; · iexact Q2
    isplitl [O2]; · iexact O2
    iexact HA
  iintro %_ ⟨HS, G14, G15, G16, HW, Q2, O2, HA⟩
  iapply (Run.use (part71_run m K c v14)) $$ [HS G12 G13 G14]
  · isplitl [HS]; · iexact HS
    isplitl [G12]; · iexact G12
    isplitl [G13]; · iexact G13
    iexact G14
  iintro %_ ⟨HS, G12, G13, G14⟩
  iapply (Run.use (part72_run m K c v15 v16 _)) $$ [HS G14 G15 G16]
  · isplitl [HS]; · iexact HS
    isplitl [G14]; · iexact G14
    isplitl [G15]; · iexact G15
    iexact G16
  iintro %_ ⟨HS, G14, G15, G16⟩
  iapply (stepR m K c 16 rfl 20 4 (bills_done c) (by decide) ?_) $$ [HS G16]
  · rfl
  · isplitl [HS]; · iexact HS
    iexact G16
  iintro ⟨HS, G16⟩
  ihave G12 := (Got_open m c 12) $$ G12
  icases G12 with ⟨E12, S12, D12⟩
  ihave G13 := (Got_open m c 13) $$ G13
  icases G13 with ⟨E13, S13, D13⟩
  ihave G14 := (Got_open m c 14) $$ G14
  icases G14 with ⟨E14, S14, D14⟩
  ihave G15 := (Got_open m c 15) $$ G15
  icases G15 with ⟨E15, S15, D15⟩
  ihave G16 := (Got_open m c 16) $$ G16
  icases G16 with ⟨E16, S16, D16⟩
  ihave H := (last4Q m c) $$ [D12 D14]
  · isplitl [D12]; · iexact D12
    iexact D14
  irename H => Q9
  ihave H := (last4O m c) $$ [D13 D15 D16]
  · isplitl [D13]; · iexact D13
    isplitl [D15]; · iexact D15
    iexact D16
  irename H => O9
  iapply (branch (fun h => brD m c fullShare fullShare (hv.mp h)) (fun h => brD_skip m c fullShare fullShare fun h' => h (hv.mpr h')) ?_) $$ [HW Q9 O9 HA Hr]
  · intro h; rw [← segD_eq]; simp only [stC, tileC, ldC, ldWo, ldA, stA, stOut, Prog.bind_assoc]; rfl
  · isplitl [HW]; · iexact HW
    isplitl [Q9]; · iexact Q9
    isplitl [O9]; · iexact O9
    isplitl [HA]; · iexact HA
    iexact Hr
  iintro ⟨HW, Q9, O9, HA, Hr⟩
  iapply (branch (fun h => brE m c (hv'.mp h)) (fun h => brE_skip m c (Classical.not_not.mp fun h' => h (hv'.mpr h'))) ?_) $$ Hr
  · intro h; simp only [stOut, Prog.bind_assoc]
  iintro Hr
  simp only [wp_pure]
  imodintro
  ihave H := (againQ m c) $$ [Q1 Q0 S10 S6 S8 Q2 Q3 S12 Q4 S14 Q9]
  · isplitl [Q1]; · iexact Q1
    isplitl [Q0]; · iexact Q0
    isplitl [S10]; · iexact S10
    isplitl [S6]; · iexact S6
    isplitl [S8]; · iexact S8
    isplitl [Q2]; · iexact Q2
    isplitl [Q3]; · iexact Q3
    isplitl [S12]; · iexact S12
    isplitl [Q4]; · iexact Q4
    isplitl [S14]; · iexact S14
    iexact Q9
  irename H => Hq
  ihave H := (againO m c) $$ [O1 O0 S11 S7 S9 O2 O4 S16 S13 O3 O7 S15 O8 O9]
  · isplitl [O1]; · iexact O1
    isplitl [O0]; · iexact O0
    isplitl [S11]; · iexact S11
    isplitl [S7]; · iexact S7
    isplitl [S9]; · iexact S9
    isplitl [O2]; · iexact O2
    isplitl [O4]; · iexact O4
    isplitl [S16]; · iexact S16
    isplitl [S13]; · iexact S13
    isplitl [O3]; · iexact O3
    isplitl [O7]; · iexact O7
    isplitl [S15]; · iexact S15
    isplitl [O8]; · iexact O8
    iexact O9
  irename H => Ho
  isplitl [HS]; · iexact HS
  isplitl [E0 E1 E2 E3 E4 E5 E6 E7 E8 E9 E10 E11 E12 E13 E14 E15 E16]
  · unfold Dones
    isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    iexact E16
  isplitl [Hp]; · iexact Hp
  unfold afterwards
  isplitl [HB]; · iexact HB
  isplitl [HW]; · iexact HW
  isplitl [HA]; · iexact HA
  isplitl [HQ]; · iexact HQ
  isplitl [HO]; · iexact HO
  isplitl [Hq]; · iexact Hq
  isplitl [Ho]; · iexact Ho
  iexact Hr

end Cert.Wk
end
-- ==== Proof.Ghost.lean ====
/-
# The launch's ghost state

What the launch deals each device — its cells, its tokens, its credit — and how the tokens reach the devices that
spend them.
-/
module

public import proofs.«01_k».proof.Proof.Whole

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells transfer by transfer -/

theorem assoc_eq (A B C : sProp 𝕄) : iprop((A ∗ B) ∗ C) = iprop(A ∗ B ∗ C) := equiv_iff.mp ⟨BI.sep_assoc, BI.sep_assoc'⟩

def iS : Fin 17 → Fin 36 := ![0, 3, 1, 4, 2, 5, 12, 15, 13, 16, 14, 17, 24, 27, 25, 28, 29]
def iR : Fin 17 → Fin 36 := ![6, 9, 7, 10, 8, 11, 18, 21, 19, 22, 20, 23, 30, 33, 31, 34, 35]
theorem osem_iS (j : Fin 17) : osem (iS j) = .dma (tr j).snd := by revert j; decide
theorem osem_iR (j : Fin 17) : osem (iR j) = .dma (tr j).rcv := by revert j; decide

theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem bigSep_fin36 (Φ : Fin 36 → sProp 𝕄) : bigSep Finset.univ Φ
    = iprop((bigSep Finset.univ fun j : Fin 17 => iprop(Φ (iS j) ∗ Φ (iR j))) ∗ Φ 26 ∗ Φ 32) := by
  rw [show (Finset.univ : Finset (Fin 36)) = (Finset.univ.map ⟨iS, by decide⟩ ∪ Finset.univ.map ⟨iR, by decide⟩) ∪ ({26} ∪ {32}) from by decide,
    bigSep_union (by decide), bigSep_union (by decide), bigSep_union (by decide), bigSep_map, bigSep_map, bigSep_singleton, bigSep_singleton, bigSep_sep']
  rfl

theorem bigSep_fin37 (Φ : Fin 37 → sProp 𝕄) : bigSep Finset.univ Φ
    = iprop((bigSep Finset.univ fun k : Fin 36 => Φ (Fin.castSucc k)) ∗ Φ 36) := by
  rw [show (Finset.univ : Finset (Fin 37)) = Finset.univ.map ⟨Fin.castSucc, by decide⟩ ∪ {36} from by decide,
    bigSep_union (by decide), bigSep_map, bigSep_singleton]
  rfl

/-- One family over a device's cells, transfer by transfer, the barrier's, and the two cells no transfer uses. -/
theorem by_transfer (c : Dev nD) (Φ : GSem nD τ sig → sProp 𝕄) : (bigSep Finset.univ fun k : Fin 37 => Φ (kcell (c, k)))
    = iprop(((bigSep Finset.univ fun j : Fin 17 => iprop(Φ (sC j c) ∗ Φ (rC j c))) ∗ Φ (kcell (c, 26)) ∗ Φ (kcell (c, 32))) ∗ Φ (barC c)) := by
  rw [bigSep_fin37 (fun k => Φ (kcell (c, k))), bigSep_fin36 (fun k => Φ (kcell (c, Fin.castSucc k)))]
  have h : (fun j : Fin 17 => iprop(Φ (kcell (c, Fin.castSucc (iS j))) ∗ Φ (kcell (c, Fin.castSucc (iR j))))) = fun j => iprop(Φ (sC j c) ∗ Φ (rC j c)) := by
    funext j
    have e (k : Fin 36) : kcell (c, Fin.castSucc k) = ((c : Thread nD τ), osem k) := by
      unfold kcell csem; dsimp only; rw [dif_pos (show (Fin.castSucc k).val < 36 from k.isLt)]; rfl
    rw [e, e, osem_iS, osem_iR]
  rw [h]; rfl

theorem kcell_injective : Function.Injective (kcell : Dev nD × Fin 37 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by clear h; revert h2; revert k k'; decide
  subst this; rfl
def allCells : Finset (GSem nD τ sig) := Finset.univ.map ⟨kcell, kcell_injective⟩

/-- The tokens minted: every duty of every cell. -/
abbrev tokOf (x : (Dev nD × Fin 37) × Fin 3) : GSem nD τ sig × ℕ × Fin 3 := (kcell x.1, 0, x.2)
theorem tokOf_injective : Function.Injective (tokOf : (Dev nD × Fin 37) × Fin 3 → GSem nD τ sig × ℕ × Fin 3) := by
  rintro ⟨a, d⟩ ⟨a', d'⟩ h
  have h1 : a = a' := kcell_injective (congrArg Prod.fst h)
  have h2 : d = d' := congrArg (fun x : GSem nD τ sig × ℕ × Fin 3 => x.2.2) h
  rw [h1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 := bigSep Finset.univ fun k : Fin 37 => bigSep Finset.univ fun d : Fin 3 => dutyTok ER (kcell (c, k)) 0 d

/-- What the launch element deals device `c`. -/
def G (c : Dev nD) : sProp 𝕄 :=
  iprop((bigSep Finset.univ fun k : Fin 37 => roundState ER (sched m) (kcell (c, k)) 0)
    ∗ (bigSep Finset.univ fun k : Fin 37 => iprop(atPos ER (kcell (c, k)) 0 ∅ 0 ∗ reached ER (kcell (c, k)) 0)) ∗ toks c)

/-- Device `c`'s place on its two cells of transfer `j`, and the two tokens it pays that transfer with. -/
def Hand (j : Fin 17) (c : Dev nD) : sProp 𝕄 :=
  iprop(dutyTok ER (sC j c) 0 0 ∗ dutyTok ER (rC j (px (tr j).k c)) 0 0 ∗ atPos ER (sC j c) 0 ∅ 0 ∗ atPos ER (rC j c) 0 ∅ 0)
/-- Its tokens for its neighbours' barriers. -/
def BarToks (c : Dev nD) : sProp 𝕄 :=
  iprop(dutyTok ER (barC (px (msk 0) c)) 0 0 ∗ dutyTok ER (barC (px (msk 1) c)) 0 1 ∗ dutyTok ER (barC (px (msk 2) c)) 0 2)
/-- Its place on the two cells no transfer uses. -/
def Spare (c : Dev nD) : sProp 𝕄 := iprop(atPos ER (kcell (c, 26)) 0 ∅ 0 ∗ atPos ER (kcell (c, 32)) 0 ∅ 0)

/-- What stays with device `c`. -/
def linear (c : Dev nD) : sProp 𝕄 :=
  iprop((bigSep Finset.univ fun j : Fin 17 => Hand j c) ∗ BarToks c ∗ Spare c ∗ atPos ER (barC c) 0 ∅ 0)

/-- The records every device gets a copy of. -/
def records (K : Dev nD × Fin 37 → ℕ) : sProp 𝕄 :=
  iprop((bigSep Finset.univ fun ck : Dev nD × Fin 37 => cellInv ER (sched m) (K ck) (kcell ck))
    ∗ bigSep Finset.univ fun ck : Dev nD × Fin 37 => reached ER (kcell ck) 0)

instance records_persistent (K : Dev nD × Fin 37 → ℕ) : BI.Persistent (records m K) := by unfold records; infer_instance

def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 37 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSems0_def (c : Dev nD) : (Pipeline.ownSems0 (Ix := Unit) (Name := ℕ) (U := UU) (Lvl := ℕ) (Val := Elt F) (τ := τ) osem c : sProp 𝕄)
    = bigSep Finset.univ fun k : Fin 36 => semVal ((c : Thread nD τ), osem k) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 37 => semVal (kcell (c, k)) 0 : sProp 𝕄) := by
  rw [unscopedSems0_eq, bigSep_fin37, ownSems0_def]
  have e (k : Fin 36) : kcell (c, Fin.castSucc k) = ((c : Thread nD τ), osem k) := by
    unfold kcell csem; dsimp only; rw [dif_pos (show (Fin.castSucc k).val < 36 from k.isLt)]; rfl
  simp only [e]
  exact Entails.rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 37 => semVal (kcell (c, k)) 0) ∗ bigSep Finset.univ fun k : Fin 37 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to their payers -/

/-- A device's tokens, transfer by transfer and the barrier's. -/
def own (c : Dev nD) : sProp 𝕄 :=
  iprop((bigSep Finset.univ fun j : Fin 17 => iprop(dutyTok ER (sC j c) 0 0 ∗ dutyTok ER (rC j c) 0 0))
    ∗ dutyTok ER (barC c) 0 0 ∗ dutyTok ER (barC c) 0 1 ∗ dutyTok ER (barC c) 0 2)

theorem toks_own (c : Dev nD) : (toks c : sProp 𝕄) ⊢ own c := by
  unfold toks own
  rw [by_transfer c (fun g => bigSep Finset.univ fun d : Fin 3 => (dutyTok ER g 0 d : sProp 𝕄))]
  have hm : (bigSep Finset.univ fun j : Fin 17 => (iprop((bigSep Finset.univ fun d : Fin 3 => dutyTok ER (sC j c) 0 d) ∗ bigSep Finset.univ fun d : Fin 3 => dutyTok ER (rC j c) 0 d) : sProp 𝕄))
      ⊢ bigSep Finset.univ fun j : Fin 17 => iprop(dutyTok ER (sC j c) 0 0 ∗ dutyTok ER (rC j c) 0 0) := bigSep_mono fun j _ => by
    simp only [bigSep_fin3]
    refine (show _ ⊢ (_ : sProp 𝕄) from ?_)
    iintro ⟨⟨H1, -⟩, ⟨H2, -⟩⟩
    isplitl [H1] <;> iassumption
  rw [bigSep_fin3 (fun d => dutyTok ER (barC c) 0 d)]
  iintro ⟨⟨H, -⟩, HB⟩
  isplitl [H]
  · iapply hm; iexact H
  · iexact HB

/-- The neighbour across each transfer's mask, transfer by transfer. -/
def across : Dev nD × Fin 17 ≃ Dev nD × Fin 17 where
  toFun x := (px (tr x.2).k x.1, x.2)
  invFun x := (px (tr x.2).k x.1, x.2)
  left_inv x := by dsimp only; rw [px_px]
  right_inv x := by dsimp only; rw [px_px]

def paid (c : Dev nD) : sProp 𝕄 :=
  iprop((bigSep Finset.univ fun j : Fin 17 => iprop(dutyTok ER (sC j c) 0 0 ∗ dutyTok ER (rC j (px (tr j).k c)) 0 0)) ∗ BarToks c)

theorem toks_around : (bigSep Finset.univ fun c : Dev nD => (own c : sProp 𝕄)) ⊢ bigSep Finset.univ fun c : Dev nD => paid c := by
  have h : (bigSep Finset.univ fun c : Dev nD => bigSep Finset.univ fun j : Fin 17 => (dutyTok ER (rC j c) 0 0 : sProp 𝕄))
      = bigSep Finset.univ fun c : Dev nD => bigSep Finset.univ fun j : Fin 17 => dutyTok ER (rC j (px (tr j).k c)) 0 0 := by
    rw [← bigSep_univ_prod (fun x : Dev nD × Fin 17 => (dutyTok ER (rC x.2 x.1) 0 0 : sProp 𝕄)),
      bigSep_univ_equiv across, bigSep_univ_prod]; rfl
  unfold own paid BarToks
  simp only [bigSep_sep']
  rw [h, bigSep_univ_equiv (pxE (msk 0)) (fun c : Dev nD => (dutyTok ER (barC c) 0 0 : sProp 𝕄)),
    bigSep_univ_equiv (pxE (msk 1)) (fun c : Dev nD => (dutyTok ER (barC c) 0 1 : sProp 𝕄)),
    bigSep_univ_equiv (pxE (msk 2)) (fun c : Dev nD => (dutyTok ER (barC c) 0 2 : sProp 𝕄))]
  exact Entails.rfl

theorem linear_intro (c : Dev nD) : iprop((bigSep Finset.univ fun k : Fin 37 => atPos ER (kcell (c, k)) 0 ∅ 0) ∗ paid c) ⊢ (linear c : sProp 𝕄) := by
  rw [by_transfer c (fun g => (atPos ER g 0 ∅ 0 : sProp 𝕄))]
  unfold paid linear Spare
  iintro ⟨⟨⟨HA, HS⟩, HB⟩, HT, HBT⟩
  isplitl [HA HT]
  · have e : (bigSep Finset.univ fun j : Fin 17 => (Hand j c : sProp 𝕄))
        = iprop((bigSep Finset.univ fun j : Fin 17 => iprop(dutyTok ER (sC j c) 0 0 ∗ dutyTok ER (rC j (px (tr j).k c)) 0 0))
          ∗ bigSep Finset.univ fun j : Fin 17 => iprop(atPos ER (sC j c) 0 ∅ 0 ∗ atPos ER (rC j c) 0 ∅ 0)) := by
      rw [← bigSep_sep']; refine bigSep_congr fun j _ => ?_
      unfold Hand; rw [assoc_eq]
    rw [e]
    isplitl [HT] <;> iassumption
  isplitl [HBT]; · iexact HBT
  isplitl [HS] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 37 => iprop(∃ κ : ℕ, cellInv ER (sched m) κ (kcell ck))),
    bigSep_congr (s := Finset.univ) (fun (c : Dev nD) _ => bigSep_sep' Finset.univ (fun k : Fin 37 => (atPos ER (kcell (c, k)) 0 ∅ 0 : sProp 𝕄)) (fun k => reached ER (kcell (c, k)) 0)),
    bigSep_sep', ← bigSep_univ_prod (fun ck : Dev nD × Fin 37 => (reached ER (kcell ck) 0 : sProp 𝕄))]
  have ht : (bigSep Finset.univ fun c : Dev nD => (toks c : sProp 𝕄)) ⊢ bigSep Finset.univ fun c : Dev nD => paid c :=
    (bigSep_mono fun c _ => toks_own (F := F) c).trans (toks_around (F := F))
  iintro ⟨HI, ⟨Hat, #HR⟩, Htok⟩
  ihave HK := (BI.bigSep_exists_pi Finset.univ (fun (ck : Dev nD × Fin 37) (κ : ℕ) => (cellInv ER (sched m) κ (kcell ck) : sProp 𝕄))) $$ HI
  icases HK with ⟨%K, #HI⟩
  ihave Htk := ht $$ Htok
  iapply (bigSep_with (R := records m K) (Φ := fun c => linear c) fun c _ => by unfold G'; iintro H; iexists K; iexact H)
  isplitr
  · unfold records; isplitl; · iexact HI
    iexact HR
  · iapply ((Entails.of_eq (bigSep_sep' Finset.univ (fun c : Dev nD => bigSep Finset.univ fun k : Fin 37 => (atPos ER (kcell (c, k)) 0 ∅ 0 : sProp 𝕄)) paid).symm).trans
      (bigSep_mono fun c _ => linear_intro c))
    isplitl [Hat]; · iexact Hat
    iexact Htk

/-- The cells of every device made at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- Bills as (cell, mask, amount), and device `d`'s of them. -/
def billOf (d : Dev nD) (x : SemLoc sig × Fin 8 × ℕ) : GSem nD τ sig × ℕ := ((((px x.2.1 d : Dev nD) : Thread nD τ), x.1), x.2.2)
def billsL : List (SemLoc sig × Fin 8 × ℕ) :=
  [(.reg barS, 1, 1), (.reg barS, 3, 1), (.reg barS, 4, 1)] ++ (List.finRange 17).map fun j => (.dma (tr j).rcv, (tr j).k, amt j)
theorem bills_eq (d : Dev nD) : bills d = billsL.map (billOf d) := by
  unfold bills billsL; rw [List.map_append, List.map_map]; rfl

def credits (c : Dev nD) : List (SemLoc sig × Fin 8 × ℕ) → sProp 𝕄
  | [] => iprop(emp)
  | x :: l => iprop(credits c l ∗ cred (tallyAt ((c : Thread nD τ), x.1) () x.2.2))

theorem launch_credits (c : Dev nD) (l : List (SemLoc sig × Fin 8 × ℕ)) :
    (Pipeline.launchCred (fun d => total (l.map (billOf d))) c : sProp 𝕄) ⊢ credits c l := by
  induction l with
  | nil => exact Entails.of_eq (Pipeline.launchCred_zero c)
  | cons x l ih =>
    rw [show (fun d => total ((x :: l).map (billOf d))) = fun d => total (l.map (billOf d)) + tallyAt (billOf d x).1 () (billOf d x).2 from rfl,
      Pipeline.launchCred_add]
    exact BIClass.sep_mono ih (Pipeline.launchCred_tallyAt x.1 (px x.2.1) (px x.2.1) (px_px _) (px_px _) () x.2.2 c)

theorem creds (c : Dev nD) : (Pipeline.launchCred (fun d => owe d 0) c : sProp 𝕄)
    ⊢ iprop((bigSep Finset.univ fun j : Fin 17 => cred (tallyAt (rC j c) () (amt j))) ∗ cred (tallyAt (barC c) () 3)) := by
  rw [show (fun d => owe d 0) = fun d => total (billsL.map (billOf d)) from funext fun d => by rw [← bills_eq]; rfl]
  refine (launch_credits c billsL).trans ?_
  have hc (l : List (Fin 17)) : credits c (l.map fun j => (.dma (tr j).rcv, (tr j).k, amt j)) ⊢ (bigSepL l fun j => cred (tallyAt (rC j c) () (amt j)) : sProp 𝕄) := by
    induction l with
    | nil => exact Entails.rfl
    | cons j l ih =>
      rw [bigSepL_cons]
      refine (show iprop(credits c (l.map fun j => (.dma (tr j).rcv, (tr j).k, amt j)) ∗ cred (tallyAt (rC j c) () (amt j)))
        ⊢ iprop(cred (tallyAt (rC j c) () (amt j)) ∗ bigSepL l fun j => cred (tallyAt (rC j c) () (amt j))) from ?_)
      iintro ⟨H1, H2⟩
      isplitl [H2]; · iexact H2
      iapply ih; iexact H1
  have e : (cred (tallyAt (barC c) () 3) : sProp 𝕄) = iprop(cred (tallyAt (barC c) () 1) ∗ cred (tallyAt (barC c) () 1) ∗ cred (tallyAt (barC c) () 1)) := by
    rw [show (tallyAt (barC c) () 3 : CellTallies nD τ sig Unit) = tallyAt (barC c) () 1 + (tallyAt (barC c) () 1 + tallyAt (barC c) () 1) from by
      rw [tallyAt_add, tallyAt_add]]
    rw [BI.Entails.antisymm (cred_add _ _).1 (cred_add _ _).2, BI.Entails.antisymm (cred_add _ _).1 (cred_add _ _).2]
  rw [e]
  rw [bigSep_univ_eq_bigSepL (List.finRange 17) (by decide) (by decide)]
  refine (show iprop(((credits c ((List.finRange 17).map fun j => (.dma (tr j).rcv, (tr j).k, amt j)) ∗ cred (tallyAt (barC c) () 1))
    ∗ cred (tallyAt (barC c) () 1)) ∗ cred (tallyAt (barC c) () 1)) ⊢ _ from ?_)
  iintro ⟨⟨⟨H, B2⟩, B1⟩, B0⟩
  isplitl [H]
  · iapply (hc (List.finRange 17)); iexact H
  · isplitl [B0]; · iexact B0
    isplitl [B1] <;> iassumption

end Cert.Wk
end
-- ==== Proof.Launch.lean ====
/-
# The launch

The pipeline's data, the body's obligation, and the run of the whole program on the mesh.
-/
module

public import proofs.«01_k».proof.Proof.Ghost

public import Idealize.ShloMosaic.Lib.Pipeline.CollectiveSegs

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from, and what it ends with. -/
def start (c : Dev nD) : sProp 𝕄 := iprop(∃ K, know m K ∗ Ress c ∗ Meet c ∗ Spare c)
def Φ₀ (c : Dev nD) : sProp 𝕄 := iprop(start m c ∗ Pipeline.scopedRest cfg0.spec c)
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xG m c
    | ⟨1, _⟩ => wqG m c
    | ⟨2, _⟩ => kG m c
    | ⟨3, _⟩ => vG m c
    | ⟨4, _⟩ => woG m c
    | ⟨5, _⟩ => OUT m c
  Φ t := match t with
    | ⟨0, _⟩ => Φ₀ m c
    | ⟨_ + 1, _⟩ => Φ₁ c
  q _ := fullShare
  owed t := match t with
    | ⟨0, _⟩ => owe c 0
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_all (c : Dev nD) (b : Ref sig .tc) (X Y : b.ty.Contents (Elt F)) (h : X = Y) :
    (stg c b X : sProp 𝕄) ⊢ iprop(∃ f : Buf (Elt F) (((c : Dev nD) : Thread nD τ).loc b), ⌜∀ i, True → f i = Y i⌝ ∗ (((c : Thread nD τ).loc b) ↦{fullShare} f)) := by
  subst h
  iintro ⟨%f, %hf, H⟩
  iexists f
  isplitr
  · ipureintro; intro i _; rw [hf]
  · iexact H
theorem all_stg (c : Dev nD) (b : Ref sig .tc) (X : b.ty.Contents (Elt F)) :
    (iprop(∃ f : Buf (Elt F) (((c : Dev nD) : Thread nD τ).loc b), ⌜∀ i, True → f i = X i⌝ ∗ (((c : Thread nD τ).loc b) ↦{fullShare} f)) : sProp 𝕄) ⊢ stg c b X := by
  iintro ⟨%f, %hf, H⟩
  iexists f
  isplitr
  · ipureintro; exact funext fun i => hf i trivial
  · iexact H
theorem pts_none (c : Dev nD) (b : Ref sig .tc) (X : b.ty.Contents (Elt F)) (f : Buf (Elt F) (((c : Dev nD) : Thread nD τ).loc b)) :
    ((((c : Thread nD τ).loc b) ↦{fullShare} f) : sProp 𝕄)
      ⊢ iprop(∃ f : Buf (Elt F) (((c : Dev nD) : Thread nD τ).loc b), ⌜∀ i, False → f i = X i⌝ ∗ (((c : Thread nD τ).loc b) ↦{fullShare} f)) := by
  iintro H
  iexists f
  isplitr
  · ipureintro; exact fun _ h => h.elim
  · iexact H
theorem held_any (c : Dev nD) (b : Ref sig .tc) (X : b.ty.Contents (Elt F)) (Pr : Idx (((c : Dev nD) : Thread nD τ).loc b) → Prop) :
    (iprop(∃ f : Buf (Elt F) (((c : Dev nD) : Thread nD τ).loc b), ⌜∀ i, Pr i → f i = X i⌝ ∗ (((c : Thread nD τ).loc b) ↦{fullShare} f)) : sProp 𝕄)
      ⊢ iprop(∃ f : Buf (Elt F) (((c : Dev nD) : Thread nD τ).loc b), ((c : Thread nD τ).loc b) ↦{fullShare} f) := by
  iintro ⟨%f, -, H⟩
  iexists f; iexact H

theorem duties_spare (c : Dev nD) (k : Fin 37) (hk : k = 26 ∨ k = 32) (r : ℕ) : (sched (F := F) m).duties (kcell (c, k)) r = ∅ := by
  dsimp only [sched]
  split
  · rcases hk with rfl | rfl <;> rfl
  · rfl

/-- Every cell closed at zero. -/
theorem close_all (K : Dev nD × Fin 37 → ℕ) (c : Dev nD) : iprop(know m K ∗ Dones c ∗ atPos ER (barC c) 1 ∅ 0 ∗ Spare c)
    ⊢ |={Set.univ}=> iprop(unscopedSems0 c ∗ Pipeline.ownSems0 (Ix := Unit) (Name := ℕ) (U := UU) (Lvl := ℕ) (Val := Elt F) (τ := τ) osem c : sProp 𝕄) := by
  have hd : (Dones c : sProp 𝕄) = bigSep Finset.univ fun j : Fin 17 => Done j c := by rw [bigSep_fin17]; rfl
  have hcl : iprop(know m K ∗ Dones c) ⊢ (|={Set.univ}=> bigSep Finset.univ fun j : Fin 17 => iprop(semVal (sC j c) 0 ∗ semVal (rC j c) 0) : sProp 𝕄) := by
    rw [hd]
    exact (bigSep_with (R := know m K) (Ψ := fun j : Fin 17 => iprop(|={Set.univ}=> (semVal (sC j c) 0 ∗ semVal (rC j c) 0))) fun j _ => by
      refine (show _ ⊢ (_ : sProp 𝕄) from ?_)
      iintro ⟨HK, HD⟩
      iapply (close_both m K c j) $$ HK HD).trans (bigSep_fupd _ _)
  unfold Spare
  iintro ⟨#HK, HD, HB, H1, H2⟩
  imod hcl $$ [HD] with HZ
  · isplitr; · iexact HK
    iexact HD
  icases (know_cell m K (c, 36) rfl) $$ HK with ⟨#HIb, -⟩
  icases (know_cell m K (c, 26) rfl) $$ HK with ⟨#HI1, -⟩
  icases (know_cell m K (c, 32) rfl) $$ HK with ⟨#HI2, -⟩
  imod (Rounds.cell_close ER (sched m) (Set.mem_univ (K (c, 36))) (fun h => h) (R := 0 + 1) (duties_later m (kcell (c, 36)))) $$ [HB] with HzB
  · isplitr; · iexact HIb
    iexact HB
  imod (Rounds.cell_close ER (sched m) (Set.mem_univ (K (c, 26))) (fun h => h) (R := 0) (fun r _ => duties_spare m c 26 (Or.inl rfl) r)) $$ [H1] with Hz1
  · isplitr; · iexact HI1
    iexact H1
  imod (Rounds.cell_close ER (sched m) (Set.mem_univ (K (c, 32))) (fun h => h) (R := 0) (fun r _ => duties_spare m c 32 (Or.inr rfl) r)) $$ [H2] with Hz2
  · isplitr; · iexact HI2
    iexact H2
  imodintro
  rw [unscopedSems0_eq, ownSems0_def, bigSep_fin36]
  simp only [osem_iS, osem_iR]
  isplitl [HzB]; · iexact HzB
  isplitl [HZ]; · iexact HZ
  isplitl [Hz1]; · iexact Hz1
  iexact Hz2

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (xG m c) ∗ stg c cc0_stg1_0 (wqG m c) ∗ stg c cc0_stg2_0 (kG m c)
    ∗ stg c cc0_stg3_0 (vG m c) ∗ stg c cc0_stg4_0 (woG m c) ∗ stg c cc0_stg5_0 (OUT m c))

theorem before0 (c : Dev nD) (d) : (dats (F := F) m ρ 0 c).before (0 : Fin 6) t₀ d = xG m c := by unfold Dat.before; rw [if_pos (by rfl)]; rfl
theorem before1 (c : Dev nD) (d) : (dats (F := F) m ρ 0 c).before (1 : Fin 6) t₀ d = wqG m c := by unfold Dat.before; rw [if_pos (by rfl)]; rfl
theorem before2 (c : Dev nD) (d) : (dats (F := F) m ρ 0 c).before (2 : Fin 6) t₀ d = kG m c := by unfold Dat.before; rw [if_pos (by rfl)]; rfl
theorem before3 (c : Dev nD) (d) : (dats (F := F) m ρ 0 c).before (3 : Fin 6) t₀ d = vG m c := by unfold Dat.before; rw [if_pos (by rfl)]; rfl
theorem before4 (c : Dev nD) (d) : (dats (F := F) m ρ 0 c).before (4 : Fin 6) t₀ d = woG m c := by unfold Dat.before; rw [if_pos (by rfl)]; rfl

/-- The local memory the launch stages, as the body takes it. -/
theorem before_intro (c : Dev nD) : iprop(Pipeline.scopedRest cfg0.spec c
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d))) ⊢ before m c := by
  rw [scopedRest0_eq]
  unfold before base workIf allOf anyOf held
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩,
    ⟨%d0, G0⟩, ⟨%d1, G1⟩, ⟨%d2, G2⟩, ⟨%d3, G3⟩, ⟨%d4, G4⟩, ⟨%d5, ⟨%g5, -, G5⟩⟩⟩
  isplitl [G0 G2 G3 S3 S4]
  · isplitl [G0]; · iapply (stg_all c cc0_stg0_0 _ (xG m c) (before0 m ρ c d0)) $$ G0
    isplitl [G2]; · iapply (stg_all c cc0_stg2_0 _ (kG m c) (before2 m ρ c d2)) $$ G2
    isplitl [G3]; · iapply (stg_all c cc0_stg3_0 _ (vG m c) (before3 m ρ c d3)) $$ G3
    isplitl [S3]; · iapply (pts_none c cc0_scratch3) $$ S3
    iapply (pts_none c cc0_scratch4) $$ S4
  isplitl [S2 S5 S6 S7 S8]
  · isplitl [S2]; · iapply (pts_none c cc0_scratch2) $$ S2
    isplitl [S5]; · iapply (pts_none c cc0_scratch5) $$ S5
    isplitl [S6]; · iapply (pts_none c cc0_scratch6) $$ S6
    isplitl [S7]; · iapply (pts_none c cc0_scratch7) $$ S7
    iapply (pts_none c cc0_scratch8) $$ S8
  isplitl [S9]; · iapply (pts_none c cc0_scratch9) $$ S9
  isplitl [G1]; · iapply (stg_all c cc0_stg1_0 _ (wqG m c) (before1 m ρ c d1)) $$ G1
  isplitl [G4]; · iapply (stg_all c cc0_stg4_0 _ (woG m c) (before4 m ρ c d4)) $$ G4
  isplitl [S0]; · iapply (pts_none c cc0_scratch0) $$ S0
  isplitl [S1]; · iapply (pts_none c cc0_scratch1) $$ S1
  iapply (pts_none c cc0_stg5_0) $$ G5

/-- What the body leaves of it. -/
theorem afterwards_exit (c : Dev nD) : afterwards m c ⊢ iprop(Pipeline.scopedRest cfg0.spec c
    ∗ stg c cc0_stg0_0 (xG m c) ∗ stg c cc0_stg1_0 (wqG m c) ∗ stg c cc0_stg2_0 (kG m c)
    ∗ stg c cc0_stg3_0 (vG m c) ∗ stg c cc0_stg4_0 (woG m c) ∗ stg c cc0_stg5_0 (OUT m c)) := by
  rw [scopedRest0_eq]
  unfold afterwards base workIf allOf anyOf held
  iintro ⟨⟨G0, G2, G3, S3, S4⟩, ⟨S2, S5, S6, S7, S8⟩, S9, G1, G4, S0, S1, G5⟩
  isplitl [S0 S1 S2 S3 S4 S5 S6 S7 S8 S9]
  · isplitl [S0]; · iapply (held_any c cc0_scratch0) $$ S0
    isplitl [S1]; · iapply (held_any c cc0_scratch1) $$ S1
    isplitl [S2]; · iapply (held_any c cc0_scratch2) $$ S2
    isplitl [S3]; · iapply (held_any c cc0_scratch3) $$ S3
    isplitl [S4]; · iapply (held_any c cc0_scratch4) $$ S4
    isplitl [S5]; · iapply (held_any c cc0_scratch5) $$ S5
    isplitl [S6]; · iapply (held_any c cc0_scratch6) $$ S6
    isplitl [S7]; · iapply (held_any c cc0_scratch7) $$ S7
    isplitl [S8]; · iapply (held_any c cc0_scratch8) $$ S8
    iapply (held_any c cc0_scratch9) $$ S9
  isplitl [G0]; · iapply (all_stg c cc0_stg0_0) $$ G0
  isplitl [G1]; · iapply (all_stg c cc0_stg1_0) $$ G1
  isplitl [G2]; · iapply (all_stg c cc0_stg2_0) $$ G2
  isplitl [G3]; · iapply (all_stg c cc0_stg3_0) $$ G3
  isplitl [G4]; · iapply (all_stg c cc0_stg4_0) $$ G4
  iapply (all_stg c cc0_stg5_0) $$ G5

theorem sound_body (c : Dev nD) : Run c (bodyPre m ρ c) (onA (cc0_body (F := F))) (fun _ => bodyPost m ρ c) := by
  unfold bodyPre Φ₀ start
  refine (show _ ⊢ (_ : sProp 𝕄) from ?_)
  iintro ⟨⟨⟨%K, #HK, HR, HM, HS⟩, Hrest⟩, Ho, G⟩
  unfold Dat.owesAt Pipeline.owesWithin
  icases Ho with ⟨%W, -, HO⟩
  ihave HB := (before_intro m ρ c) $$ [Hrest G]
  · isplitl [Hrest] <;> iassumption
  iapply wp_fupd
  iapply (Run.last (body_run m K c)) $$ [HR HM HO HB]
  · isplitl [HO]
    · unfold St
      isplitr; · iexact HK
      iexists W; iexact HO
    isplitl [HR]; · iexact HR
    isplitl [HM]; · iexact HM
    iexact HB
  iintro %x ⟨HSt, HD, HP, HA⟩
  ihave HSt := (St_open m K c 20) $$ HSt
  icases HSt with ⟨-, ⟨%W', HO⟩⟩
  imod (close_all m K c) $$ [HD HP HS] with ⟨HU, HOwn⟩
  · isplitr; · iexact HK
    isplitl [HD]; · iexact HD
    isplitl [HP] <;> iassumption
  ihave HA := (afterwards_exit m c) $$ HA
  icases HA with ⟨Hrest, HA⟩
  imodintro
  unfold bodyPost Φ₁ Dat.owesAt Pipeline.owesWithin
  isplitl [HU HOwn Hrest]
  · isplitl [HU]; · iexact HU
    isplitl [HOwn] <;> iassumption
  isplitl [HO]
  · iexists W'
    isplitr; · ipureintro; exact fun _ _ => Or.inl trivial
    iexact HO
  iexact HA

theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d 0) c ∗ prngReg c (ρ c) ∗ G' m c)
      ⊢ |={Set.univ}=> iprop(start m c ∗ emp) := by
  have hR : iprop((bigSep Finset.univ fun j : Fin 17 => Hand j c) ∗ bigSep Finset.univ fun j : Fin 17 => cred (tallyAt (rC j c) () (amt j))) ⊢ (Ress c : sProp 𝕄) := by
    rw [← bigSep_sep', show (Ress c : sProp 𝕄) = bigSep Finset.univ fun j : Fin 17 => Res j c from by rw [bigSep_fin17]; rfl]
    refine bigSep_mono fun j _ => ?_
    refine (show _ ⊢ (_ : sProp 𝕄) from ?_)
    unfold Hand Res
    iintro ⟨⟨H1, H2, H3, H4⟩, H5⟩
    isplitl [H1]; · iexact H1
    isplitl [H2]; · iexact H2
    isplitl [H3]; · iexact H3
    isplitl [H4] <;> iassumption
  iintro ⟨-, Hlev, Hcr, -, HG⟩
  ihave Hc := (creds (F := F) c) $$ Hcr
  icases Hc with ⟨HC, HB⟩
  unfold G' linear records start know Meet BarToks
  icases HG with ⟨%K, ⟨HI, Hr⟩, HH, HT, HS, HP⟩
  imodintro
  isplitl
  · iexists K
    isplitl [HI Hr Hlev]
    · isplitl [HI]; · iexact HI
      isplitl [Hr] <;> iassumption
    isplitl [HH HC]
    · iapply hR
      isplitl [HH] <;> iassumption
    isplitr [HS]
    · isplitl [HT]; · iexact HT
      isplitl [HB] <;> iassumption
    iexact HS
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  exact Entails.rfl

theorem waits (c : Dev nD) : (levAts L lv : sProp 𝕄) ⊢ Pipeline.cellsWaits cfgs (dats m ρ) () 0 c :=
  Pipeline.cellsWaits_intro cfgs (dats m ρ) () 0 c fun w s t => by
    have hl : ∀ (w : Fin cfg0.W) (s : Fin (cfg0.win w).nbuf), lvS (.dma ((cfg0.win w).sem s)) ≤ 0 := by decide
    rcases t with ⟨_ | _, ht⟩
    · exact mayWait_of c _ 0 0 (hl w s) (bills_above c).1
    · exact mayWait_of c _ 20 0 (hl w s) (fun x hx => absurd hx (List.not_mem_nil))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every weakly fair execution
    terminates, every array ends at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => main_chain c)
    (hbody := body_obligation m ρ) (hne := block_pos0) (harr := arr_whole0) (hstage := stage_whole0) (hshare := share_eq m ρ)
    (hdistinct := winFacts0.arr_inj)
    (O₀ := fun d => owe d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Wk
end
-- ==== Proof.Ends.lean ====
/-
# The arrays after the run

Each window is its whole array, so what is staged is the array and what is written back is the result.
-/
module

public import proofs.«01_k».proof.Proof.Launch

public import Idealize.ShloMosaic.Lib.Pipeline.Value

@[expose] public section

noncomputable section

namespace Cert.Wk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem emb0 (i : S2x128x512.Idx) (a : Fin 3) : ((win0_0.blk (0 : Fin 1)).view.emb i a).val = (i a).val := by
  match a with
  | ⟨0, _⟩ => show 0 * 2 + 1 * (i 0).val = (i 0).val; omega
  | ⟨1, _⟩ => show 0 * 128 + 1 * (i 1).val = (i 1).val; omega
  | ⟨2, _⟩ => show 0 * 512 + 1 * (i 2).val = (i 2).val; omega
theorem xG_eq (c : Dev nD) : xG m c = m ((c : Thread nD τ).loc main_arg0) :=
  funext fun i => congrArg (m ((c : Thread nD τ).loc main_arg0)) (funext fun a => Fin.ext (emb0 i a))

theorem emb1 (i : S512x256.Idx) (a : Fin 2) : ((win0_1.blk (0 : Fin 1)).view.emb i a).val = (i a).val := by
  match a with
  | ⟨0, _⟩ => show 0 * 512 + 1 * (i 0).val = (i 0).val; omega
  | ⟨1, _⟩ => show 0 * 256 + 1 * (i 1).val = (i 1).val; omega
theorem wqG_eq (c : Dev nD) : wqG m c = m ((c : Thread nD τ).loc main_arg1) :=
  funext fun i => congrArg (m ((c : Thread nD τ).loc main_arg1)) (funext fun a => Fin.ext (emb1 i a))

theorem emb2 (i : S2x128x32x64.Idx) (a : Fin 4) : ((win0_2.blk (0 : Fin 1)).view.emb i a).val = (i a).val := by
  match a with
  | ⟨0, _⟩ => show 0 * 2 + 1 * (i 0).val = (i 0).val; omega
  | ⟨1, _⟩ => show 0 * 128 + 1 * (i 1).val = (i 1).val; omega
  | ⟨2, _⟩ => show 0 * 32 + 1 * (i 2).val = (i 2).val; omega
  | ⟨3, _⟩ => show 0 * 64 + 1 * (i 3).val = (i 3).val; omega
theorem kG_eq (c : Dev nD) : kG m c = m ((c : Thread nD τ).loc main_arg2) :=
  funext fun i => congrArg (m ((c : Thread nD τ).loc main_arg2)) (funext fun a => Fin.ext (emb2 i a))

theorem emb3 (i : S2x128x32x64.Idx) (a : Fin 4) : ((win0_3.blk (0 : Fin 1)).view.emb i a).val = (i a).val := by
  match a with
  | ⟨0, _⟩ => show 0 * 2 + 1 * (i 0).val = (i 0).val; omega
  | ⟨1, _⟩ => show 0 * 128 + 1 * (i 1).val = (i 1).val; omega
  | ⟨2, _⟩ => show 0 * 32 + 1 * (i 2).val = (i 2).val; omega
  | ⟨3, _⟩ => show 0 * 64 + 1 * (i 3).val = (i 3).val; omega
theorem vG_eq (c : Dev nD) : vG m c = m ((c : Thread nD τ).loc main_arg3) :=
  funext fun i => congrArg (m ((c : Thread nD τ).loc main_arg3)) (funext fun a => Fin.ext (emb3 i a))

theorem emb4 (i : S256x512.Idx) (a : Fin 2) : ((win0_4.blk (0 : Fin 1)).view.emb i a).val = (i a).val := by
  match a with
  | ⟨0, _⟩ => show 0 * 256 + 1 * (i 0).val = (i 0).val; omega
  | ⟨1, _⟩ => show 0 * 512 + 1 * (i 1).val = (i 1).val; omega
theorem woG_eq (c : Dev nD) : woG m c = m ((c : Thread nD τ).loc main_arg4) :=
  funext fun i => congrArg (m ((c : Thread nD τ).loc main_arg4)) (funext fun a => Fin.ext (emb4 i a))

theorem emb5 (i : S2x128x512.Idx) (a : Fin 3) : ((win0_5.blk (0 : Fin 1)).view.emb i a).val = (i a).val := by
  match a with
  | ⟨0, _⟩ => show 0 * 2 + 1 * (i 0).val = (i 0).val; omega
  | ⟨1, _⟩ => show 0 * 128 + 1 * (i 1).val = (i 1).val; omega
  | ⟨2, _⟩ => show 0 * 512 + 1 * (i 2).val = (i 2).val; omega

theorem finalA_out (c : Dev nD) : finalA m ρ c 5 = OUT m c :=
  (dats m ρ 0 c).arrAt_eq_of_cover 5 (OUT m c) (fun t _ => by
    rw [fin_N t]
    exact funext fun i => congrArg (OUT m c) (funext fun a => Fin.ext (emb5 i a).symm))
    (fun i => ⟨t₀, by rfl, (show (win0_5.blk (0 : Fin 1)).view.emb i = i from funext fun a => Fin.ext (emb5 i a)) ▸ Finset.mem_map_of_mem _ (Finset.mem_univ i)⟩)

/-- The run's end at one device: the result, and the arguments as they were. -/
theorem QC_out {r : PUnit × MemSt nD τ sig (Elt F)} (h : QC m ρ r) (c : Dev nD) :
    r.2.mem ((c : Thread nD τ).loc main_v1) = OUT m c := (h c 5).trans (finalA_out m ρ c)
theorem QC_arg0 {r : PUnit × MemSt nD τ sig (Elt F)} (h : QC m ρ r) (c : Dev nD) :
    r.2.mem ((c : Thread nD τ).loc main_arg0) = m ((c : Thread nD τ).loc main_arg0) := (h c 0).trans ((dats m ρ 0 c).arrAt_in 0 rfl _)
theorem QC_arg1 {r : PUnit × MemSt nD τ sig (Elt F)} (h : QC m ρ r) (c : Dev nD) :
    r.2.mem ((c : Thread nD τ).loc main_arg1) = m ((c : Thread nD τ).loc main_arg1) := (h c 1).trans ((dats m ρ 0 c).arrAt_in 1 rfl _)
theorem QC_arg2 {r : PUnit × MemSt nD τ sig (Elt F)} (h : QC m ρ r) (c : Dev nD) :
    r.2.mem ((c : Thread nD τ).loc main_arg2) = m ((c : Thread nD τ).loc main_arg2) := (h c 2).trans ((dats m ρ 0 c).arrAt_in 2 rfl _)
theorem QC_arg3 {r : PUnit × MemSt nD τ sig (Elt F)} (h : QC m ρ r) (c : Dev nD) :
    r.2.mem ((c : Thread nD τ).loc main_arg3) = m ((c : Thread nD τ).loc main_arg3) := (h c 3).trans ((dats m ρ 0 c).arrAt_in 3 rfl _)
theorem QC_arg4 {r : PUnit × MemSt nD τ sig (Elt F)} (h : QC m ρ r) (c : Dev nD) :
    r.2.mem ((c : Thread nD τ).loc main_arg4) = m ((c : Thread nD τ).loc main_arg4) := (h c 4).trans ((dats m ρ 0 c).arrAt_in 4 rfl _)

/-- The run with what the frame asks of it: the arguments as they were, every counter at zero. -/
theorem frame : θ_run Cert.KernelIdeal.defs (onTc (τ := τ) (Cert.KernelIdeal.main (F := F))) ⟨m, fun _ => 0, ρ⟩ (fun r =>
    (∀ c : Dev nD, r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4)) ∧ r.2.sem = fun _ => 0) :=
  (θ_run Cert.KernelIdeal.defs _ _).mono (fun r h => ⟨fun c => ⟨QC_arg0 m ρ h.1 c, QC_arg1 m ρ h.1 c, QC_arg2 m ρ h.1 c,
    QC_arg3 m ρ h.1 c, QC_arg4 m ρ h.1 c⟩, h.2⟩) (run_main m ρ)

end Cert.Wk
end
-- ==== Proof.Soft.lean ====
/-
# The attention of one row

A query row takes 64 scores against the keys of its block, the soft maximum of them, and the values so weighted. Each of the three
attention payloads, read at an index over the idealized numbers, is this row.
-/
module

public import proofs.«01_k».proof.Proof.Attend
public import Idealize.ShloMosaic.Lib.Pointwise

@[expose] public section

noncomputable section

namespace Cert.Wk

open Cert.KernelIdeal Cert.KernelIdeal.Gen
open Idealize.ShloMosaic Idealize.ShloMosaic.TcCoe
open Finset

/-- The score of a query row against key `j`. -/
def sc (q : Fin 64 → EReal) (k : Fin 64 → Fin 64 → EReal) (j : Fin 64) : EReal :=
  (∑ x, q x * k j x) * Ideal.ofBits .f32 0x3E000000#32

/-- The largest of 64 scores. -/
def top (s : Fin 64 → EReal) : EReal := univ.fold max (Ideal.ofBits .f32 0xFF800000#32) s

/-- The weight of entry `j` among 64 scores. -/
def wt (s : Fin 64 → EReal) (j : Fin 64) : EReal :=
  Ideal.div (Ideal.exp (s j - top s)) (∑ x, Ideal.exp (s x - top s))

/-- One entry of the attention of one row. -/
def attS (q : Fin 64 → EReal) (k : Fin 64 → Fin 64 → EReal) (v : Fin 64 → EReal) : EReal :=
  ∑ j, wt (sc q k) j * v j

/-- The key of row `r`'s block numbered `j`. -/
def blk (r : Fin 128) (j : Fin 64) : Fin 128 := ⟨r.val / 64 * 64 + j.val, by omega⟩

theorem att1_at (q k v : Vec Ideal (shS 32) .bf16) (n : Fin 32) (r : Fin 128) (d : Fin 64) :
    att1 (F := Ideal) q k v (ix3 n r d)
      = attS (fun x => q (ix3 n r x)) (fun j x => k (ix3 n (blk r j) x)) (fun j => v (ix3 n (blk r j) d)) := by
  have e1 : (n.val * 2 + r.val / 64) % 2 * 64 = r.val / 64 * 64 := by omega
  have e2 : (n.val * 2 + r.val / 64) / 2 = n.val := by omega
  have e3 : r.val / 64 * 64 + r.val % 64 = r.val := by omega
  pointwise [att1, k0_pay185]
  simp only [e1, e2, e3, Fin.eta]
  rfl

theorem att2_at (q k v : Vec Ideal (shS 24) .bf16) (n : Fin 24) (r : Fin 128) (d : Fin 64) :
    att2 (F := Ideal) q k v (ix3 n r d)
      = attS (fun x => q (ix3 n r x)) (fun j x => k (ix3 n (blk r j) x)) (fun j => v (ix3 n (blk r j) d)) := by
  have e1 : (n.val * 2 + r.val / 64) % 2 * 64 = r.val / 64 * 64 := by omega
  have e2 : (n.val * 2 + r.val / 64) / 2 = n.val := by omega
  have e3 : r.val / 64 * 64 + r.val % 64 = r.val := by omega
  pointwise [att2, k0_pay245, k0_pay246, k0_pay247]
  simp only [e1, e2, e3, Fin.eta]
  rfl

theorem att3_at (q k v : Vec Ideal (shS 8) .bf16) (n : Fin 8) (r : Fin 128) (d : Fin 64) :
    att3 (F := Ideal) q k v (ix3 n r d)
      = attS (fun x => q (ix3 n r x)) (fun j x => k (ix3 n (blk r j) x)) (fun j => v (ix3 n (blk r j) d)) := by
  have e1 : (n.val * 2 + r.val / 64) % 2 * 64 = r.val / 64 * 64 := by omega
  have e2 : (n.val * 2 + r.val / 64) / 2 = n.val := by omega
  have e3 : r.val / 64 * 64 + r.val % 64 = r.val := by omega
  pointwise [att3, k0_pay284]
  simp only [e1, e2, e3, Fin.eta]
  rfl

end Cert.Wk

end
-- ==== Proof.Reads.lean ====
/-
# The payloads at an index

Each payload of the kernel other than the attention, read at an index over the idealized numbers.
-/
module

public import proofs.«01_k».proof.Proof.Soft

@[expose] public section

noncomputable section

namespace Cert.Wk

open Cert.KernelIdeal Cert.KernelIdeal.Gen
open Idealize.ShloMosaic Idealize.ShloMosaic.TcCoe
open Finset

/-- The row of the flattened batch. -/
def flat (b : Fin 2) (r : Fin 128) : Fin 256 := ⟨b.val * 128 + r.val, by omega⟩

theorem proj1_at (X : Vec Ideal S256x512 .bf16) (W : Vec Ideal S512x1024 .bf16) (b : Fin 2) (r : Fin 128) (h : Fin 16) (x : Fin 64) :
    k0_pay149 (F := Ideal) X W (ix4 b r h x) = ∑ kk : Fin 512, X (ix2 (flat b r) kk) * W (ix2 kk ⟨h.val * 64 + x.val, by omega⟩) := by
  pointwise [k0_pay149]
  rfl

theorem proj2_at (X : Vec Ideal S256x512 .bf16) (W : Vec Ideal S512x768 .bf16) (b : Fin 2) (r : Fin 128) (h : Fin 12) (x : Fin 64) :
    k0_pay218 (F := Ideal) X W (ix4 b r h x) = ∑ kk : Fin 512, X (ix2 (flat b r) kk) * W (ix2 kk ⟨h.val * 64 + x.val, by omega⟩) := by
  pointwise [k0_pay218]
  rfl

theorem proj3_at (X : Vec Ideal S256x512 .bf16) (W : Vec Ideal S512x256 .bf16) (b : Fin 2) (r : Fin 128) (h : Fin 4) (x : Fin 64) :
    k0_pay274 (F := Ideal) X W (ix4 b r h x) = ∑ kk : Fin 512, X (ix2 (flat b r) kk) * W (ix2 kk ⟨h.val * 64 + x.val, by omega⟩) := by
  pointwise [k0_pay274]
  rfl

theorem cPay_at {nt : ℕ} (hsl : SlC nt) (v : FVec Ideal (shS nt) .f32) (n : Fin nt) (r : Fin 128) (d : Fin 64) :
    cPay hsl v n (ix2 r d) = v (ix3 n r d) := by
  pointwise [cPay]
  refine congrArg v (funext fun a => ?_)
  match a with
  | ⟨0, _⟩ => rfl
  | ⟨1, _⟩ => exact Fin.ext (Nat.zero_add _)
  | ⟨2, _⟩ => exact Fin.ext (Nat.zero_add _)

theorem qPay_at {nt nh : ℕ} (hsl : SlQ nt nh) (q : FVec Ideal (shQ nh) .bf16) (n : Fin nt) (r : Fin 128) (d : Fin 64)
    (hh : 4 * (n.val / 8) + n.val % 4 < nh) :
    qPay hsl q n (ix3 0 r d) = q (ix4 ⟨n.val % 8 / 4, by omega⟩ r ⟨4 * (n.val / 8) + n.val % 4, hh⟩ d) := by
  pointwise [qPay]
  refine congrArg q (funext fun a => ?_)
  match a with
  | ⟨0, _⟩ => rfl
  | ⟨1, _⟩ => exact Fin.ext (Nat.zero_add _)
  | ⟨2, _⟩ => rfl
  | ⟨3, _⟩ => exact Fin.ext (Nat.zero_add _)

theorem heads_at (S : Vec Ideal S1x8x128x64 .bf16) (h : Fin 8) (r : Fin 128) (d : Fin 64) :
    k0_pay134 (F := Ideal) S (ix3 h r d) = S (ix4 0 h r d) := by
  pointwise [k0_pay134]

theorem head_at (S : Vec Ideal S1x128x1x64 .f32) (r : Fin 128) (d : Fin 64) :
    k0_pay6 (F := Ideal) S (ix4 0 0 r d) = S (ix4 0 r 0 d) := by
  pointwise [k0_pay6]

theorem rows_at (S : Vec Ideal S2x128x512 .f32) (b : Fin 2) (r : Fin 128) (k : Fin 512) :
    k0_pay5 (F := Ideal) S (ix2 (flat b r) k) = S (ix3 b r k) := by
  have e1 : (flat b r).val / 128 = b.val := by unfold flat; dsimp only; omega
  have e2 : (flat b r).val % 128 = r.val := by unfold flat; dsimp only; omega
  pointwise [k0_pay5]
  simp only [e1, e2]

theorem wq_at (S : Vec Ideal S512x256 .f32) (i : Fin 512) (k : Fin 256) :
    k0_pay293 (F := Ideal) S (ix2 i k) = S (ix2 i k) := by
  pointwise [k0_pay293]

theorem wo_at (S : Vec Ideal S256x512 .f32) (i : Fin 256) (k : Fin 512) :
    k0_pay294 (F := Ideal) S (ix2 i k) = S (ix2 i k) := by
  pointwise [k0_pay294]

theorem out1_at (C : Vec Ideal S256x1024 .bf16) (W : Vec Ideal S1024x512 .bf16) (i : Fin 256) (n : Fin 512) :
    k0_pay301 (F := Ideal) C W (ix2 i n) = ∑ k : Fin 1024, C (ix2 i k) * W (ix2 k n) := by
  pointwise [k0_pay301]

theorem out2_at (C : Vec Ideal S256x1024 .bf16) (W : Vec Ideal S768x512 .bf16) (A : Vec Ideal S256x512 .f32) (i : Fin 256) (n : Fin 512) :
    k0_pay302 (F := Ideal) C W A (ix2 i n) = A (ix2 i n) + ∑ k : Fin 768, C (ix2 i ⟨k.val, by omega⟩) * W (ix2 k n) := by
  pointwise [k0_pay302]

theorem out3_at (C : Vec Ideal S256x1024 .bf16) (W : Vec Ideal S256x512 .bf16) (A : Vec Ideal S256x512 .f32) (i : Fin 256) (n : Fin 512) :
    k0_pay2 (F := Ideal) C W A (ix2 i n) = A (ix2 i n) + ∑ k : Fin 256, C (ix2 i ⟨k.val, by omega⟩) * W (ix2 k n) := by
  pointwise [k0_pay2]

theorem res_at (A : Vec Ideal S256x512 .f32) (b : Fin 2) (r : Fin 128) (n : Fin 512) :
    k0_pay3 (F := Ideal) A (ix3 b r n) = A (ix2 (flat b r) n) := by
  pointwise [k0_pay3]
  rfl

theorem zero_at (b : Fin 2) (r : Fin 128) (n : Fin 512) : k0_pay4 (F := Ideal) (ix3 b r n) = 0 := by
  pointwise [k0_pay4]

end Cert.Wk

end
-- ==== Proof.Values.lean ====
/-
# A part at an index

A part's result at a row and a column is the attention of that row against the keys and values of the column's head.
-/
module

public import proofs.«01_k».proof.Proof.Reads

@[expose] public section

noncomputable section

namespace Cert.Wk

open Cert.KernelIdeal Cert.KernelIdeal.Gen
open Idealize.ShloMosaic Idealize.ShloMosaic.TcCoe
open Finset

/-- Row `i` of the flattened batch within its batch. -/
def row (i : Fin 256) : Fin 128 := ⟨i.val % 128, by omega⟩
/-- The batch of row `i`. -/
def bat (i : Fin 256) : Fin 2 := ⟨i.val / 128, by omega⟩
/-- The place, in slot order, of the head and batch that column `K` of row `i` belongs to. -/
def place (i : Fin 256) (K : Fin 2048) : Fin 64 := ⟨K.val / 256 * 8 + i.val / 128 * 4 + K.val % 256 / 64, by omega⟩
/-- Column `x` of the head of column `K`. -/
def headCol (K : Fin 2048) (x : Fin 64) : Fin 2048 := ⟨K.val / 64 * 64 + x.val, by omega⟩
/-- Column `K` within its head. -/
def within (K : Fin 2048) : Fin 64 := ⟨K.val % 64, by omega⟩

/-- The attended values at a row and a column of the gathered heads. -/
def ctx (X : S256x512.Idx → EReal) (W : S512x2048.Idx → EReal) (KO VO : S64x128x64.Idx → EReal) (i : Fin 256) (K : Fin 2048) : EReal :=
  attS (fun x => ∑ k : Fin 512, X (ix2 i k) * W (ix2 k (headCol K x))) (fun j x => KO (ix3 (place i K) (blk (row i) j) x))
    (fun j => VO (ix3 (place i K) (blk (row i) j) (within K)))

theorem flat_eq (i : Fin 256) : flat (bat i) (row i) = i := Fin.ext (by unfold flat bat row; dsimp only; omega)

section
variable {nc nt nh : ℕ} [NeZero nt] (hslQ : SlQ nt nh) (hslC : SlC nt) (i0 c0 : ℕ)
  (hw : ∀ a, (![0, c0] : Fin 2 → ℕ) a + (⟨2, ![512, nc]⟩ : Shape).size a ≤ S512x2048.size a)
  (hi : ∀ a, (![i0, 0, 0] : Fin 3 → ℕ) a + (shS nt).size a ≤ S64x128x64.size a)

theorem colsOf_at (W : S512x2048.Idx → EReal) (k : Fin 512) (j : Fin nc) (h : c0 + j.val < 2048) :
    colsOf (F := Ideal) nc c0 hw W (ix2 k j) = W (ix2 k ⟨c0 + j.val, h⟩) := by
  refine congrArg W (funext fun a => ?_)
  match a with
  | ⟨0, _⟩ => exact Fin.ext (show 0 + 1 * k.val = k.val by omega)
  | ⟨1, _⟩ => exact Fin.ext (show c0 + 1 * j.val = c0 + j.val by omega)

theorem slabOf_at (G : S64x128x64.Idx → EReal) (n : Fin nt) (r : Fin 128) (d : Fin 64) (h : i0 + n.val < 64) :
    slabOf (F := Ideal) nt i0 hi G (ix3 n r d) = G (ix3 ⟨i0 + n.val, h⟩ r d) := by
  refine congrArg G (funext fun a => ?_)
  match a with
  | ⟨0, _⟩ => exact Fin.ext (show i0 + 1 * n.val = i0 + n.val by omega)
  | ⟨1, _⟩ => exact Fin.ext (show 0 + 1 * r.val = r.val by omega)
  | ⟨2, _⟩ => exact Fin.ext (show 0 + 1 * d.val = d.val by omega)

theorem rowsOf_at (hr : ∀ a, (![c0, 0] : Fin 2 → ℕ) a + (⟨2, ![nc, 512]⟩ : Shape).size a ≤ S2048x512.size a) (W : S2048x512.Idx → EReal)
    (j : Fin nc) (k : Fin 512) (h : c0 + j.val < 2048) : rowsOf (F := Ideal) nc c0 hr W (ix2 j k) = W (ix2 ⟨c0 + j.val, h⟩ k) := by
  refine congrArg W (funext fun a => ?_)
  match a with
  | ⟨0, _⟩ => exact Fin.ext (show c0 + 1 * j.val = c0 + j.val by omega)
  | ⟨1, _⟩ => exact Fin.ext (show 0 + 1 * k.val = k.val by omega)

variable (proj : Vec Ideal S256x512 .bf16 → Vec Ideal ⟨2, ![512, nc]⟩ .bf16 → FVec Ideal (shQ nh) .bf16)
  (att : Vec Ideal (shS nt) .bf16 → Vec Ideal (shS nt) .bf16 → Vec Ideal (shS nt) .bf16 → FVec Ideal (shS nt) .f32)

/-- A part of `s` slots from slot `s0`, at a row and a column of it. -/
theorem part_at (s s0 : ℕ) (es : s0 + s ≤ 8) (ec : nc = 256 * s) (et : nt = 8 * s) (eh : nh = 4 * s) (e0 : c0 = 256 * s0) (ei : i0 = 8 * s0)
    (hatt : ∀ q k v (n : Fin nt) (r : Fin 128) (d : Fin 64), att q k v (ix3 n r d)
      = attS (fun x => q (ix3 n r x)) (fun j x => k (ix3 n (blk r j) x)) (fun j => v (ix3 n (blk r j) d)))
    (hproj : ∀ X W (b : Fin 2) (r : Fin 128) (h : Fin nh) (x : Fin 64), proj X W (ix4 b r h x)
      = ∑ k : Fin 512, X (ix2 (flat b r) k) * W (ix2 k ⟨h.val * 64 + x.val, by omega⟩))
    (X : S256x512.Idx → EReal) (W : S512x2048.Idx → EReal) (KO VO : S64x128x64.Idx → EReal) (i : Fin 256) (k : Fin 1024) (hk : k.val < nc) :
    GC (F := Ideal) hslC (attOf (F := Ideal) hslQ i0 c0 hw hi proj att X W KO VO) (ix2 i k) = ctx X W KO VO i ⟨c0 + k.val, by omega⟩ := by
  have hn : k.val / 256 * 8 + i.val / 128 * 4 + k.val % 256 / 64 < nt := by omega
  have eN : Fin.ofNat nt (numC (ix2 i k)) = (⟨_, hn⟩ : Fin nt) := Fin.ext (Nat.mod_eq_of_lt hn)
  have eL : locC (ix2 i k) = ix2 (row i) (⟨k.val % 64, by omega⟩ : Fin 64) := by
    funext a
    match a with
    | ⟨0, _⟩ => rfl
    | ⟨1, _⟩ => rfl
  unfold GC
  rw [eN, eL, cPay_at]
  unfold attOf
  rw [hatt]
  have eP : (⟨i0 + (k.val / 256 * 8 + i.val / 128 * 4 + k.val % 256 / 64), by omega⟩ : Fin 64) = place i ⟨c0 + k.val, by omega⟩ :=
    Fin.ext (by unfold place; dsimp only; omega)
  have eW : (⟨k.val % 64, by omega⟩ : Fin 64) = within ⟨c0 + k.val, by omega⟩ := Fin.ext (by unfold within; dsimp only; omega)
  have hh : 4 * ((k.val / 256 * 8 + i.val / 128 * 4 + k.val % 256 / 64) / 8) + (k.val / 256 * 8 + i.val / 128 * 4 + k.val % 256 / 64) % 4 < nh := by omega
  have eQ : ∀ x : Fin 64, slabOf (F := Ideal) nt i0 hi (GQ (F := Ideal) hslQ i0 (proj X (colsOf nc c0 hw W))) (ix3 ⟨_, hn⟩ (row i) x)
      = ∑ kk : Fin 512, X (ix2 i kk) * W (ix2 kk (headCol ⟨c0 + k.val, by omega⟩ x)) := by
    intro x
    rw [slabOf_at i0 hi _ _ _ _ (show i0 + (k.val / 256 * 8 + i.val / 128 * 4 + k.val % 256 / 64) < 64 by omega)]
    have e1 : Fin.ofNat nt (i0 + (k.val / 256 * 8 + i.val / 128 * 4 + k.val % 256 / 64) - i0) = (⟨_, hn⟩ : Fin nt) :=
      Fin.ext ((Nat.mod_eq_of_lt (by omega)).trans (Nat.add_sub_cancel_left ..))
    have e2 : locQ (ix3 (⟨i0 + (k.val / 256 * 8 + i.val / 128 * 4 + k.val % 256 / 64), by omega⟩ : Fin 64) (row i) x) = ix3 (0 : Fin 1) (row i) x := by
      funext a
      match a with
      | ⟨0, _⟩ => rfl
      | ⟨1, _⟩ => rfl
      | ⟨2, _⟩ => rfl
    show qPay hslQ (proj X (colsOf nc c0 hw W)) (Fin.ofNat nt (i0 + (k.val / 256 * 8 + i.val / 128 * 4 + k.val % 256 / 64) - i0)) (locQ _) = _
    rw [e1, e2, qPay_at hslQ _ ⟨_, hn⟩ (row i) x hh, hproj]
    refine sum_congr rfl fun kk _ => ?_
    rw [colsOf_at c0 hw W kk _ (by dsimp only; omega)]
    have e3 : (⟨(k.val / 256 * 8 + i.val / 128 * 4 + k.val % 256 / 64) % 8 / 4, by omega⟩ : Fin 2) = bat i := Fin.ext (by unfold bat; dsimp only; omega)
    have e4 : (⟨c0 + ((4 * ((k.val / 256 * 8 + i.val / 128 * 4 + k.val % 256 / 64) / 8) + (k.val / 256 * 8 + i.val / 128 * 4 + k.val % 256 / 64) % 4) * 64 + x.val), by omega⟩ : Fin 2048)
        = headCol ⟨c0 + k.val, by omega⟩ x := Fin.ext (by unfold headCol; dsimp only; omega)
    dsimp only
    rw [e3, e4, flat_eq]
  have eS : ∀ (G : S64x128x64.Idx → EReal) (r : Fin 128) (d : Fin 64), slabOf (F := Ideal) nt i0 hi G (ix3 ⟨_, hn⟩ r d)
      = G (ix3 (place i ⟨c0 + k.val, by omega⟩) r d) := by
    intro G r d
    rw [slabOf_at i0 hi _ ⟨_, hn⟩ _ _ (show i0 + (k.val / 256 * 8 + i.val / 128 * 4 + k.val % 256 / 64) < 64 by omega), ← eP]
  simp only [eQ, eS, eW]
  rfl

end

/-- A sum over the gathered columns, part by part. -/
theorem sum_parts (f : Fin 2048 → EReal) :
    ∑ K, f K = ((∑ k : Fin 1024, f ⟨k.val, by omega⟩) + ∑ k : Fin 768, f ⟨1024 + k.val, by omega⟩) + ∑ k : Fin 256, f ⟨1792 + k.val, by omega⟩ := by
  have h1 := Fin.sum_univ_add (a := 1792) (b := 256) (f : Fin (1792 + 256) → EReal)
  have h2 := Fin.sum_univ_add (a := 1024) (b := 768) (fun k : Fin (1024 + 768) => f ⟨k.val, by omega⟩)
  exact h1.trans (congrArg (· + _) h2)

variable (m : (ℓ : Loc nD τ sig) → Buf (Elt Ideal) ℓ)

/-- The attended values of device `c`. -/
def ctxD (c : Dev nD) (i : Fin 256) (K : Fin 2048) : EReal :=
  ctx (XB (F := Ideal) (xG m c)) (WQ (F := Ideal) m c) (OM (F := Ideal) c (kG m c)) (OM (F := Ideal) c (vG m c)) i K

/-- What device `c` accumulates. -/
theorem acc_at (c : Dev nD) (i : Fin 256) (n : Fin 512) : AC3 (F := Ideal) m c (ix2 i n) = ∑ K : Fin 2048, ctxD m c i K * WO (F := Ideal) m c (ix2 K n) := by
  rw [sum_parts]
  unfold AC3
  rw [out3_at]
  unfold AC2
  rw [out2_at]
  unfold AC1
  rw [out1_at]
  congr 1
  · congr 1
    · refine sum_congr rfl fun k _ => ?_
      rw [rowsOf_at 0 _ _ k n (by omega)]
      unfold CT1
      rw [part_at slQ32 slC32 0 0 _ _ _ _ 4 0 (by decide) rfl rfl rfl rfl rfl att1_at proj1_at _ _ _ _ i k (by omega)]
      simp only [Nat.zero_add]
      rfl
    · refine sum_congr rfl fun k _ => ?_
      rw [rowsOf_at 1024 _ _ k n (by omega)]
      unfold CT2
      rw [part_at slQ24 slC24 32 1024 _ _ _ _ 3 4 (by decide) rfl rfl rfl rfl rfl att2_at proj2_at _ _ _ _ i ⟨k.val, by omega⟩ (by dsimp only; omega)]
      rfl
  · refine sum_congr rfl fun k _ => ?_
    rw [rowsOf_at 1792 _ _ k n (by omega)]
    unfold CT3
    rw [part_at slQ8 slC8 56 1792 _ _ _ _ 1 7 (by decide) rfl rfl rfl rfl rfl att3_at proj3_at _ _ _ _ i ⟨k.val, by omega⟩ (by dsimp only; omega)]
    rfl

end Cert.Wk

end
-- ==== Proof.Gather.lean ====
/-
# The gathered columns in the order of the whole arrays

Device `c` keeps the columns of device `px (slotX s) c` in slot `s`. Its columns are then all the columns of the whole arrays, reordered,
so what it accumulates is one sum over the columns of the whole arrays.
-/
module

public import proofs.«01_k».proof.Proof.Values
public import Idealize.ShloMosaic.Lib.Layout

@[expose] public section

noncomputable section

namespace Cert.Wk

open Cert.KernelIdeal Cert.KernelIdeal.Gen
open Idealize.ShloMosaic Idealize.ShloMosaic.TcCoe
open Finset

/-- The shapes of the whole arrays. -/
abbrev gX : Shape := ⟨3, ![2, 1024, 512]⟩
abbrev gQ : Shape := ⟨2, ![512, 2048]⟩
abbrev gK : Shape := ⟨4, ![2, 128, 32, 64]⟩
abbrev gO : Shape := ⟨2, ![2048, 512]⟩

/-- The head of column `K`. -/
def headNo (K : Fin 2048) : Fin 32 := ⟨K.val / 64, by omega⟩

/-- The attended values of the whole arrays at row `R`, which is row `r` of its device, and column `K`. -/
def gctx (x : gX.Idx → EReal) (wq : gQ.Idx → EReal) (k v : gK.Idx → EReal) (b : Fin 2) (R : Fin 1024) (r : Fin 128) (K : Fin 2048) : EReal :=
  attS (fun y => ∑ z : Fin 512, x (ix3 b R z) * wq (ix2 z (headCol K y))) (fun j y => k (ix4 b (blk r j) (headNo K) y))
    (fun j => v (ix4 b (blk r j) (headNo K) (within K)))

/-- The device whose columns lie where column `K` does. -/
def ownDev (c : Dev nD) (K : Fin 2048) : Dev nD := px (slotX ⟨K.val / 256, by omega⟩) c
theorem ownDev_lt (c : Dev nD) (K : Fin 2048) : (ownDev c K).val < 8 := (ownDev c K).isLt
/-- The column of the whole array that device `c` keeps at column `K`. -/
def gcol (c : Dev nD) (K : Fin 2048) : Fin 2048 := ⟨(ownDev c K).val * 256 + K.val % 256, by have := ownDev_lt c K; omega⟩
/-- The row of the whole array that is row `r` of device `c`. -/
def grow (c : Dev nD) (r : Fin 128) : Fin 1024 := ⟨c.val * 128 + r.val, by have : c.val < 8 := c.isLt; omega⟩

theorem px_slot_inj (c : Dev nD) (s t : Fin 8) : (px (slotX s) c).val = (px (slotX t) c).val → s = t := by revert c s t; decide

theorem gcol_inj (c : Dev nD) : Function.Injective (gcol c) := by
  intro K L h
  have e := congrArg Fin.val h
  have e' : (ownDev c K).val * 256 + K.val % 256 = (ownDev c L).val * 256 + L.val % 256 := e
  have e1 : (ownDev c K).val = (ownDev c L).val := by omega
  have e2 := congrArg Fin.val (px_slot_inj c _ _ e1)
  have e3 : K.val / 256 = L.val / 256 := e2
  exact Fin.ext (by omega)

theorem sum_gcol (c : Dev nD) (f : Fin 2048 → EReal) : ∑ K, f (gcol c K) = ∑ K, f K :=
  (Finite.injective_iff_bijective.mp (gcol_inj c)).sum_comp f

theorem ownDev_headCol (c : Dev nD) (K : Fin 2048) (y : Fin 64) : ownDev c (headCol K y) = ownDev c K := by
  have e : (⟨(headCol K y).val / 256, by omega⟩ : Fin 8) = ⟨K.val / 256, by omega⟩ := Fin.ext (by unfold headCol; dsimp only; omega)
  unfold ownDev
  rw [e]

theorem gcol_headCol (c : Dev nD) (K : Fin 2048) (y : Fin 64) : gcol c (headCol K y) = headCol (gcol c K) y := by
  have e := congrArg Fin.val (ownDev_headCol c K y)
  apply Fin.ext
  show (ownDev c (headCol K y)).val * 256 + (K.val / 64 * 64 + y.val) % 256 = ((ownDev c K).val * 256 + K.val % 256) / 64 * 64 + y.val
  omega

theorem within_gcol (c : Dev nD) (K : Fin 2048) : within (gcol c K) = within K := by
  apply Fin.ext
  show ((ownDev c K).val * 256 + K.val % 256) % 64 = K.val % 64
  omega

/-! ## The operands of a device -/

theorem heads_read (c : Dev nD) (S : gK.Idx → EReal) (i : Fin 256) (K : Fin 2048) (r : Fin 128) (d : Fin 64) :
    OM (F := Ideal) c S (ix3 (place i K) r d) = S (ix4 (bat i) r (headNo (gcol c K)) d) := by
  have eO : locO (ix3 (place i K) r d) = ix3 (⟨(place i K).val % 8, by omega⟩ : Fin 8) r d := by
    funext a
    match a with
    | ⟨0, _⟩ => rfl
    | ⟨1, _⟩ => rfl
    | ⟨2, _⟩ => rfl
  have eS : slotOf (ix3 (place i K) r d) = (⟨K.val / 256, by omega⟩ : Fin 8) := Fin.ext (by unfold slotOf place; dsimp only; show (K.val / 256 * 8 + i.val / 128 * 4 + K.val % 256 / 64) / 8 = _; omega)
  unfold OM
  rw [eO, eS, heads_at]
  unfold CM headOf
  have eK : locK (chunkIdx (ownDev c K) (ix4 (0 : Fin 1) (⟨(place i K).val % 8, by omega⟩ : Fin 8) r d)) = ix4 (0 : Fin 1) (0 : Fin 1) r d := by
    funext a
    match a with
    | ⟨0, _⟩ => rfl
    | ⟨1, _⟩ => rfl
    | ⟨2, _⟩ => rfl
    | ⟨3, _⟩ => rfl
  have eN : (numK (chunkIdx (ownDev c K) (ix4 (0 : Fin 1) (⟨(place i K).val % 8, by omega⟩ : Fin 8) r d))).val = (ownDev c K).val * 8 + (place i K).val % 8 := rfl
  have eP : (place i K).val = K.val / 256 * 8 + i.val / 128 * 4 + K.val % 256 / 64 := rfl
  show k0_pay6 (F := Ideal) (fun y => S ((rSrc (numK (chunkIdx (ownDev c K) _))).emb y)) (locK (chunkIdx (ownDev c K) _)) = _
  rw [eK, head_at]
  refine congrArg S (funext fun a => Fin.ext ?_)
  match a with
  | ⟨0, _⟩ =>
    show (numK _).val % 8 / 4 + 1 * 0 = i.val / 128
    rw [eN]; omega
  | ⟨1, _⟩ => show 0 + 1 * r.val = r.val; omega
  | ⟨2, _⟩ =>
    show 4 * ((numK _).val / 8) + (numK _).val % 4 + 1 * 0 = ((ownDev c K).val * 256 + K.val % 256) / 64
    rw [eN]; omega
  | ⟨3, _⟩ => show 0 + 1 * d.val = d.val; omega

section
variable (m : (ℓ : Loc nD τ sig) → Buf (Elt Ideal) ℓ) (x : gX.Idx → EReal) (wq : gQ.Idx → EReal) (k v : gK.Idx → EReal) (wo : gO.Idx → EReal)

/-- The devices' operands are blocks of the whole arrays. -/
structure Held : Prop where
  hx : ∀ c : Dev nD, xG (F := Ideal) m c = Layout.block ⟨3, ![2, 128, 512]⟩ gX 1 8 c x
  hwq : ∀ c : Dev nD, wqG (F := Ideal) m c = Layout.block ⟨2, ![512, 256]⟩ gQ 1 8 c wq
  hk : ∀ c : Dev nD, kG (F := Ideal) m c = k
  hv : ∀ c : Dev nD, vG (F := Ideal) m c = v
  hwo : ∀ c : Dev nD, woG (F := Ideal) m c = Layout.block ⟨2, ![256, 512]⟩ gO 0 8 c wo

variable {m x wq k v wo} (H : Held m x wq k v wo)
include H

theorem x_read (c : Dev nD) (i : Fin 256) (z : Fin 512) : XB (F := Ideal) (xG m c) (ix2 i z) = x (ix3 (bat i) (grow c (row i)) z) := by
  have e := rows_at (xG (F := Ideal) m c) (bat i) (row i) z
  rw [flat_eq] at e
  refine e.trans ((congrFun (H.hx c) _).trans (congrArg x (funext fun a => ?_)))
  match a with
  | ⟨0, _⟩ => rfl
  | ⟨1, _⟩ => rfl
  | ⟨2, _⟩ => rfl

theorem wq_read (c : Dev nD) (z : Fin 512) (K : Fin 2048) : WQ (F := Ideal) m c (ix2 z K) = wq (ix2 z (gcol c K)) := by
  have e := wq_at (wqG (F := Ideal) m (ownDev c K)) z ⟨K.val % 256, by omega⟩
  refine Eq.trans ?_ (e.trans ((congrFun (H.hwq _) _).trans (congrArg wq (funext fun a => ?_))))
  · refine congrArg (k0_pay293 (F := Ideal) (wqG m (ownDev c K))) (funext fun a => ?_)
    match a with
    | ⟨0, _⟩ => rfl
    | ⟨1, _⟩ => rfl
  · match a with
    | ⟨0, _⟩ => rfl
    | ⟨1, _⟩ => rfl

theorem wo_read (c : Dev nD) (K : Fin 2048) (n : Fin 512) : WO (F := Ideal) m c (ix2 K n) = wo (ix2 (gcol c K) n) := by
  have e := wo_at (woG (F := Ideal) m (ownDev c K)) ⟨K.val % 256, by omega⟩ n
  refine Eq.trans ?_ (e.trans ((congrFun (H.hwo _) _).trans (congrArg wo (funext fun a => ?_))))
  · refine congrArg (k0_pay294 (F := Ideal) (woG m (ownDev c K))) (funext fun a => ?_)
    match a with
    | ⟨0, _⟩ => rfl
    | ⟨1, _⟩ => rfl
  · match a with
    | ⟨0, _⟩ => rfl
    | ⟨1, _⟩ => rfl

theorem ctxD_eq (c : Dev nD) (i : Fin 256) (K : Fin 2048) :
    ctxD m c i K = gctx x wq k v (bat i) (grow c (row i)) (row i) (gcol c K) := by
  unfold ctxD ctx gctx
  simp only [x_read H, wq_read H, gcol_headCol, H.hk, H.hv, heads_read, within_gcol]

/-- What device `c` accumulates, over the columns of the whole arrays. -/
theorem acc_whole (c : Dev nD) (b : Fin 2) (r : Fin 128) (n : Fin 512) :
    AC3 (F := Ideal) m c (ix2 (flat b r) n) = ∑ K : Fin 2048, gctx x wq k v b (grow c r) r K * wo (ix2 K n) := by
  have e1 : bat (flat b r) = b := Fin.ext (by unfold flat bat; dsimp only; omega)
  have e2 : row (flat b r) = r := Fin.ext (by unfold flat row; dsimp only; omega)
  rw [acc_at]
  refine (sum_congr rfl fun K _ => ?_).trans (sum_gcol c fun K => gctx x wq k v b (grow c r) r K * wo (ix2 K n))
  rw [ctxD_eq H, wo_read H, e1, e2]

/-- The result of device `c`: zero where the device takes no part, and otherwise the sum. -/
theorem out_whole (c : Dev nD) (b : Fin 2) (r : Fin 128) (n : Fin 512) :
    OUT (F := Ideal) m c (ix3 b r n) = if c.val % 2 = 0 then ∑ K : Fin 2048, gctx x wq k v b (grow c r) r K * wo (ix2 K n) else 0 := by
  have ee : ev c ↔ c.val % 2 = 0 := by unfold ev; clear H; revert c; decide
  unfold OUT
  by_cases h : c.val % 2 = 0
  · rw [if_pos (ee.mpr h), if_pos h, res_at, acc_whole H]
  · rw [if_neg (mt ee.mp h), if_neg h, zero_at]

end

end Cert.Wk

end
-- ==== Proof.Masked.lean ====
/-
# Soft maxima over a block of the keys

Where a score is the bottom its exponential is zero, so a soft maximum over 128 keys of which a block of 64 have scores is the soft
maximum over the block. The scores of the block are real numbers, so their maximum is real and the sum of exponentials is positive.
-/
module

public import proofs.«01_k».proof.Proof.Soft

@[expose] public section

noncomputable section

namespace Cert.Wk

open Idealize.ShloMosaic
open Finset

/-- An extended real that is a real. -/
def Rl (e : EReal) : Prop := ∃ r : ℝ, e = (r : EReal)

theorem Rl.mul {a b : EReal} (ha : Rl a) (hb : Rl b) : Rl (a * b) := by
  obtain ⟨x, rfl⟩ := ha
  obtain ⟨y, rfl⟩ := hb
  exact ⟨x * y, (EReal.coe_mul x y).symm⟩

theorem Rl.sum {ι : Type} (s : Finset ι) {f : ι → EReal} (h : ∀ i, Rl (f i)) : Rl (∑ i ∈ s, f i) := by
  classical
  induction s using Finset.induction_on with
  | empty => exact ⟨0, by simp⟩
  | insert a s ha ih =>
    obtain ⟨x, hx⟩ := h a
    obtain ⟨y, hy⟩ := ih
    exact ⟨x + y, by rw [sum_insert ha, hx, hy, EReal.coe_add]⟩

theorem bits_scale : Rl (Ideal.ofBits .f32 0x3E000000#32) :=
  ⟨1 / 8, by simp [Ideal.ofBits, Ideal.ieee, -EReal.coe_mul]; norm_num⟩

theorem top_eq (s : Fin 64 → EReal) : top s = univ.fold max ⊥ s := by
  unfold top
  rw [show Ideal.ofBits .f32 0xFF800000#32 = ⊥ by simp [Ideal.ofBits, Ideal.ieee]]

theorem top_real (s : Fin 64 → EReal) (h : ∀ i, Rl (s i)) : Rl (top s) := by
  rw [top_eq]
  have h1 : univ.fold max ⊥ s < ⊤ := (fold_max_lt _).mpr ⟨bot_lt_top, fun i _ => by obtain ⟨r, e⟩ := h i; rw [e]; exact EReal.coe_lt_top r⟩
  have h2 : s 0 ≤ univ.fold max ⊥ s := (le_fold_max _).mpr (.inr ⟨0, mem_univ 0, le_rfl⟩)
  have h3 : ⊥ < s 0 := by obtain ⟨r, e⟩ := h 0; rw [e]; exact EReal.bot_lt_coe r
  exact ⟨_, (EReal.coe_toReal h1.ne (h3.trans_le h2).ne').symm⟩

/-- The sum of the exponentials of real scores is not zero. -/
theorem mass_ne (s : Fin 64 → EReal) (h : ∀ i, Rl (s i)) : ∑ i, Ideal.exp (s i - top s) ≠ 0 := by
  obtain ⟨t, ht⟩ := top_real s h
  have hp : ∀ i, 0 < Ideal.exp (s i - top s) := by
    intro i
    obtain ⟨r, e⟩ := h i
    rw [e, ht, ← EReal.coe_sub, Ideal.exp_coe]
    exact EReal.coe_pos.mpr (Real.exp_pos _)
  exact ((hp 0).trans_le (single_le_sum (fun i _ => (hp i).le) (mem_univ 0))).ne'

/-- A soft maximum over 128 keys, the block `f` of which has scores. -/
theorem soft_block (s v : Fin 128 → EReal) (f : Fin 64 → Fin 128) (hf : Function.Injective f) (p : Fin 128 → Prop) [DecidablePred p]
    (hp : ∀ j, p j ↔ ∃ i, f i = j) (hs : ∀ i, Rl (s (f i))) (t : Fin 128 → EReal) (ht : ∀ j, t j = if p j then s j else ⊥) :
    ∑ j, v j * Ideal.div (Ideal.exp (t j - univ.fold max ⊥ t)) (∑ j, Ideal.exp (t j - univ.fold max ⊥ t))
      = ∑ i, wt (fun i => s (f i)) i * v (f i) := by
  have hin : ∀ i, t (f i) = s (f i) := fun i => (ht _).trans (if_pos ((hp _).mpr ⟨i, rfl⟩))
  have hout : ∀ j, j ∉ Set.range f → t j = ⊥ := fun j hj => (ht j).trans (if_neg fun h => hj ((hp j).mp h))
  have hM : univ.fold max ⊥ t = top fun i => s (f i) := by
    rw [top_eq]
    refine le_antisymm ((fold_max_le _).mpr ⟨bot_le, fun j _ => ?_⟩) ((fold_max_le _).mpr ⟨bot_le, fun i _ => ?_⟩)
    · by_cases hj : j ∈ Set.range f
      · obtain ⟨i, rfl⟩ := hj
        rw [hin]
        exact (le_fold_max _).mpr (.inr ⟨i, mem_univ i, le_rfl⟩)
      · rw [hout j hj]; exact bot_le
    · exact (le_fold_max _).mpr (.inr ⟨f i, mem_univ _, (hin i).ge⟩)
  have hz : ∀ j, j ∉ Set.range f → Ideal.exp (t j - univ.fold max ⊥ t) = 0 := fun j hj => by
    rw [hout j hj, EReal.bot_sub, Ideal.exp_bot]
  have hZ : ∑ j, Ideal.exp (t j - univ.fold max ⊥ t) = ∑ i, Ideal.exp (s (f i) - top fun i => s (f i)) :=
    (Fintype.sum_of_injective f hf _ _ hz fun i => by rw [hin, hM]).symm
  have hne := mass_ne (fun i => s (f i)) hs
  refine (Fintype.sum_of_injective f hf _ _ (fun j hj => ?_) fun i => ?_).symm
  · rw [hz j hj, hZ, Ideal.div, if_neg hne, zero_mul, mul_zero]
  · rw [hZ, hin, hM, mul_comm]
    rfl

end Cert.Wk

end
-- ==== Proof.Mask.lean ====
/-
# The reference's mask

The reference divides each row and each key by 64, rounding down, and lets a row see a key where the two quotients agree, or agree
modulo 4. The second includes the first.
-/
module

public import proofs.«01_k».proof.Proof.Gen.ReferenceIdeal.Run
public import Idealize.ShloMosaic.Lib.Pointwise

@[expose] public section

noncomputable section

namespace Cert.Rf

open Cert.ReferenceIdeal Cert.ReferenceIdeal.Gen
open Idealize.ShloMosaic Idealize.ShloMosaic.TcCoe
open Finset

/-- Division rounding down, as the reference spells it. -/
def quo {s : Shape} (h : S_.BroadcastsInDim s (![] : Fin 0 → Fin s.rank)) (v : IVec s 32) (k : IVec S_ 32) : IVec s 32 :=
  select (andi (cmpi .ne (signi v) (broadcastInDim s ![] h (signi k))) (cmpi .ne (Host.remsi v (broadcastInDim s ![] h k)) (broadcastInDim s ![] h (constantI S_ 32 0#32))))
    (subi (Host.divsi v (broadcastInDim s ![] h k)) (broadcastInDim s ![] h (constantI S_ 32 1#32))) (Host.divsi v (broadcastInDim s ![] h k))

/-- The divisor of the reference's remainder. -/
def dvs (k : IVec S_ 32) : IVec S_ 32 := select (cmpi .eq k (constantI S_ 32 0#32)) (constantI S_ 32 1#32) k

/-- The remainder of the divisor's sign, as the reference spells it. -/
def rem {s : Shape} (h : S_.BroadcastsInDim s (![] : Fin 0 → Fin s.rank)) (v : IVec s 32) (k : IVec S_ 32) : IVec s 32 :=
  select (andi (cmpi .ne (cmpi .slt (Host.remsi v (broadcastInDim s ![] h (dvs k))) (broadcastInDim s ![] h (constantI S_ 32 0#32))) (broadcastInDim s ![] h (cmpi .slt (dvs k) (constantI S_ 32 0#32))))
      (cmpi .ne (Host.remsi v (broadcastInDim s ![] h (dvs k))) (broadcastInDim s ![] h (constantI S_ 32 0#32))))
    (addi (Host.remsi v (broadcastInDim s ![] h (dvs k))) (broadcastInDim s ![] h (dvs k))) (Host.remsi v (broadcastInDim s ![] h (dvs k)))

/-- The block of each row, as a column. -/
def rowB : IVec S1024x1 32 := broadcastInDim S1024x1 ![0] bcast_S1024_S1024x1_0 (quo bcast_S_S1024 (iotaInDim S1024 32 0) (id (constantI S_ 32 64#32)))
/-- The block of each key, as a row. -/
def keyB : IVec S1x128 32 := broadcastInDim S1x128 ![1] bcast_S128_S1x128_1 (quo bcast_S_S128 (iotaInDim S128 32 0) (id (constantI S_ 32 64#32)))

/-- The mask. -/
def MASK : IVec S1024x128 1 :=
  ori (cmpi .eq (broadcastInDim S1024x128 ![0, 1] bcast_S1024x1_S1024x128_0_1 rowB) (broadcastInDim S1024x128 ![0, 1] bcast_S1x128_S1024x128_0_1 keyB))
    (cmpi .eq (broadcastInDim S1024x128 ![0, 1] bcast_S1x128_S1024x128_0_1 (rem bcast_S_S1x128 keyB (id (constantI S_ 32 4#32))))
      (broadcastInDim S1024x128 ![0, 1] bcast_S1024x1_S1024x128_0_1 (rem bcast_S_S1024x1 rowB (id (constantI S_ 32 4#32)))))

theorem rowB_at (R : Fin 1024) : rowB (ix2 R 0) = BitVec.ofNat 32 (R.val / 64) := by
  pointwise [rowB, quo]
  revert R
  decide +kernel

theorem keyB_at (j : Fin 128) : keyB (ix2 0 j) = BitVec.ofNat 32 (j.val / 64) := by
  pointwise [keyB, quo]
  revert j
  decide +kernel

theorem mask_at (R : Fin 1024) (j : Fin 128) : MASK (ix2 R j) = if R.val / 64 % 4 = j.val / 64 then 1#1 else 0#1 := by
  pointwise [MASK, rem, dvs]
  rw [rowB_at, keyB_at]
  have ha : R.val / 64 < 16 := by omega
  have hb : j.val / 64 < 2 := by omega
  generalize R.val / 64 = a at ha ⊢
  generalize j.val / 64 = b at hb ⊢
  revert a b
  decide +kernel

end Cert.Rf

end
-- ==== Proof.Reference.lean ====
/-
# The reference at an index

The reference's value as a function of its mask and its five arrays, read at an index over the idealized numbers.
-/
module

public import proofs.«01_k».proof.Proof.Mask

@[expose] public section

noncomputable section

namespace Cert.Rf

open Cert.ReferenceIdeal Cert.ReferenceIdeal.Gen
open Idealize.ShloMosaic Idealize.ShloMosaic.TcCoe
open Finset

section
variable {F : FTy → Type} [FloatOps F] (M : IVec S1024x128 1) (x : FVec F S2x1024x512 .f32) (wq : FVec F S512x2048 .f32)
  (k v : FVec F S2x128x32x64 .f32) (wo : FVec F S2048x512 .f32)

/-- The scaled scores. -/
def scores : FVec F S2x32x1024x128 .f32 :=
  mulf (Host.dotGeneral dot_S2x1024x32x64_S2x128x32x64_S2x32x1024x128_3_3_1_1_02_02 none
      (shapeCast _ (Host.dotGeneral dot_S2x1024x512_S512x2048_S2x1024x2048_2_0_01_1_n_n none x wq) shapeCasts_S2x1024x2048_S2x1024x32x64) k)
    (broadcastInDim S2x32x1024x128 ![] bcast_S_S2x32x1024x128 (constant S_ .f32 0x3E000000#32))

/-- The scores where the mask allows, and the bottom elsewhere. -/
def masked (s : FVec F S2x32x1024x128 .f32) : FVec F S2x32x1024x128 .f32 :=
  select (broadcastInDim S2x32x1024x128 ![0, 1, 2, 3] bcast_S1x1x1024x128_S2x32x1024x128_0_1_2_3 (broadcastInDim S1x1x1024x128 ![2, 3] bcast_S1024x128_S1x1x1024x128_2_3 M)) s
    (broadcastInDim S2x32x1024x128 ![] bcast_S_S2x32x1024x128 (id (constant S_ .f32 0xFF800000#32)))

/-- The exponentials of the scores less their maximum. -/
def expo (s : FVec F S2x32x1024x128 .f32) : FVec F S2x32x1024x128 .f32 :=
  Host.exp (subf s (broadcastInDim S2x32x1024x128 ![0, 1, 2, 3] bcast_S2x32x1024x1_S2x32x1024x128_0_1_2_3 (broadcastInDim S2x32x1024x1 ![0, 1, 2] bcast_S2x32x1024_S2x32x1024x1_0_1_2
    (Host.reduce FloatOps.maximumf s (constant S_ .f32 0xFF800000#32) reducesTo_S2x32x1024x128_S2x32x1024_d3 h_S_))))

/-- The rows that see a key, as a column. -/
def seen : IVec S1x1x1024x1 1 := broadcastInDim S1x1x1024x1 ![2] bcast_S1024_S1x1x1024x1_2 (Host.reduce IntOp.ori M (constantI S_ 1 0#1) reducesTo_S1024x128_S1024_d1 h_S_)

/-- The weights. -/
def weights (e : FVec F S2x32x1024x128 .f32) : FVec F S2x32x1024x128 .f32 :=
  select (broadcastInDim S2x32x1024x128 ![0, 1, 2, 3] bcast_S1x1x1024x1_S2x32x1024x128_0_1_2_3 (seen M))
    (Host.divf e (broadcastInDim S2x32x1024x128 ![0, 1, 2, 3] bcast_S2x32x1024x1_S2x32x1024x128_0_1_2_3
      (select (broadcastInDim S2x32x1024x1 ![0, 1, 2, 3] bcast_S1x1x1024x1_S2x32x1024x1_0_1_2_3 (seen M))
        (broadcastInDim S2x32x1024x1 ![0, 1, 2] bcast_S2x32x1024_S2x32x1024x1_0_1_2 (Host.reduceAdd e (constant S_ .f32 0x00000000#32) reducesTo_S2x32x1024x128_S2x32x1024_d3 h_S_))
        (broadcastInDim S2x32x1024x1 ![] bcast_S_S2x32x1024x1 (id (constant S_ .f32 0x3F800000#32))))))
    (broadcastInDim S2x32x1024x128 ![] bcast_S_S2x32x1024x128 (id (constant S_ .f32 0x00000000#32)))

/-- The attended values, projected. -/
def project (w : FVec F S2x32x1024x128 .f32) : FVec F S2x1024x512 .f32 :=
  Host.dotGeneral dot_S2x1024x2048_S2048x512_S2x1024x512_2_0_01_1_n_n none
    (shapeCast _ (transpose S2x1024x32x64 [0, 3, 1, 2] (Host.dotGeneral dot_S2x128x32x64_S2x32x1024x128_S2x32x64x1024_1_3_3_2_02_01 none v w)
      transposes_S2x32x64x1024_S2x1024x32x64_0_3_1_2) shapeCasts_S2x1024x32x64_S2x1024x2048) wo

end

/-- The bottom of the extended reals, as the program writes it. -/
theorem bits_bot : Ideal.ofBits .f32 0xFF800000#32 = ⊥ := by simp [Ideal.ofBits, Ideal.ieee]

/-- The reference's result is these steps. -/
theorem res_eq (m : (ℓ : Loc nD τ sig) → Buf (Elt Ideal) ℓ) (c : Dev nD) :
    Value.res_main_v39 m c = project (F := Ideal) (m ((c.tc : Thread nD τ).loc main_arg3)) (m ((c.tc : Thread nD τ).loc main_arg4))
      (weights MASK (expo (masked MASK (scores (m ((c.tc : Thread nD τ).loc main_arg0)) (m ((c.tc : Thread nD τ).loc main_arg1)) (m ((c.tc : Thread nD τ).loc main_arg2)))))) := rfl

variable (M : IVec S1024x128 1) (x : FVec Ideal S2x1024x512 .f32) (wq : FVec Ideal S512x2048 .f32)
  (k v : FVec Ideal S2x128x32x64 .f32) (wo : FVec Ideal S2048x512 .f32) (s : FVec Ideal S2x32x1024x128 .f32)

theorem scores_at (b : Fin 2) (h : Fin 32) (R : Fin 1024) (j : Fin 128) : scores x wq k (ix4 b h R j)
    = (∑ y : Fin 64, (∑ z : Fin 512, x (ix3 b R z) * wq (ix2 z ⟨h.val * 64 + y.val, by omega⟩)) * k (ix4 b j h y)) * Ideal.ofBits .f32 0x3E000000#32 := by
  pointwise [scores]

theorem masked_at (b : Fin 2) (h : Fin 32) (R : Fin 1024) (j : Fin 128) : masked M s (ix4 b h R j)
    = if M (ix2 R j) = 1#1 then s (ix4 b h R j) else ⊥ := by
  pointwise [masked]
  exact if_congr Iff.rfl rfl bits_bot

theorem expo_at (b : Fin 2) (h : Fin 32) (R : Fin 1024) (j : Fin 128) : expo s (ix4 b h R j)
    = Ideal.exp (s (ix4 b h R j) - univ.fold max ⊥ (fun j : Fin 128 => s (ix4 b h R j))) := by
  pointwise [expo]
  rw [bits_bot]

theorem seen_at (R : Fin 1024) : seen M (ix4 0 0 R 0) = univ.fold IntOp.ori 0#1 (fun j : Fin 128 => M (ix2 R j)) := by
  pointwise [seen]

theorem weights_at (b : Fin 2) (h : Fin 32) (R : Fin 1024) (j : Fin 128) : weights M s (ix4 b h R j)
    = if seen M (ix4 0 0 R 0) = 1#1 then Ideal.div (s (ix4 b h R j)) (∑ j : Fin 128, s (ix4 b h R j)) else 0 := by
  pointwise [weights]
  by_cases h : seen M (ix4 0 0 R 0) = 1#1
  · rw [h, if_pos rfl]; rfl
  · rw [if_neg h]; exact (if_neg h).trans Ideal.ofBits_zero_f32

theorem project_at (b : Fin 2) (R : Fin 1024) (n : Fin 512) : project v wo s (ix3 b R n)
    = ∑ K : Fin 2048, (∑ j : Fin 128, v (ix4 b j ⟨K.val / 64, by omega⟩ ⟨K.val % 64, by omega⟩) * s (ix4 b ⟨K.val / 64, by omega⟩ R j)) * wo (ix2 K n) := by
  pointwise [project]

end Cert.Rf

end
-- ==== Proof.Agree.lean ====
/-
# The kernel and the reference agree

Row `R = 128 c + r` sees the keys of block `R / 64 % 4`. For an even device that is the block of its row `r`, and the reference's soft
maximum over all keys is the kernel's over the block. For an odd device it is no block, and the reference gives zero.
-/
module

public import proofs.«01_k».proof.Proof.Gather
public import proofs.«01_k».proof.Proof.Masked
public import proofs.«01_k».proof.Proof.Reference

@[expose] public section

noncomputable section

namespace Cert.Rf

open Idealize.ShloMosaic
open Finset
open Cert.Wk (Rl gX gQ gK gO gctx grow blk headCol headNo within sc wt attS)

theorem ori_one (a b : BitVec 1) : IntOp.ori a b = 1#1 ↔ a = 1#1 ∨ b = 1#1 := by revert a b; decide

theorem fold_ori {ι : Type} (s : Finset ι) (f : ι → BitVec 1) : s.fold IntOp.ori 0#1 f = 1#1 ↔ ∃ i ∈ s, f i = 1#1 := by
  classical
  induction s using Finset.induction_on with
  | empty => simp
  | insert a s ha ih => rw [fold_insert ha, ori_one, ih]; simp

variable (x : gX.Idx → EReal) (wq : gQ.Idx → EReal) (k v : gK.Idx → EReal) (wo : gO.Idx → EReal)

/-- The reference's value. -/
def value : gX.Idx → EReal :=
  project (F := Ideal) v wo (weights MASK (expo (masked MASK (scores x wq k))))

theorem blk_inj (r : Fin 128) : Function.Injective (blk r) := by
  intro i j h
  have e : r.val / 64 * 64 + i.val = r.val / 64 * 64 + j.val := congrArg Fin.val h
  exact Fin.ext (by omega)

theorem mask_one (R : Fin 1024) (j : Fin 128) : MASK (ix2 R j) = 1#1 ↔ R.val / 64 % 4 = j.val / 64 := by
  rw [mask_at]
  by_cases h : R.val / 64 % 4 = j.val / 64
  · simp [h]
  · simp [h]

theorem mask_blk (c : Dev Cert.KernelIdeal.nD) (hc : c.val % 2 = 0) (r j : Fin 128) : MASK (ix2 (grow c r) j) = 1#1 ↔ ∃ i, blk r i = j := by
  rw [mask_one]
  have e : (grow c r).val = c.val * 128 + r.val := rfl
  constructor
  · intro h
    exact ⟨⟨j.val % 64, by omega⟩, Fin.ext (show r.val / 64 * 64 + j.val % 64 = j.val by omega)⟩
  · rintro ⟨i, rfl⟩
    show (grow c r).val / 64 % 4 = (r.val / 64 * 64 + i.val) / 64
    omega

variable {x wq k} (hx : ∀ i, Rl (x i)) (hwq : ∀ i, Rl (wq i)) (hk : ∀ i, Rl (k i))

include hx hwq hk in
theorem scores_real (b : Fin 2) (h : Fin 32) (R : Fin 1024) (j : Fin 128) : Rl (scores (F := Ideal) x wq k (ix4 b h R j)) := by
  rw [scores_at]
  exact (Rl.sum _ fun y => (Rl.sum _ fun z => (hx _).mul (hwq _)).mul (hk _)).mul Cert.Wk.bits_scale

include hx hwq hk in
/-- On an even device's row the reference's attended value is the kernel's. -/
theorem attended_even (c : Dev Cert.KernelIdeal.nD) (hc : c.val % 2 = 0) (b : Fin 2) (r : Fin 128) (K : Fin 2048) :
    ∑ j : Fin 128, v (ix4 b j (headNo K) (within K)) * weights (F := Ideal) MASK (expo (masked MASK (scores x wq k))) (ix4 b (headNo K) (grow c r) j)
      = gctx x wq k v b (grow c r) r K := by
  have hseen : seen MASK (ix4 0 0 (grow c r) 0) = 1#1 := by
    rw [seen_at, fold_ori]
    exact ⟨blk r 0, mem_univ _, (mask_blk c hc r _).mpr ⟨0, rfl⟩⟩
  simp only [weights_at, hseen, if_true, expo_at]
  refine (Cert.Wk.soft_block (fun j => scores (F := Ideal) x wq k (ix4 b (headNo K) (grow c r) j)) (fun j => v (ix4 b j (headNo K) (within K))) (blk r) (blk_inj r)
    (fun j => MASK (ix2 (grow c r) j) = 1#1) (fun j => mask_blk c hc r j) (fun i => scores_real hx hwq hk _ _ _ _) _ (fun j => masked_at _ _ _ _ _ _)).trans ?_
  unfold gctx attS
  refine sum_congr rfl fun i _ => congrArg (· * _) (congrFun (congrArg wt (funext fun i => ?_)) i)
  exact scores_at x wq k b (headNo K) (grow c r) (blk r i)

/-- On an odd device's row the weights are zero. -/
theorem weights_odd (c : Dev Cert.KernelIdeal.nD) (hc : c.val % 2 ≠ 0) (s : Vec Ideal Cert.ReferenceIdeal.S2x32x1024x128 .f32) (b : Fin 2) (h : Fin 32) (r j : Fin 128) :
    weights (F := Ideal) MASK s (ix4 b h (grow c r) j) = 0 := by
  rw [weights_at, if_neg]
  rw [seen_at, fold_ori]
  rintro ⟨j, _, hj⟩
  have e : (grow c r).val = c.val * 128 + r.val := rfl
  have := (mask_one _ _).mp hj
  omega

include hx hwq hk in
/-- A device's result is its block of the reference's. -/
theorem value_at (c : Dev Cert.KernelIdeal.nD) (b : Fin 2) (r : Fin 128) (n : Fin 512) : value x wq k v wo (ix3 b (grow c r) n)
    = if c.val % 2 = 0 then ∑ K : Fin 2048, gctx x wq k v b (grow c r) r K * wo (ix2 K n) else 0 := by
  unfold value
  rw [project_at]
  by_cases hc : c.val % 2 = 0
  · rw [if_pos hc]
    exact sum_congr rfl fun K _ => congrArg (· * _) (attended_even v hx hwq hk c hc b r K)
  · rw [if_neg hc]
    refine sum_eq_zero fun K _ => ?_
    rw [sum_eq_zero fun j _ => by rw [weights_odd c hc, mul_zero], zero_mul]

end Cert.Rf

end
-- ==== Proof.Finite.lean ====
/-
# The precondition, read

The precondition holds where every activation, first-weight and key entry is a real number.
-/
module

public import proofs.«01_k».proof.Proof.Masked
public import proofs.«01_k».proof.Proof.Gen.Pre_finite_KernelIdeal
public import Idealize.ShloMosaic.Lib.ReduceAll
public import Idealize.ShloMosaic.Lib.Affine

@[expose] public section

noncomputable section

namespace Cert.Wk

open Cert.Pre_finite_KernelIdeal Cert.Pre_finite_KernelIdeal.Gen
open Idealize.ShloMosaic
open Finset

/-- An entry whose magnitude is below the top is a real number. -/
theorem real_of_abs (a : EReal) (h : (FloatOps.cmpf .olt (FloatOps.absf (F := Ideal) (φ := .f32) a) (Ideal.ofBits .f32 0x7F800000#32) : BitVec 1) = 1#1) : Rl a := by
  have ht : Ideal.ofBits .f32 0x7F800000#32 = ⊤ := by simp [Ideal.ofBits, Ideal.ieee]
  rw [ht] at h
  have h' : max a (-a) < ⊤ := by
    by_contra hn
    have e : (BitVec.ofBool (decide (max a (-a) < ⊤)) : BitVec 1) = 1#1 := h
    rw [decide_eq_false hn] at e
    exact absurd e (by decide)
  obtain ⟨h1, h2⟩ := max_lt_iff.mp h'
  refine ⟨_, (EReal.coe_toReal h1.ne fun e => ?_).symm⟩
  rw [e, EReal.neg_bot] at h2
  exact absurd h2 (lt_irrefl _)

theorem finite_read (x : FVec Ideal S2x128x512 .f32) (wq : FVec Ideal S512x256 .f32) (k v : FVec Ideal S2x128x32x64 .f32) (wo : FVec Ideal S256x512 .f32)
    (h : Cert.Pre_finite_KernelIdeal.fn (F := Ideal) x wq k v wo = fun _ => 1#1) : (∀ i, Rl (x i)) ∧ (∀ i, Rl (wq i)) ∧ ∀ i, Rl (k i) := by
  haveI : Subsingleton S_.Idx := ⟨fun a b => funext fun i => i.elim0⟩
  obtain ⟨h1, h2⟩ := IntOp.andi_eq_one.mp (congrFun h ix0)
  obtain ⟨h3, h4⟩ := IntOp.andi_eq_one.mp h1
  exact ⟨fun i => real_of_abs _ (Host.reduce_andi_all _ _ _ _ _ h3 i), fun i => real_of_abs _ (Host.reduce_andi_all _ _ _ _ _ h4 i),
    fun i => real_of_abs _ (Host.reduce_andi_all _ _ _ _ _ h2 i)⟩

end Cert.Wk

end
-- ==== Proof.Final.lean ====
/-
# The value claim

The devices' results are the blocks of the reference's result.
-/
module

public import proofs.«01_k».proof.Defs
public import proofs.«01_k».proof.Proof.Ends
public import proofs.«01_k».proof.Proof.Agree
public import proofs.«01_k».proof.Proof.Finite

@[expose] public section

noncomputable section

namespace Cert.Vl

open Idealize.ShloMosaic Idealize.SL.Sem Idealize.ShloMosaic.TcCoe
open Cert.Wk (Rl gX gQ gK gO grow)

/-- An array all of whose blocks along dimension 1 are real is real: the activations. -/
theorem real_rows (x : gX.Idx → EReal) (h : ∀ (c : Fin 8) i, Rl ((Layout.block ⟨3, ![2, 128, 512]⟩ gX 1 8 c x) i)) (i : gX.Idx) : Rl (x i) := by
  have h1 : (i 1).val < 1024 := (i 1).isLt
  have e := h ⟨(i 1).val / 128, by omega⟩ (ix3 (i 0) (⟨(i 1).val % 128, Nat.mod_lt _ (by decide)⟩ : Fin 128) (i 2))
  refine (congrArg (fun j => Rl (x j)) (funext fun a => ?_)).mp e
  match a with
  | ⟨0, _⟩ => rfl
  | ⟨1, _⟩ => exact Fin.ext (show (i 1).val / 128 * 128 + (i 1).val % 128 = (i 1).val by omega)
  | ⟨2, _⟩ => rfl

/-- The same of the first weight. -/
theorem real_cols (w : gQ.Idx → EReal) (h : ∀ (c : Fin 8) i, Rl ((Layout.block ⟨2, ![512, 256]⟩ gQ 1 8 c w) i)) (i : gQ.Idx) : Rl (w i) := by
  have h1 : (i 1).val < 2048 := (i 1).isLt
  have e := h ⟨(i 1).val / 256, by omega⟩ (ix2 (i 0) (⟨(i 1).val % 256, Nat.mod_lt _ (by decide)⟩ : Fin 256))
  refine (congrArg (fun j => Rl (w j)) (funext fun a => ?_)).mp e
  match a with
  | ⟨0, _⟩ => rfl
  | ⟨1, _⟩ => exact Fin.ext (show (i 1).val / 256 * 256 + (i 1).val % 256 = (i 1).val by omega)

/-- The reference's launch contents, and its argument arrays. -/
abbrev Mem' := (ℓ : Loc Cert.ReferenceIdeal.nD Cert.ReferenceIdeal.τ Cert.ReferenceIdeal.sig) → Buf (Elt Ideal) ℓ
abbrev a0 (m' : Mem') : gX.Idx → EReal := m' (((0 : Dev Cert.ReferenceIdeal.nD).tc : Thread Cert.ReferenceIdeal.nD Cert.ReferenceIdeal.τ).loc Cert.ReferenceIdeal.main_arg0)
abbrev a1 (m' : Mem') : gQ.Idx → EReal := m' (((0 : Dev Cert.ReferenceIdeal.nD).tc : Thread Cert.ReferenceIdeal.nD Cert.ReferenceIdeal.τ).loc Cert.ReferenceIdeal.main_arg1)
abbrev a2 (m' : Mem') : gK.Idx → EReal := m' (((0 : Dev Cert.ReferenceIdeal.nD).tc : Thread Cert.ReferenceIdeal.nD Cert.ReferenceIdeal.τ).loc Cert.ReferenceIdeal.main_arg2)
abbrev a3 (m' : Mem') : gK.Idx → EReal := m' (((0 : Dev Cert.ReferenceIdeal.nD).tc : Thread Cert.ReferenceIdeal.nD Cert.ReferenceIdeal.τ).loc Cert.ReferenceIdeal.main_arg3)
abbrev a4 (m' : Mem') : gO.Idx → EReal := m' (((0 : Dev Cert.ReferenceIdeal.nD).tc : Thread Cert.ReferenceIdeal.nD Cert.ReferenceIdeal.τ).loc Cert.ReferenceIdeal.main_arg4)

theorem algebraic : Cert.algebraic_KernelIdeal_ReferenceIdeal_pre_finite_KernelIdeal := by
  intro m g m' g' hpre hin
  have hfin := fun c => Cert.Wk.finite_read _ _ _ _ _ (hpre c)
  have hx := real_rows (a0 m') fun c i => by rw [← (hin c).1]; exact (hfin c).1 i
  have hwq := real_cols (a1 m') fun c i => by rw [← (hin c).2.1]; exact (hfin c).2.1 i
  have hk : ∀ i, Rl (a2 m' i) := fun i => (congrArg Rl (congrFun (hin 0).2.2.1 i)).mp ((hfin 0).2.2 i)
  have H : Cert.Wk.Held m (a0 m') (a1 m') (a2 m') (a3 m') (a4 m') :=
    ⟨fun c => (Cert.Wk.xG_eq m c).trans (hin c).1, fun c => (Cert.Wk.wqG_eq m c).trans (hin c).2.1, fun c => (Cert.Wk.kG_eq m c).trans (hin c).2.2.1,
      fun c => (Cert.Wk.vG_eq m c).trans (hin c).2.2.2.1, fun c => (Cert.Wk.woG_eq m c).trans (hin c).2.2.2.2⟩
  refine ⟨Cert.ReferenceIdeal.Value.res_main_v39 m' 0, ?_, ?_⟩
  · refine (θ_run Cert.KernelIdeal.defs _ _).mono (fun r h c => ?_) (Cert.Wk.run_main m g)
    refine ⟨(Cert.Wk.QC_out m g h.1 c).trans (funext fun i => ?_), Cert.Wk.QC_arg0 m g h.1 c, Cert.Wk.QC_arg1 m g h.1 c, Cert.Wk.QC_arg2 m g h.1 c,
      Cert.Wk.QC_arg3 m g h.1 c, Cert.Wk.QC_arg4 m g h.1 c⟩
    rw [eq_ix3 i]
    refine (Cert.Wk.out_whole H c (i 0) (i 1) (i 2)).trans ((Cert.Rf.value_at (a3 m') (a4 m') hx hwq hk c (i 0) (i 1) (i 2)).symm.trans ?_)
    refine (congrFun (Cert.Rf.res_eq m' 0).symm _).trans (congrArg (Cert.ReferenceIdeal.Value.res_main_v39 m' 0) (funext fun a => ?_))
    match a with
    | ⟨0, _⟩ => rfl
    | ⟨1, _⟩ => rfl
    | ⟨2, _⟩ => rfl
  · exact (θ_run Cert.ReferenceIdeal.defs _ _).mono (fun r h => h 0) (Cert.ReferenceIdeal.Value.run (F := Ideal) m' g')

end Cert.Vl

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Ends
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two prints of the kernel have one table of bodies: they were printed from the same module, no operation replaced. -/
theorem defs₀_eq {F : FTy → Type} [FloatOps F] [Cert.Kernel.Facts] [Cert.KernelIdeal.Facts] :
    Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq {F : FTy → Type} [FloatOps F] [Cert.Kernel.Facts] [Cert.KernelIdeal.Facts] :
    Cert.Kernel.defs (F := F) = Cert.KernelIdeal.defs (F := F) :=
  congrArg (Pipeline.defs Cert.KernelIdeal.pcfgs) defs₀_eq

/-- The kernel's frame at the bits: the run is written once, over any floats. -/
theorem frame_kernel : Cert.quiescent_Kernel := fun m ρ _ => by
  rw [defs_eq (F := Bits)]
  exact Wk.frame (F := Bits) m ρ

/-- The kernel's frame at the ideal floats, from the same run. -/
theorem frame_ideal : Cert.quiescent_KernelIdeal := fun m ρ _ => Wk.frame (F := Ideal) m ρ

/-- The reference's frame: its run, which writes no argument; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_reference, fun m ρ _ => frame_reference m ρ trivial, trivial, Cert.Vl.algebraic⟩

end Cert.Proof

end
